-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_qk [hPre_finite_qk : Cert.Pre_finite_qk.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_qk.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).1 = (fun _ => 1#1)
    ∧ (Cert.Pre_finite_qk.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_gains [hPre_finite_gains : Cert.Pre_finite_gains.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_gains.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13))).1 = (fun _ => 1#1)
    ∧ (Cert.Pre_finite_gains.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13))).2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_gains [hPre_finite_gains : Cert.Pre_finite_gains.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_gains.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13))).1 = (fun _ => 1#1)
    ∧ (Cert.Pre_finite_gains.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite_qk [hKernel6Ideal : Cert.Kernel6Ideal.Facts] [hPre_finite_qk : Cert.Pre_finite_qk.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_qk m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13))
      ∧ r.2.sem = fun _ => 0)

def quiescent_Kernel7Ideal_pre_finite_gains [hKernel7Ideal : Cert.Kernel7Ideal.Facts] [hPre_finite_gains : Cert.Pre_finite_gains.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_gains m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13))
      ∧ r.2.sem = fun _ => 0)

def quiescent_Reference7Ideal_pre_finite_gains [hReference7Ideal : Cert.Reference7Ideal.Facts] [hPre_finite_gains : Cert.Pre_finite_gains.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_gains m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v47_0)) (v1 : (c : Dev Cert.Kernel3Ideal.nD) → Buf (Elt Ideal) ((c.tc : Thread Cert.Kernel3Ideal.nD Cert.Kernel3Ideal.τ).loc Cert.Kernel3Ideal.main_v47_1)) (v2 : (c : Dev Cert.Kernel3Ideal.nD) → Buf (Elt Ideal) ((c.tc : Thread Cert.Kernel3Ideal.nD Cert.Kernel3Ideal.τ).loc Cert.Kernel3Ideal.main_v47_2)) (v3 : (c : Dev Cert.Kernel3Ideal.nD) → Buf (Elt Ideal) ((c.tc : Thread Cert.Kernel3Ideal.nD Cert.Kernel3Ideal.τ).loc Cert.Kernel3Ideal.main_v47_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v47_0) = v0 c
          ∧ r.2.mem ((c.tc : Thread Cert.Kernel3Ideal.nD Cert.Kernel3Ideal.τ).loc Cert.Kernel3Ideal.main_v47_1) = v1 c
          ∧ r.2.mem ((c.tc : Thread Cert.Kernel3Ideal.nD Cert.Kernel3Ideal.τ).loc Cert.Kernel3Ideal.main_v47_2) = v2 c
          ∧ r.2.mem ((c.tc : Thread Cert.Kernel3Ideal.nD Cert.Kernel3Ideal.τ).loc Cert.Kernel3Ideal.main_v47_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v134) = v0 c
          ∧ r.2.mem ((c.tc : Thread Cert.Reference3Ideal.nD Cert.Reference3Ideal.τ).loc Cert.Reference3Ideal.main_v136) = v1 c
          ∧ r.2.mem ((c.tc : Thread Cert.Reference3Ideal.nD Cert.Reference3Ideal.τ).loc Cert.Reference3Ideal.main_v137) = v2 c
          ∧ r.2.mem ((c.tc : Thread Cert.Reference3Ideal.nD Cert.Reference3Ideal.τ).loc Cert.Reference3Ideal.main_v139) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_v45) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_v8) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_ReferenceIdeal_pre_finite_qk [hKernel6Ideal : Cert.Kernel6Ideal.Facts] [hReferenceIdeal : Cert.ReferenceIdeal.Facts] [hPre_finite_qk : Cert.Pre_finite_qk.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_Kernel6Ideal_finite_qk m →
    (∀ c : Dev Cert.Kernel6Ideal.nD,
      m' ((c.tc : Thread Cert.ReferenceIdeal.nD Cert.ReferenceIdeal.τ).loc Cert.ReferenceIdeal.main_arg0) = m ((c.tc : Thread Cert.Kernel6Ideal.nD Cert.Kernel6Ideal.τ).loc Cert.Kernel6Ideal.main_arg0)
      ∧ m' ((c.tc : Thread Cert.ReferenceIdeal.nD Cert.ReferenceIdeal.τ).loc Cert.ReferenceIdeal.main_arg1) = m ((c.tc : Thread Cert.Kernel6Ideal.nD Cert.Kernel6Ideal.τ).loc Cert.Kernel6Ideal.main_arg1)
      ∧ m' ((c.tc : Thread Cert.ReferenceIdeal.nD Cert.ReferenceIdeal.τ).loc Cert.ReferenceIdeal.main_arg2) = m ((c.tc : Thread Cert.Kernel6Ideal.nD Cert.Kernel6Ideal.τ).loc Cert.Kernel6Ideal.main_arg2)
      ∧ m' ((c.tc : Thread Cert.ReferenceIdeal.nD Cert.ReferenceIdeal.τ).loc Cert.ReferenceIdeal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel7_Kernel7Ideal : Prop :=
  True

def algebraic_Kernel7Ideal_Reference7Ideal_pre_finite_gains [hKernel7Ideal : Cert.Kernel7Ideal.Facts] [hReference7Ideal : Cert.Reference7Ideal.Facts] [hPre_finite_gains : Cert.Pre_finite_gains.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_gains m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)) →
    ∃ (v0 : (c : Dev Cert.Kernel7Ideal.nD) → Buf (Elt Ideal) ((c.tc : Thread Cert.Kernel7Ideal.nD Cert.Kernel7Ideal.τ).loc Cert.Kernel7Ideal.main_v63)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v63) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v247) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hKernel7 : Cert.Kernel7.Facts) (hKernel7Ideal : Cert.Kernel7Ideal.Facts) (hReference7Ideal : Cert.Reference7Ideal.Facts) (hPre_finite_qk : Cert.Pre_finite_qk.Facts) (hPre_finite_gains : Cert.Pre_finite_gains.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_qk (hKernel6Ideal := hKernel6Ideal) (hPre_finite_qk := hPre_finite_qk)
    ∧ quiescent_Kernel7 (hKernel7 := hKernel7)
    ∧ quiescent_Kernel7Ideal (hKernel7Ideal := hKernel7Ideal)
    ∧ quiescent_Kernel7Ideal_pre_finite_gains (hKernel7Ideal := hKernel7Ideal) (hPre_finite_gains := hPre_finite_gains)
    ∧ quiescent_Reference7Ideal (hReference7Ideal := hReference7Ideal)
    ∧ quiescent_Reference7Ideal_pre_finite_gains (hReference7Ideal := hReference7Ideal) (hPre_finite_gains := hPre_finite_gains)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_ReferenceIdeal_pre_finite_qk (hKernel6Ideal := hKernel6Ideal) (hReferenceIdeal := hReferenceIdeal) (hPre_finite_qk := hPre_finite_qk)
    ∧ preserves_Kernel7_Kernel7Ideal
    ∧ algebraic_Kernel7Ideal_Reference7Ideal_pre_finite_gains (hKernel7Ideal := hKernel7Ideal) (hReference7Ideal := hReference7Ideal) (hPre_finite_gains := hPre_finite_gains)
-- ==== Pre_finite_gains.lean ====
abbrev S8x8192x1024 : Shape := ⟨3, ![8, 8192, 1024]⟩
abbrev S8x1024 : Shape := ⟨2, ![8, 1024]⟩
abbrev S8x256x1024 : Shape := ⟨3, ![8, 256, 1024]⟩
abbrev S1024 : Shape := ⟨1, ![1024]⟩
abbrev S1024x3072 : Shape := ⟨2, ![1024, 3072]⟩
abbrev S3072 : Shape := ⟨1, ![3072]⟩
abbrev S1024x5120 : Shape := ⟨2, ![1024, 5120]⟩
abbrev S128 : Shape := ⟨1, ![128]⟩
abbrev S2048x1024 : Shape := ⟨2, ![2048, 1024]⟩
abbrev S_ : Shape := ⟨0, ![]⟩

class Facts : Prop where
  bcast_S_S128 : S_.BroadcastsInDim S128 (![] : Fin 0 → Fin S128.rank)

variable [Facts]

def fn {F : FTy → Type} [FloatOps F] (main_arg0 : FVec F S8x8192x1024 .f32) (main_arg1 : FVec F S8x1024 .f32) (main_arg2 : FVec F S8x256x1024 .f32) (main_arg3 : FVec F S1024 .f32) (main_arg4 : FVec F S1024x3072 .f32) (main_arg5 : FVec F S3072 .f32) (main_arg6 : FVec F S1024 .f32) (main_arg7 : FVec F S1024x3072 .f32) (main_arg8 : FVec F S3072 .f32) (main_arg9 : FVec F S1024x5120 .f32) (main_arg10 : FVec F S128 .f32) (main_arg11 : FVec F S128 .f32) (main_arg12 : FVec F S2048x1024 .f32) (main_arg13 : FVec F S1024 .f32) : IVec S128 1 × IVec S128 1 :=
  let main_v0 : FVec F S128 .f32 := Host.absf main_arg10
  let main_cst : FVec F S_ .f32 := constant S_ .f32 0x7F800000#32
  let main_v1 : FVec F S128 .f32 := broadcastInDim S128 ![] bcast_S_S128 main_cst
  let main_v2 : IVec S128 1 := cmpf .olt main_v0 main_v1
  let main_v3 : FVec F S128 .f32 := Host.absf main_arg11
  let main_cst_0 : FVec F S_ .f32 := constant S_ .f32 0x7F800000#32
  let main_v4 : FVec F S128 .f32 := broadcastInDim S128 ![] bcast_S_S128 main_cst_0
  let main_v5 : IVec S128 1 := cmpf .olt main_v3 main_v4
  (main_v2, main_v5)
-- ==== Pre_finite_qk.lean ====
abbrev S8x8192x2048 : Shape := ⟨3, ![8, 8192, 2048]⟩
abbrev S8x8448x512 : Shape := ⟨3, ![8, 8448, 512]⟩
abbrev S_ : Shape := ⟨0, ![]⟩

class Facts : Prop where
  bitsLt_bf16_f32 : FTy.bits .bf16 < FTy.bits .f32
  bcast_S_S8x8192x2048 : S_.BroadcastsInDim S8x8192x2048 (![] : Fin 0 → Fin S8x8192x2048.rank)
  bcast_S_S8x8448x512 : S_.BroadcastsInDim S8x8448x512 (![] : Fin 0 → Fin S8x8448x512.rank)

variable [Facts]

def fn {F : FTy → Type} [FloatOps F] (main_arg0 : FVec F S8x8192x2048 .bf16) (main_arg1 : FVec F S8x8448x512 .bf16) (main_arg2 : FVec F S8x8448x512 .bf16) (main_arg3 : FVec F S8x8192x2048 .bf16) : IVec S8x8192x2048 1 × IVec S8x8448x512 1 :=
  let main_v0 : FVec F S8x8192x2048 .f32 := (extf .f32 · bitsLt_bf16_f32) main_arg0
  let main_v1 : FVec F S8x8192x2048 .f32 := Host.absf main_v0
  let main_cst : FVec F S_ .f32 := constant S_ .f32 0x7F800000#32
  let main_v2 : FVec F S8x8192x2048 .f32 := broadcastInDim S8x8192x2048 ![] bcast_S_S8x8192x2048 main_cst
  let main_v3 : IVec S8x8192x2048 1 := cmpf .olt main_v1 main_v2
  let main_v4 : FVec F S8x8448x512 .f32 := (extf .f32 · bitsLt_bf16_f32) main_arg1
  let main_v5 : FVec F S8x8448x512 .f32 := Host.absf main_v4
  let main_cst_0 : FVec F S_ .f32 := constant S_ .f32 0x7F800000#32
  let main_v6 : FVec F S8x8448x512 .f32 := broadcastInDim S8x8448x512 ![] bcast_S_S8x8448x512 main_cst_0
  let main_v7 : IVec S8x8448x512 1 := cmpf .olt main_v5 main_v6
  (main_v3, main_v7)
-- ==== Kernel.lean ====
abbrev S8x8192x2048 : Shape := ⟨3, ![8, 8192, 2048]⟩
abbrev S8x8448x512 : Shape := ⟨3, ![8, 8448, 512]⟩
abbrev S1x512x512 : Shape := ⟨3, ![1, 512, 512]⟩
abbrev S1x8448x128 : Shape := ⟨3, ![1, 8448, 128]⟩
abbrev S2048x256 : Shape := ⟨2, ![2048, 256]⟩
abbrev S512x512 : Shape := ⟨2, ![512, 512]⟩
abbrev S512x128 : Shape := ⟨2, ![512, 128]⟩
abbrev S2048x128 : Shape := ⟨2, ![2048, 128]⟩
abbrev S256x128 : Shape := ⟨2, ![256, 128]⟩
abbrev S1x256x128 : Shape := ⟨3, ![1, 256, 128]⟩
abbrev S256x256 : Shape := ⟨2, ![256, 256]⟩
abbrev S1x512x128 : Shape := ⟨3, ![1, 512, 128]⟩

abbrev nBuf : Space → Nat
  | .hbm => 5
  | .vmem => 12
  | .smem => 0
  | _ => 0

abbrev bufTy : (tb : Table) → Fin (tcTables nBuf tb) → BufTy
  | .hbm, ⟨0, _⟩ => ⟨S8x8192x2048, .bf16⟩
  | .hbm, ⟨1, _⟩ => ⟨S8x8448x512, .bf16⟩
  | .hbm, ⟨2, _⟩ => ⟨S8x8448x512, .bf16⟩
  | .hbm, ⟨3, _⟩ => ⟨S8x8192x2048, .bf16⟩
  | .hbm, ⟨4, _⟩ => ⟨S8x8192x2048, .bf16⟩
  | .local _ .vmem, ⟨0, _⟩ => ⟨S1x512x512, .bf16⟩
  | .local _ .vmem, ⟨1, _⟩ => ⟨S1x512x512, .bf16⟩
  | .local _ .vmem, ⟨2, _⟩ => ⟨S1x8448x128, .bf16⟩
  | .local _ .vmem, ⟨3, _⟩ => ⟨S1x8448x128, .bf16⟩
  | .local _ .vmem, ⟨4, _⟩ => ⟨S1x8448x128, .bf16⟩
  | .local _ .vmem, ⟨5, _⟩ => ⟨S1x8448x128, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S2048x256, .bf16⟩
  | .local _ .vmem, ⟨11, _⟩ => ⟨S2048x256, .bf16⟩
  | _, _ => ⟨S8x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S8x8192x2048 : Shape := ⟨3, ![8, 8192, 2048]⟩
abbrev S8x8448x512 : Shape := ⟨3, ![8, 8448, 512]⟩
abbrev S8x8192x4x4x128 : Shape := ⟨5, ![8, 8192, 4, 4, 128]⟩
abbrev S8x8448x4x128 : Shape := ⟨4, ![8, 8448, 4, 128]⟩
abbrev S8x4x8448x8192x4 : Shape := ⟨5, ![8, 4, 8448, 8192, 4]⟩
abbrev S8x4x4x8192x8448 : Shape := ⟨5, ![8, 4, 4, 8192, 8448]⟩
abbrev S_ : Shape := ⟨0, ![]⟩
abbrev S8x4x4x8192 : Shape := ⟨4, ![8, 4, 4, 8192]⟩
abbrev S8x4x4x8192x1 : Shape := ⟨5, ![8, 4, 4, 8192, 1]⟩
abbrev S8x4x128x4x8192 : Shape := ⟨5, ![8, 4, 128, 4, 8192]⟩

abbrev nBuf : Space → Nat
  | .hbm => 37
  | .vmem => 0
  | .smem => 0
  | _ => 0

abbrev bufTy : (tb : Table) → Fin (tcTables nBuf tb) → BufTy
  | .hbm, ⟨0, _⟩ => ⟨S8x8192x2048, .bf16⟩
  | .hbm, ⟨1, _⟩ => ⟨S8x8448x512, .bf16⟩
  | .hbm, ⟨2, _⟩ => ⟨S8x8448x512, .bf16⟩
  | .hbm, ⟨3, _⟩ => ⟨S8x8192x2048, .bf16⟩
  | .hbm, ⟨4, _⟩ => ⟨S8x8192x2048, .f32⟩
  | .hbm, ⟨5, _⟩ => ⟨S8x8192x4x4x128, .f32⟩
  | .hbm, ⟨6, _⟩ => ⟨S8x8448x512, .f32⟩
  | .hbm, ⟨7, _⟩ => ⟨S8x8448x4x128, .f32⟩
  | .hbm, ⟨8, _⟩ => ⟨S8x8448x512, .f32⟩
  | .hbm, ⟨9, _⟩ => ⟨S8x8448x4x128, .f32⟩
  | .hbm, ⟨10, _⟩ => ⟨S8x4x8448x8192x4, .f32⟩
  | .hbm, ⟨11, _⟩ => ⟨S8x4x4x8192x8448, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8x4x4x8192x8448, .f32⟩
  | .hbm, ⟨16, _⟩ => ⟨S8x4x4x8192x8448, .f32⟩
  | .hbm, ⟨17, _⟩ => ⟨S_, .f32⟩
  | .hbm, ⟨18, _⟩ => ⟨S8x4x4x8192, .f32⟩
  | .hbm, ⟨19, _⟩ => ⟨S_, .f32⟩
  | .hbm, ⟨20, _⟩ => ⟨S8x4x4x8192, .f32⟩
  | .hbm, ⟨21, _⟩ => ⟨S8x4x4x8192, .f32⟩
  | .hbm, ⟨22, _⟩ => ⟨S8x4x4x8192x1, .f32⟩
  | .hbm, ⟨23, _⟩ => ⟨S8x4x4x8192x8448, .f32⟩
  | .hbm, ⟨24, _⟩ => ⟨S8x4x4x8192x8448, .f32⟩
  | .hbm, ⟨25, _⟩ => ⟨S8x4x4x8192x8448, .f32⟩
  | .hbm, ⟨26, _⟩ => ⟨S_, .f32⟩
  | .hbm, ⟨27, _⟩ => ⟨S8x4x4x8192, .f32⟩
  | .hbm, ⟨28, _⟩ => ⟨S8x4x4x8192x1, .f32⟩
  | .hbm, ⟨29, _⟩ => ⟨S8x4x4x8192x8448, .f32⟩
  | .hbm, ⟨30, _⟩ => ⟨S8x4x4x8192x8448, .f32⟩
  | .hbm, ⟨31, _⟩ => ⟨S8x4x128x4x8192, .f32⟩
  | .hbm, ⟨32, _⟩ => ⟨S8x8192x4x4x128, .f32⟩
  | .hbm, ⟨33, _⟩ => ⟨S8x8192x2048, .f32⟩
  | .hbm, ⟨34, _⟩ => ⟨S8x8192x2048, .f32⟩
  | .hbm, ⟨35, _⟩ => ⟨S8x8192x2048, .f32⟩
  | .hbm, ⟨36, _⟩ => ⟨S8x8192x2048, .bf16⟩
  | _, _ => ⟨S8x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Kernel2.lean ====
abbrev S8x8192x2048 : Shape := ⟨3, ![8, 8192, 2048]⟩
abbrev S8x8192x1024 : Shape := ⟨3, ![8, 8192, 1024]⟩
abbrev S16x3072 : Shape := ⟨2, ![16, 3072]⟩
abbrev S2048x1024 : Shape := ⟨2, ![2048, 1024]⟩
abbrev S1024 : Shape := ⟨1, ![1024]⟩
abbrev S16x1x3072 : Shape := ⟨3, ![16, 1, 3072]⟩
abbrev S1x1024 : Shape := ⟨2, ![1, 1024]⟩
abbrev S1x512x2048 : Shape := ⟨3, ![1, 512, 2048]⟩
abbrev S1x512x1024 : Shape := ⟨3, ![1, 512, 1024]⟩
abbrev S1x1x3072 : Shape := ⟨3, ![1, 1, 3072]⟩
abbrev S1x1x1024 : Shape := ⟨3, ![1, 1, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S8x8192x2048, .bf16⟩
  | .hbm, ⟨1, _⟩ => ⟨S8x8192x1024, .f32⟩
  | .hbm, ⟨2, _⟩ => ⟨S16x3072, .f32⟩
  | .hbm, ⟨3, _⟩ => ⟨S2048x1024, .f32⟩
  | .hbm, ⟨4, _⟩ => ⟨S1024, .f32⟩
  | .hbm, ⟨5, _⟩ => ⟨S16x1x3072, .f32⟩
  | .hbm, ⟨6, _⟩ => ⟨S2048x1024, .bf16⟩
  | .hbm, ⟨7, _⟩ => ⟨S1x1024, .f32⟩
  | .hbm, ⟨8, _⟩ => ⟨S8x8192x1024, .f32⟩
  | .local _ .vmem, ⟨0, _⟩ => ⟨S1x512x2048, .bf16⟩
  | .local _ .vmem, ⟨1, _⟩ => ⟨S1x512x2048, .bf16⟩
  | .local _ .vmem, ⟨2, _⟩ => ⟨S1x512x1024, .f32⟩
  | .local _ .vmem, ⟨3, _⟩ => ⟨S1x512x1024, .f32⟩
  | .local _ .vmem, ⟨4, _⟩ => ⟨S1x1x3072, .f32⟩
  | .local _ .vmem, ⟨5, _⟩ => ⟨S1x1x3072, .f32⟩
  | .local _ .vmem, ⟨6, _⟩ => ⟨S2048x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | _, _ => ⟨S8x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8x8192x2048 : Shape := ⟨3, ![8, 8192, 2048]⟩
abbrev S8x8192x1024 : Shape := ⟨3, ![8, 8192, 1024]⟩
abbrev S16x3072 : Shape := ⟨2, ![16, 3072]⟩
abbrev S2048x1024 : Shape := ⟨2, ![2048, 1024]⟩
abbrev S1024 : Shape := ⟨1, ![1024]⟩
abbrev S8x3072 : Shape := ⟨2, ![8, 3072]⟩
abbrev S8x1x3072 : Shape := ⟨3, ![8, 1, 3072]⟩
abbrev S8x1x1024 : Shape := ⟨3, ![8, 1, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S8x8192x2048, .bf16⟩
  | .hbm, ⟨1, _⟩ => ⟨S8x8192x1024, .f32⟩
  | .hbm, ⟨2, _⟩ => ⟨S16x3072, .f32⟩
  | .hbm, ⟨3, _⟩ => ⟨S2048x1024, .f32⟩
  | .hbm, ⟨4, _⟩ => ⟨S1024, .f32⟩
  | .hbm, ⟨5, _⟩ => ⟨S8x3072, .f32⟩
  | .hbm, ⟨6, _⟩ => ⟨S8x1x3072, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x8192x2048, .f32⟩
  | .hbm, ⟨11, _⟩ => ⟨S8x8192x1024, .f32⟩
  | .hbm, ⟨12, _⟩ => ⟨S8x8192x1024, .f32⟩
  | .hbm, ⟨13, _⟩ => ⟨S8x8192x1024, .f32⟩
  | .hbm, ⟨14, _⟩ => ⟨S8x8192x1024, .f32⟩
  | .hbm, ⟨15, _⟩ => ⟨S8x8192x1024, .f32⟩
  | .hbm, ⟨16, _⟩ => ⟨S_, .f32⟩
  | .hbm, ⟨17, _⟩ => ⟨S8x8192, .f32⟩
  | .hbm, ⟨18, _⟩ => ⟨S8x8192x1, .f32⟩
  | .hbm, ⟨19, _⟩ => ⟨S_, .f32⟩
  | .hbm, ⟨20, _⟩ => ⟨S8x8192x1, .f32⟩
  | .hbm, ⟨21, _⟩ => ⟨S8x8192x1, .f32⟩
  | .hbm, ⟨22, _⟩ => ⟨S_, .f32⟩
  | .hbm, ⟨23, _⟩ => ⟨S8x8192x1, .f32⟩
  | .hbm, ⟨24, _⟩ => ⟨S8x8192x1, .f32⟩
  | .hbm, ⟨25, _⟩ => ⟨S8x8192x1, .f32⟩
  | .hbm, ⟨26, _⟩ => ⟨S8x8192x1024, .f32⟩
  | .hbm, ⟨27, _⟩ => ⟨S8x8192x1024, .f32⟩
  | .hbm, ⟨28, _⟩ => ⟨S1x1x1024, .f32⟩
  | .hbm, ⟨29, _⟩ => ⟨S8x8192x1024, .f32⟩
  | .hbm, ⟨30, _⟩ => ⟨S8x8192x1024, .f32⟩
  | _, _ => ⟨S8x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel3.lean ====
abbrev S8x8192x1024 : Shape := ⟨3, ![8, 8192, 1024]⟩
abbrev S16x3072 : Shape := ⟨2, ![16, 3072]⟩
abbrev S1024 : Shape := ⟨1, ![1024]⟩
abbrev S1024x5120 : Shape := ⟨2, ![1024, 5120]⟩
abbrev S128 : Shape := ⟨1, ![128]⟩
abbrev S1x128 : Shape := ⟨2, ![1, 128]⟩
abbrev S_ : Shape := ⟨0, ![]⟩
abbrev S128x1 : Shape := ⟨2, ![128, 1]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S16x1x3072 : Shape := ⟨3, ![16, 1, 3072]⟩
abbrev S1x1024 : Shape := ⟨2, ![1, 1024]⟩
abbrev S8x8192x2048 : Shape := ⟨3, ![8, 8192, 2048]⟩
abbrev S8x8192x512 : Shape := ⟨3, ![8, 8192, 512]⟩
abbrev S1x512x1024 : Shape := ⟨3, ![1, 512, 1024]⟩
abbrev S1x1x3072 : Shape := ⟨3, ![1, 1, 3072]⟩
abbrev S512x128 : Shape := ⟨2, ![512, 128]⟩
abbrev S1x512x2048 : Shape := ⟨3, ![1, 512, 2048]⟩
abbrev S1x512x512 : Shape := ⟨3, ![1, 512, 512]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1x512x128 : Shape := ⟨3, ![1, 512, 128]⟩

abbrev nBuf : Space → Nat
  | .hbm => 62
  | .vmem => 20
  | .smem => 0
  | _ => 0

abbrev bufTy : (tb : Table) → Fin (tcTables nBuf tb) → BufTy
  | .hbm, ⟨0, _⟩ => ⟨S8x8192x1024, .f32⟩
  | .hbm, ⟨1, _⟩ => ⟨S16x3072, .f32⟩
  | .hbm, ⟨2, _⟩ => ⟨S1024, .f32⟩
  | .hbm, ⟨3, _⟩ => ⟨S1024x5120, .f32⟩
  | .hbm, ⟨4, _⟩ => ⟨S128, .f32⟩
  | .hbm, ⟨5, _⟩ => ⟨S128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S128, .i32⟩
  | .hbm, ⟨12, _⟩ => ⟨S128x1, .i32⟩
  | .hbm, ⟨13, _⟩ => ⟨S128x64, .i32⟩
  | .hbm, ⟨14, _⟩ => ⟨S8192, .i32⟩
  | .hbm, ⟨15, _⟩ => ⟨S64, .i32⟩
  | .hbm, ⟨16, _⟩ => ⟨S1x64, .i32⟩
  | .hbm, ⟨17, _⟩ => ⟨S128x64, .i32⟩
  | .hbm, ⟨18, _⟩ => ⟨S8192, .i32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S8192, .f32⟩
  | .hbm, ⟨34, _⟩ => ⟨S8192x1, .f32⟩
  | .hbm, ⟨35, _⟩ => ⟨S1x32, .f32⟩
  | .hbm, ⟨36, _⟩ => ⟨S8192x32, .f32⟩
  | .hbm, ⟨37, _⟩ => ⟨S8192x32, .f32⟩
  | .hbm, ⟨38, _⟩ => ⟨S8192x32, .f32⟩
  | .hbm, ⟨39, _⟩ => ⟨S8192, .f32⟩
  | .hbm, ⟨40, _⟩ => ⟨S8192x1, .f32⟩
  | .hbm, ⟨41, _⟩ => ⟨S1x32, .f32⟩
  | .hbm, ⟨42, _⟩ => ⟨S8192x32, .f32⟩
  | .hbm, ⟨43, _⟩ => ⟨S8192x32, .f32⟩
  | .hbm, ⟨44, _⟩ => ⟨S8192x32, .f32⟩
  | .hbm, ⟨45, _⟩ => ⟨S8192x32, .f32⟩
  | .hbm, ⟨46, _⟩ => ⟨S8192x32, .f32⟩
  | .hbm, ⟨47, _⟩ => ⟨S8192x128, .f32⟩
  | .hbm, ⟨48, _⟩ => ⟨S8192x32, .f32⟩
  | .hbm, ⟨49, _⟩ => ⟨S8192x32, .f32⟩
  | .hbm, ⟨50, _⟩ => ⟨S8192x32, .f32⟩
  | .hbm, ⟨51, _⟩ => ⟨S8192x32, .f32⟩
  | .hbm, ⟨52, _⟩ => ⟨S8192x32, .f32⟩
  | .hbm, ⟨53, _⟩ => ⟨S8192x32, .f32⟩
  | .hbm, ⟨54, _⟩ => ⟨S8192x128, .f32⟩
  | .hbm, ⟨55, _⟩ => ⟨S16x1x3072, .f32⟩
  | .hbm, ⟨56, _⟩ => ⟨S1x1024, .f32⟩
  | .hbm, ⟨57, _⟩ => ⟨S1024x5120, .bf16⟩
  | .hbm, ⟨58, _⟩ => ⟨S8x8192x2048, .bf16⟩
  | .hbm, ⟨59, _⟩ => ⟨S8x8192x512, .bf16⟩
  | .hbm, ⟨60, _⟩ => ⟨S8x8192x512, .bf16⟩
  | .hbm, ⟨61, _⟩ => ⟨S8x8192x2048, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S1024x5120, .bf16⟩
  | .local _ .vmem, ⟨6, _⟩ => ⟨S1x128, .f32⟩
  | .local _ .vmem, ⟨7, _⟩ => ⟨S1x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x512x2048, .bf16⟩
  | .local _ .vmem, ⟨13, _⟩ => ⟨S1x512x2048, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x2048, .bf16⟩
  | .local _ .vmem, ⟨19, _⟩ => ⟨S1x512x2048, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47_0 : Ref sig .tc := ⟨.hbm, 58, rfl⟩
abbrev main_v47_1 : Ref sig .tc := ⟨.hbm, 59, rfl⟩
abbrev main_v47_2 : Ref sig .tc := ⟨.hbm, 60, rfl⟩
abbrev main_v47_3 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S8x8192x1024 : Shape := ⟨3, ![8, 8192, 1024]⟩
abbrev S16x3072 : Shape := ⟨2, ![16, 3072]⟩
abbrev S1024 : Shape := ⟨1, ![1024]⟩
abbrev S1024x5120 : Shape := ⟨2, ![1024, 5120]⟩
abbrev S128 : Shape := ⟨1, ![128]⟩
abbrev S8x3072 : Shape := ⟨2, ![8, 3072]⟩
abbrev S8x1x3072 : Shape := ⟨3, ![8, 1, 3072]⟩
abbrev S8x1x1024 : Shape := ⟨3, ![8, 1, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5120 : Shape := ⟨3, ![8, 8192, 5120]⟩
abbrev S8x8192x2048 : Shape := ⟨3, ![8, 8192, 2048]⟩
abbrev S8x8192x512 : Shape := ⟨3, ![8, 8192, 512]⟩
abbrev S8192 : Shape := ⟨1, ![8192]⟩
abbrev S8192x1 : Shape := ⟨2, ![8192, 1]⟩
abbrev S8192x2 : Shape := ⟨2, ![8192, 2]⟩
abbrev S32 : Shape := ⟨1, ![32]⟩
abbrev S8192x2x1 : Shape := ⟨3, ![8192, 2, 1]⟩
abbrev S1x1x32 : Shape := ⟨3, ![1, 1, 32]⟩
abbrev S8192x2x32 : Shape := ⟨3, ![8192, 2, 32]⟩
abbrev S8x8192x16x128 : Shape := ⟨4, ![8, 8192, 16, 128]⟩
abbrev S8x8192x16 : Shape := ⟨3, ![8, 8192, 16]⟩
abbrev S8x8192x16x1 : Shape := ⟨4, ![8, 8192, 16, 1]⟩
abbrev S1x1x1x128 : Shape := ⟨4, ![1, 1, 1, 128]⟩
abbrev S8x8192x16x2x2x32 : Shape := ⟨6, ![8, 8192, 16, 2, 2, 32]⟩
abbrev S8x8192x16x2x1x32 : Shape := ⟨6, ![8, 8192, 16, 2, 1, 32]⟩
abbrev S8x8192x16x2x32 : Shape := ⟨5, ![8, 8192, 16, 2, 32]⟩
abbrev S8192x1x2x32 : Shape := ⟨4, ![8192, 1, 2, 32]⟩
abbrev S1x8192x1x2x32 : Shape := ⟨5, ![1, 8192, 1, 2, 32]⟩
abbrev S8x8192x4x128 : Shape := ⟨4, ![8, 8192, 4, 128]⟩
abbrev S8x8192x4 : Shape := ⟨3, ![8, 8192, 4]⟩
abbrev S8x8192x4x1 : Shape := ⟨4, ![8, 8192, 4, 1]⟩
abbrev S8x8192x4x2x2x32 : Shape := ⟨6, ![8, 8192, 4, 2, 2, 32]⟩
abbrev S8x8192x4x2x1x32 : Shape := ⟨6, ![8, 8192, 4, 2, 1, 32]⟩
abbrev S8x8192x4x2x32 : Shape := ⟨5, ![8, 8192, 4, 2, 32]⟩

abbrev nBuf : Space → Nat
  | .hbm => 207
  | .vmem => 0
  | .smem => 0
  | _ => 0

abbrev hbmTy0_0 (i : Nat) : BufTy := match i % 128 with
  | 0 => ⟨S8x8192x1024, .f32⟩
  | 1 => ⟨S16x3072, .f32⟩
  | 2 => ⟨S1024, .f32⟩
  | 3 => ⟨S1024x5120, .f32⟩
  | 4 => ⟨S128, .f32⟩
  | 5 => ⟨S128, .f32⟩
  | 6 => ⟨S8x3072, .f32⟩
  | 7 => ⟨S8x1x3072, .f32⟩
  | 8 => ⟨S8x1x1024, .f32⟩
  | 9 => ⟨S8x1x1024, .f32⟩
  | 10 => ⟨S8x1x1024, .f32⟩
  | 11 => ⟨S8x8192x1024, .f32⟩
  | 12 => ⟨S_, .f32⟩
  | 13 => ⟨S8x8192, .f32⟩
  | 14 => ⟨S8x8192x1, .f32⟩
  | 15 => ⟨S_, .f32⟩
  | 16 => ⟨S8x8192x1, .f32⟩
  | 17 => ⟨S8x8192x1, .f32⟩
  | 18 => ⟨S_, .f32⟩
  | 19 => ⟨S8x8192x1, .f32⟩
  | 20 => ⟨S8x8192x1, .f32⟩
  | 21 => ⟨S8x8192x1, .f32⟩
  | 22 => ⟨S8x8192x1024, .f32⟩
  | 23 => ⟨S8x8192x1024, .f32⟩
  | 24 => ⟨S1x1x1024, .f32⟩
  | 25 => ⟨S8x8192x1024, .f32⟩
  | 26 => ⟨S8x8192x1024, .f32⟩
  | 27 => ⟨S_, .f32⟩
  | 28 => ⟨S8x1x1024, .f32⟩
  | 29 => ⟨S8x1x1024, .f32⟩
  | 30 => ⟨S8x8192x1024, .f32⟩
  | 31 => ⟨S8x8192x1024, .f32⟩
  | 32 => ⟨S8x8192x1024, .f32⟩
  | 33 => ⟨S8x8192x1024, .f32⟩
  | 34 => ⟨S8x8192x5120, .f32⟩
  | 35 => ⟨S8x8192x2048, .f32⟩
  | 36 => ⟨S8x8192x512, .f32⟩
  | 37 => ⟨S8x8192x512, .f32⟩
  | 38 => ⟨S8x8192x2048, .f32⟩
  | 39 => ⟨S8192, .i32⟩
  | 40 => ⟨S_, .i32⟩
  | 41 => ⟨S_, .i32⟩
  | 42 => ⟨S8192, .i32⟩
  | 43 => ⟨S8192, .i32⟩
  | 44 => ⟨S8192, .i32⟩
  | 45 => ⟨S_, .i32⟩
  | 46 => ⟨S8192, .i32⟩
  | 47 => ⟨S8192, .i1⟩
  | 48 => ⟨S8192, .i32⟩
  | 49 => ⟨S8192, .i32⟩
  | 50 => ⟨S_, .i32⟩
  | 51 => ⟨S8192, .i32⟩
  | 52 => ⟨S8192, .i1⟩
  | 53 => ⟨S8192, .i1⟩
  | 54 => ⟨S_, .i32⟩
  | 55 => ⟨S8192, .i32⟩
  | 56 => ⟨S8192, .i32⟩
  | 57 => ⟨S8192, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S8192, .i32⟩
  | 65 => ⟨S8192, .i32⟩
  | 66 => ⟨S_, .i32⟩
  | 67 => ⟨S8192, .i32⟩
  | 68 => ⟨S8192, .i1⟩
  | 69 => ⟨S_, .i32⟩
  | 70 => ⟨S8192, .i32⟩
  | 71 => ⟨S8192, .i1⟩
  | 72 => ⟨S_, .i32⟩
  | 73 => ⟨S_, .i1⟩
  | 74 => ⟨S8192, .i1⟩
  | 75 => ⟨S8192, .i1⟩
  | 76 => ⟨S8192, .i1⟩
  | 77 => ⟨S8192, .i32⟩
  | 78 => ⟨S8192, .i32⟩
  | 79 => ⟨S8192, .i32⟩
  | 80 => ⟨S8192x1, .i32⟩
  | 81 => ⟨S8192x1, .i32⟩
  | 82 => ⟨S8192x2, .i32⟩
  | 83 => ⟨S8192x2, .f32⟩
  | 84 => ⟨S32, .f32⟩
  | 85 => ⟨S_, .f32⟩
  | 86 => ⟨S32, .f32⟩
  | 87 => ⟨S32, .f32⟩
  | 88 => ⟨S_, .f32⟩
  | 89 => ⟨S32, .f32⟩
  | 90 => ⟨S32, .f32⟩
  | 91 => ⟨S32, .f32⟩
  | 92 => ⟨S_, .f32⟩
  | 93 => ⟨S32, .f32⟩
  | 94 => ⟨S32, .f32⟩
  | 95 => ⟨S_, .f32⟩
  | 96 => ⟨S32, .f32⟩
  | 97 => ⟨S32, .f32⟩
  | 98 => ⟨S8192x2x1, .f32⟩
  | 99 => ⟨S1x1x32, .f32⟩
  | 100 => ⟨S8192x2x32, .f32⟩
  | 101 => ⟨S8192x2x32, .f32⟩
  | 102 => ⟨S8192x2x32, .f32⟩
  | 103 => ⟨S8192x2x32, .f32⟩
  | 104 => ⟨S8192x2x32, .f32⟩
  | 105 => ⟨S8x8192x16x128, .f32⟩
  | 106 => ⟨S8x8192x16x128, .f32⟩
  | 107 => ⟨S_, .f32⟩
  | 108 => ⟨S8x8192x16, .f32⟩
  | 109 => ⟨S8x8192x16x1, .f32⟩
  | 110 => ⟨S_, .f32⟩
  | 111 => ⟨S8x8192x16x1, .f32⟩
  | 112 => ⟨S8x8192x16x1, .f32⟩
  | 113 => ⟨S_, .f32⟩
  | 114 => ⟨S8x8192x16x1, .f32⟩
  | 115 => ⟨S8x8192x16x1, .f32⟩
  | 116 => ⟨S8x8192x16x1, .f32⟩
  | 117 => ⟨S8x8192x16x128, .f32⟩
  | 118 => ⟨S8x8192x16x128, .f32⟩
  | 119 => ⟨S1x1x1x128, .f32⟩
  | 120 => ⟨S8x8192x16x128, .f32⟩
  | 121 => ⟨S8x8192x16x128, .f32⟩
  | 122 => ⟨S8x8192x16x2x2x32, .f32⟩
  | 123 => ⟨S8x8192x16x2x1x32, .f32⟩
  | 124 => ⟨S8x8192x16x2x32, .f32⟩
  | 125 => ⟨S8x8192x16x2x1x32, .f32⟩
  | 126 => ⟨S8x8192x16x2x32, .f32⟩
  | 127 => ⟨S8192x1x2x32, .f32⟩
  | _ => ⟨S8x8192x1024, .f32⟩

abbrev hbmTy0_1 (i : Nat) : BufTy := match i % 128 with
  | 0 => ⟨S8192x1x2x32, .f32⟩
  | 1 => ⟨S1x8192x1x2x32, .f32⟩
  | 2 => ⟨S8x8192x16x2x32, .f32⟩
  | 3 => ⟨S8x8192x16x2x32, .f32⟩
  | 4 => ⟨S1x8192x1x2x32, .f32⟩
  | 5 => ⟨S8x8192x16x2x32, .f32⟩
  | 6 => ⟨S8x8192x16x2x32, .f32⟩
  | 7 => ⟨S8x8192x16x2x32, .f32⟩
  | 8 => ⟨S1x8192x1x2x32, .f32⟩
  | 9 => ⟨S8x8192x16x2x32, .f32⟩
  | 10 => ⟨S8x8192x16x2x32, .f32⟩
  | 11 => ⟨S1x8192x1x2x32, .f32⟩
  | 12 => ⟨S8x8192x16x2x32, .f32⟩
  | 13 => ⟨S8x8192x16x2x32, .f32⟩
  | 14 => ⟨S8x8192x16x2x32, .f32⟩
  | 15 => ⟨S8x8192x16x2x1x32, .f32⟩
  | 16 => ⟨S8x8192x16x2x1x32, .f32⟩
  | 17 => ⟨S8x8192x16x2x2x32, .f32⟩
  | 18 => ⟨S8x8192x16x128, .f32⟩
  | 19 => ⟨S_, .f32⟩
  | 20 => ⟨S8x8192x16x128, .f32⟩
  | 21 => ⟨S8x8192x16x128, .f32⟩
  | 22 => ⟨S8x8192x4x128, .f32⟩
  | 23 => ⟨S8x8192x4x128, .f32⟩
  | 24 => ⟨S_, .f32⟩
  | 25 => ⟨S8x8192x4, .f32⟩
  | 26 => ⟨S8x8192x4x1, .f32⟩
  | 27 => ⟨S_, .f32⟩
  | 28 => ⟨S8x8192x4x1, .f32⟩
  | 29 => ⟨S8x8192x4x1, .f32⟩
  | 30 => ⟨S_, .f32⟩
  | 31 => ⟨S8x8192x4x1, .f32⟩
  | 32 => ⟨S8x8192x4x1, .f32⟩
  | 33 => ⟨S8x8192x4x1, .f32⟩
  | 34 => ⟨S8x8192x4x128, .f32⟩
  | 35 => ⟨S8x8192x4x128, .f32⟩
  | 36 => ⟨S1x1x1x128, .f32⟩
  | 37 => ⟨S8x8192x4x128, .f32⟩
  | 38 => ⟨S8x8192x4x128, .f32⟩
  | 39 => ⟨S8x8192x4x2x2x32, .f32⟩
  | 40 => ⟨S8x8192x4x2x1x32, .f32⟩
  | 41 => ⟨S8x8192x4x2x32, .f32⟩
  | 42 => ⟨S8x8192x4x2x1x32, .f32⟩
  | 43 => ⟨S8x8192x4x2x32, .f32⟩
  | 44 => ⟨S8192x1x2x32, .f32⟩
  | 45 => ⟨S8192x1x2x32, .f32⟩
  | 46 => ⟨S1x8192x1x2x32, .f32⟩
  | 47 => ⟨S8x8192x4x2x32, .f32⟩
  | 48 => ⟨S8x8192x4x2x32, .f32⟩
  | 49 => ⟨S1x8192x1x2x32, .f32⟩
  | 50 => ⟨S8x8192x4x2x32, .f32⟩
  | 51 => ⟨S8x8192x4x2x32, .f32⟩
  | 52 => ⟨S8x8192x4x2x32, .f32⟩
  | 53 => ⟨S1x8192x1x2x32, .f32⟩
  | 54 => ⟨S8x8192x4x2x32, .f32⟩
  | 55 => ⟨S8x8192x4x2x32, .f32⟩
  | 56 => ⟨S1x8192x1x2x32, .f32⟩
  | 57 => ⟨S8x8192x4x2x32, .f32⟩
  | 58 => ⟨S8x8192x4x2x32, .f32⟩
  | 59 => ⟨S8x8192x4x2x32, .f32⟩
  | 60 => ⟨S8x8192x4x2x1x32, .f32⟩
  | 61 => ⟨S8x8192x4x2x1x32, .f32⟩
  | 62 => ⟨S8x8192x4x2x2x32, .f32⟩
  | 63 => ⟨S8x8192x4x128, .f32⟩
  | 64 => ⟨S8x8192x2048, .f32⟩
  | 65 => ⟨S8x8192x2048, .bf16⟩
  | 66 => ⟨S8x8192x512, .f32⟩
  | 67 => ⟨S8x8192x512, .bf16⟩
  | 68 => ⟨S8x8192x512, .bf16⟩
  | 69 => ⟨S8x8192x2048, .f32⟩
  | 70 => ⟨S8x8192x2048, .f32⟩
  | 71 => ⟨S_, .f32⟩
  | 72 => ⟨S8x8192x2048, .f32⟩
  | 73 => ⟨S8x8192x2048, .f32⟩
  | 74 => ⟨S_, .f32⟩
  | 75 => ⟨S8x8192x2048, .f32⟩
  | 76 => ⟨S8x8192x2048, .f32⟩
  | 77 => ⟨S8x8192x2048, .f32⟩
  | 78 => ⟨S8x8192x2048, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_c : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_c_0 : Ref sig .tc := ⟨.hbm, 54, rfl⟩
abbrev main_call0_v12 : Ref sig .tc := ⟨.hbm, 55, rfl⟩
abbrev main_call0_v13 : Ref sig .tc := ⟨.hbm, 56, rfl⟩
abbrev main_v30 : Ref sig .tc := ⟨.hbm, 57, rfl⟩
abbrev main_c_3 : Ref sig .tc := ⟨.hbm, 58, rfl⟩
abbrev main_call1_v0 : Ref sig .tc := ⟨.hbm, 59, rfl⟩
abbrev main_call1_c : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_c_1 : Ref sig .tc := ⟨.hbm, 66, rfl⟩
abbrev main_call1_v5 : Ref sig .tc := ⟨.hbm, 67, rfl⟩
abbrev main_call1_v6 : Ref sig .tc := ⟨.hbm, 68, rfl⟩
abbrev main_call1_c_2 : Ref sig .tc := ⟨.hbm, 69, rfl⟩
abbrev main_call1_v7 : Ref sig .tc := ⟨.hbm, 70, rfl⟩
abbrev main_call1_v8 : Ref sig .tc := ⟨.hbm, 71, rfl⟩
abbrev main_call1_c_3 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_v12 : Ref sig .tc := ⟨.hbm, 76, rfl⟩
abbrev main_call1_v13 : Ref sig .tc := ⟨.hbm, 77, rfl⟩
abbrev main_call1_v14 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_cst_4 : Ref sig .tc := ⟨.hbm, 85, rfl⟩
abbrev main_v37 : Ref sig .tc := ⟨.hbm, 86, rfl⟩
abbrev main_v38 : Ref sig .tc := ⟨.hbm, 87, rfl⟩
abbrev main_cst_5 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_cst_6 : Ref sig .tc := ⟨.hbm, 92, rfl⟩
abbrev main_v42 : Ref sig .tc := ⟨.hbm, 93, rfl⟩
abbrev main_v43 : Ref sig .tc := ⟨.hbm, 94, rfl⟩
abbrev main_cst_7 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_cst_8 : Ref sig .tc := ⟨.hbm, 107, rfl⟩
abbrev main_v55 : Ref sig .tc := ⟨.hbm, 108, rfl⟩
abbrev main_v56 : Ref sig .tc := ⟨.hbm, 109, rfl⟩
abbrev main_cst_9 : Ref sig .tc := ⟨.hbm, 110, rfl⟩
abbrev main_v57 : Ref sig .tc := ⟨.hbm, 111, rfl⟩
abbrev main_v58 : Ref sig .tc := ⟨.hbm, 112, rfl⟩
abbrev main_cst_10 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_cst_11 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_cst_12 : Ref sig .tc := ⟨.hbm, 152, rfl⟩
abbrev main_v96 : Ref sig .tc := ⟨.hbm, 153, rfl⟩
abbrev main_v97 : Ref sig .tc := ⟨.hbm, 154, rfl⟩
abbrev main_cst_13 : Ref sig .tc := ⟨.hbm, 155, rfl⟩
abbrev main_v98 : Ref sig .tc := ⟨.hbm, 156, rfl⟩
abbrev main_v99 : Ref sig .tc := ⟨.hbm, 157, rfl⟩
abbrev main_cst_14 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_call2_v0 : Ref sig .tc := ⟨.hbm, 197, rfl⟩
abbrev main_call2_v1 : Ref sig .tc := ⟨.hbm, 198, rfl⟩
abbrev main_call2_cst : Ref sig .tc := ⟨.hbm, 199, rfl⟩
abbrev main_call2_v2 : Ref sig .tc := ⟨.hbm, 200, rfl⟩
abbrev main_call2_v3 : Ref sig .tc := ⟨.hbm, 201, rfl⟩
abbrev main_call2_cst_0 : Ref sig .tc := ⟨.hbm, 202, rfl⟩
abbrev main_call2_v4 : Ref sig .tc := ⟨.hbm, 203, rfl⟩
abbrev main_call2_v5 : Ref sig .tc := ⟨.hbm, 204, rfl⟩
abbrev main_v138 : Ref sig .tc := ⟨.hbm, 205, rfl⟩
abbrev main_v139 : Ref sig .tc := ⟨.hbm, 206, rfl⟩

abbrev nD : Nat := 1
abbrev τ : Topo := Topo.v7x

variable {F : FTy → Type} [FloatOps F]
-- ==== Kernel4.lean ====
abbrev S8x256x1024 : Shape := ⟨3, ![8, 256, 1024]⟩
abbrev S16x3072 : Shape := ⟨2, ![16, 3072]⟩
abbrev S1024 : Shape := ⟨1, ![1024]⟩
abbrev S1024x5120 : Shape := ⟨2, ![1024, 5120]⟩
abbrev S128 : Shape := ⟨1, ![128]⟩
abbrev S16x1x3072 : Shape := ⟨3, ![16, 1, 3072]⟩
abbrev S1x1024 : Shape := ⟨2, ![1, 1024]⟩
abbrev S1x128 : Shape := ⟨2, ![1, 128]⟩
abbrev S8x256x512 : Shape := ⟨3, ![8, 256, 512]⟩
abbrev S1x256x1024 : Shape := ⟨3, ![1, 256, 1024]⟩
abbrev S1x1x3072 : Shape := ⟨3, ![1, 1, 3072]⟩
abbrev S1x256x512 : Shape := ⟨3, ![1, 256, 512]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S256x128 : Shape := ⟨2, ![256, 128]⟩
abbrev S1x256x128 : Shape := ⟨3, ![1, 256, 128]⟩

abbrev nBuf : Space → Nat
  | .hbm => 11
  | .vmem => 10
  | .smem => 0
  | _ => 0

abbrev bufTy : (tb : Table) → Fin (tcTables nBuf tb) → BufTy
  | .hbm, ⟨0, _⟩ => ⟨S8x256x1024, .f32⟩
  | .hbm, ⟨1, _⟩ => ⟨S16x3072, .f32⟩
  | .hbm, ⟨2, _⟩ => ⟨S1024, .f32⟩
  | .hbm, ⟨3, _⟩ => ⟨S1024x5120, .f32⟩
  | .hbm, ⟨4, _⟩ => ⟨S128, .f32⟩
  | .hbm, ⟨5, _⟩ => ⟨S16x1x3072, .f32⟩
  | .hbm, ⟨6, _⟩ => ⟨S1x1024, .f32⟩
  | .hbm, ⟨7, _⟩ => ⟨S1024x5120, .bf16⟩
  | .hbm, ⟨8, _⟩ => ⟨S1x128, .f32⟩
  | .hbm, ⟨9, _⟩ => ⟨S8x256x512, .bf16⟩
  | .hbm, ⟨10, _⟩ => ⟨S8x256x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x3072, .f32⟩
  | .local _ .vmem, ⟨3, _⟩ => ⟨S1x1024, .f32⟩
  | .local _ .vmem, ⟨4, _⟩ => ⟨S1024x5120, .bf16⟩
  | .local _ .vmem, ⟨5, _⟩ => ⟨S1x128, .f32⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S8x256x1024 : Shape := ⟨3, ![8, 256, 1024]⟩
abbrev S16x3072 : Shape := ⟨2, ![16, 3072]⟩
abbrev S1024 : Shape := ⟨1, ![1024]⟩
abbrev S1024x5120 : Shape := ⟨2, ![1024, 5120]⟩
abbrev S128 : Shape := ⟨1, ![128]⟩
abbrev S1x3072 : Shape := ⟨2, ![1, 3072]⟩
abbrev S1x1024 : Shape := ⟨2, ![1, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1024x1024 : Shape := ⟨2, ![1024, 1024]⟩
abbrev S8x256x512 : Shape := ⟨3, ![8, 256, 512]⟩
abbrev S8x256x4x128 : Shape := ⟨4, ![8, 256, 4, 128]⟩
abbrev S8x256x4 : Shape := ⟨3, ![8, 256, 4]⟩
abbrev S8x256x4x1 : Shape := ⟨4, ![8, 256, 4, 1]⟩
abbrev S1x1x1x128 : Shape := ⟨4, ![1, 1, 1, 128]⟩

abbrev nBuf : Space → Nat
  | .hbm => 58
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S16x3072, .f32⟩
  | .hbm, ⟨2, _⟩ => ⟨S1024, .f32⟩
  | .hbm, ⟨3, _⟩ => ⟨S1024x5120, .f32⟩
  | .hbm, ⟨4, _⟩ => ⟨S128, .f32⟩
  | .hbm, ⟨5, _⟩ => ⟨S1x3072, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S8x256x1024, .f32⟩
  | .hbm, ⟨10, _⟩ => ⟨S_, .f32⟩
  | .hbm, ⟨11, _⟩ => ⟨S8x256, .f32⟩
  | .hbm, ⟨12, _⟩ => ⟨S8x256x1, .f32⟩
  | .hbm, ⟨13, _⟩ => ⟨S_, .f32⟩
  | .hbm, ⟨14, _⟩ => ⟨S8x256x1, .f32⟩
  | .hbm, ⟨15, _⟩ => ⟨S8x256x1, .f32⟩
  | .hbm, ⟨16, _⟩ => ⟨S_, .f32⟩
  | .hbm, ⟨17, _⟩ => ⟨S8x256x1, .f32⟩
  | .hbm, ⟨18, _⟩ => ⟨S8x256x1, .f32⟩
  | .hbm, ⟨19, _⟩ => ⟨S8x256x1, .f32⟩
  | .hbm, ⟨20, _⟩ => ⟨S8x256x1024, .f32⟩
  | .hbm, ⟨21, _⟩ => ⟨S8x256x1024, .f32⟩
  | .hbm, ⟨22, _⟩ => ⟨S1x1x1024, .f32⟩
  | .hbm, ⟨23, _⟩ => ⟨S8x256x1024, .f32⟩
  | .hbm, ⟨24, _⟩ => ⟨S8x256x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S1x1x1024, .f32⟩
  | .hbm, ⟨29, _⟩ => ⟨S8x256x1024, .f32⟩
  | .hbm, ⟨30, _⟩ => ⟨S8x256x1024, .f32⟩
  | .hbm, ⟨31, _⟩ => ⟨S1x1x1024, .f32⟩
  | .hbm, ⟨32, _⟩ => ⟨S8x256x1024, .f32⟩
  | .hbm, ⟨33, _⟩ => ⟨S8x256x1024, .f32⟩
  | .hbm, ⟨34, _⟩ => ⟨S1024x1024, .f32⟩
  | .hbm, ⟨35, _⟩ => ⟨S8x256x1024, .f32⟩
  | .hbm, ⟨36, _⟩ => ⟨S8x256x512, .f32⟩
  | .hbm, ⟨37, _⟩ => ⟨S8x256x4x128, .f32⟩
  | .hbm, ⟨38, _⟩ => ⟨S8x256x4x128, .f32⟩
  | .hbm, ⟨39, _⟩ => ⟨S_, .f32⟩
  | .hbm, ⟨40, _⟩ => ⟨S8x256x4, .f32⟩
  | .hbm, ⟨41, _⟩ => ⟨S8x256x4x1, .f32⟩
  | .hbm, ⟨42, _⟩ => ⟨S_, .f32⟩
  | .hbm, ⟨43, _⟩ => ⟨S8x256x4x1, .f32⟩
  | .hbm, ⟨44, _⟩ => ⟨S8x256x4x1, .f32⟩
  | .hbm, ⟨45, _⟩ => ⟨S_, .f32⟩
  | .hbm, ⟨46, _⟩ => ⟨S8x256x4x1, .f32⟩
  | .hbm, ⟨47, _⟩ => ⟨S8x256x4x1, .f32⟩
  | .hbm, ⟨48, _⟩ => ⟨S8x256x4x1, .f32⟩
  | .hbm, ⟨49, _⟩ => ⟨S8x256x4x128, .f32⟩
  | .hbm, ⟨50, _⟩ => ⟨S8x256x4x128, .f32⟩
  | .hbm, ⟨51, _⟩ => ⟨S1x1x1x128, .f32⟩
  | .hbm, ⟨52, _⟩ => ⟨S8x256x4x128, .f32⟩
  | .hbm, ⟨53, _⟩ => ⟨S8x256x4x128, .f32⟩
  | .hbm, ⟨54, _⟩ => ⟨S8x256x512, .f32⟩
  | .hbm, ⟨55, _⟩ => ⟨S8x256x512, .bf16⟩
  | .hbm, ⟨56, _⟩ => ⟨S8x256x512, .f32⟩
  | .hbm, ⟨57, _⟩ => ⟨S8x256x512, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩

abbrev nD : Nat := 1
abbrev τ : Topo := Topo.v7x

variable {F : FTy → Type} [FloatOps F]
-- ==== Kernel5.lean ====
abbrev S16x1024 : Shape := ⟨2, ![16, 1024]⟩
abbrev S1024x3072 : Shape := ⟨2, ![1024, 3072]⟩
abbrev S3072 : Shape := ⟨1, ![3072]⟩
abbrev S1x3072 : Shape := ⟨2, ![1, 3072]⟩
abbrev S16x3072 : Shape := ⟨2, ![16, 3072]⟩
abbrev S1024x1024 : Shape := ⟨2, ![1024, 1024]⟩
abbrev S1x1024 : Shape := ⟨2, ![1, 1024]⟩

abbrev nBuf : Space → Nat
  | .hbm => 9
  | .vmem => 13
  | .smem => 0
  | _ => 0

abbrev bufTy : (tb : Table) → Fin (tcTables nBuf tb) → BufTy
  | .hbm, ⟨0, _⟩ => ⟨S16x1024, .f32⟩
  | .hbm, ⟨1, _⟩ => ⟨S1024x3072, .f32⟩
  | .hbm, ⟨2, _⟩ => ⟨S3072, .f32⟩
  | .hbm, ⟨3, _⟩ => ⟨S1024x3072, .f32⟩
  | .hbm, ⟨4, _⟩ => ⟨S3072, .f32⟩
  | .hbm, ⟨5, _⟩ => ⟨S1x3072, .f32⟩
  | .hbm, ⟨6, _⟩ => ⟨S1x3072, .f32⟩
  | .hbm, ⟨7, _⟩ => ⟨S16x3072, .f32⟩
  | .hbm, ⟨8, _⟩ => ⟨S16x3072, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1x1024, .f32⟩
  | .local _ .vmem, ⟨9, _⟩ => ⟨S16x1024, .f32⟩
  | .local _ .vmem, ⟨10, _⟩ => ⟨S16x1024, .f32⟩
  | .local _ .vmem, ⟨11, _⟩ => ⟨S16x1024, .f32⟩
  | .local _ .vmem, ⟨12, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S16x1024 : Shape := ⟨2, ![16, 1024]⟩
abbrev S1024x3072 : Shape := ⟨2, ![1024, 3072]⟩
abbrev S3072 : Shape := ⟨1, ![3072]⟩
abbrev S_ : Shape := ⟨0, ![]⟩
abbrev S16x3072 : Shape := ⟨2, ![16, 3072]⟩
abbrev S1x3072 : Shape := ⟨2, ![1, 3072]⟩

abbrev nBuf : Space → Nat
  | .hbm => 22
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x3072, .f32⟩
  | .hbm, ⟨2, _⟩ => ⟨S3072, .f32⟩
  | .hbm, ⟨3, _⟩ => ⟨S1024x3072, .f32⟩
  | .hbm, ⟨4, _⟩ => ⟨S3072, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S16x1024, .f32⟩
  | .hbm, ⟨14, _⟩ => ⟨S16x3072, .f32⟩
  | .hbm, ⟨15, _⟩ => ⟨S1x3072, .f32⟩
  | .hbm, ⟨16, _⟩ => ⟨S16x3072, .f32⟩
  | .hbm, ⟨17, _⟩ => ⟨S16x3072, .f32⟩
  | .hbm, ⟨18, _⟩ => ⟨S16x3072, .f32⟩
  | .hbm, ⟨19, _⟩ => ⟨S1x3072, .f32⟩
  | .hbm, ⟨20, _⟩ => ⟨S16x3072, .f32⟩
  | .hbm, ⟨21, _⟩ => ⟨S16x3072, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Kernel6.lean ====
abbrev S8x8192x2048 : Shape := ⟨3, ![8, 8192, 2048]⟩
abbrev S8x8448x512 : Shape := ⟨3, ![8, 8448, 512]⟩
abbrev S1x512x512 : Shape := ⟨3, ![1, 512, 512]⟩
abbrev S1x8448x128 : Shape := ⟨3, ![1, 8448, 128]⟩
abbrev S2048x256 : Shape := ⟨2, ![2048, 256]⟩
abbrev S512x512 : Shape := ⟨2, ![512, 512]⟩
abbrev S512x128 : Shape := ⟨2, ![512, 128]⟩
abbrev S2048x128 : Shape := ⟨2, ![2048, 128]⟩
abbrev S2048x1 : Shape := ⟨2, ![2048, 1]⟩
abbrev S1x256x128 : Shape := ⟨3, ![1, 256, 128]⟩
abbrev S256x128 : Shape := ⟨2, ![256, 128]⟩
abbrev S2048 : Shape := ⟨1, ![2048]⟩
abbrev S1x512x128 : Shape := ⟨3, ![1, 512, 128]⟩

abbrev nBuf : Space → Nat
  | .hbm => 5
  | .vmem => 14
  | .smem => 0
  | _ => 0

abbrev bufTy : (tb : Table) → Fin (tcTables nBuf tb) → BufTy
  | .hbm, ⟨0, _⟩ => ⟨S8x8192x2048, .bf16⟩
  | .hbm, ⟨1, _⟩ => ⟨S8x8448x512, .bf16⟩
  | .hbm, ⟨2, _⟩ => ⟨S8x8448x512, .bf16⟩
  | .hbm, ⟨3, _⟩ => ⟨S8x8192x2048, .bf16⟩
  | .hbm, ⟨4, _⟩ => ⟨S8x8192x2048, .bf16⟩
  | .local _ .vmem, ⟨0, _⟩ => ⟨S1x512x512, .bf16⟩
  | .local _ .vmem, ⟨1, _⟩ => ⟨S1x512x512, .bf16⟩
  | .local _ .vmem, ⟨2, _⟩ => ⟨S1x8448x128, .bf16⟩
  | .local _ .vmem, ⟨3, _⟩ => ⟨S1x8448x128, .bf16⟩
  | .local _ .vmem, ⟨4, _⟩ => ⟨S1x8448x128, .bf16⟩
  | .local _ .vmem, ⟨5, _⟩ => ⟨S1x8448x128, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S2048x256, .f32⟩
  | .local _ .vmem, ⟨11, _⟩ => ⟨S2048x256, .f32⟩
  | .local _ .vmem, ⟨12, _⟩ => ⟨S2048x256, .bf16⟩
  | .local _ .vmem, ⟨13, _⟩ => ⟨S2048x256, .bf16⟩
  | _, _ => ⟨S8x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 16], ![false, false, false]⟩

@[reducible] def k0_t1_loop : Scf.Loop 32 :=
  let c0_i32 : BitVec 32 := 0#32
  let c15_i32 : BitVec 32 := 15#32
  let v39 : BitVec 32 := Scalar.addi c0_i32 c15_i32
  let c1_i32 : BitVec 32 := 1#32
  ⟨c0_i32, v39, c1_i32⟩
def k0_mult1 (k0_t1 : Fin k0_t1_loop.trips) : BitVec 32 :=
  let c2_i32 : BitVec 32 := 2#32
  let c0_i32 : BitVec 32 := 0#32
  let c1_i32 : BitVec 32 := 1#32
  let arg12 : BitVec 32 := Scf.iv c0_i32 c1_i32 k0_t1
  let v140 : BitVec 32 := Scalar.muli c2_i32 arg12
  let c2_i32_77 : BitVec 32 := 2#32
  let v141 : BitVec 32 := Scalar.addi v140 c2_i32_77
  let c256_i32 : BitVec 32 := 256#32
  let v142 : BitVec 32 := Scalar.muli v141 c256_i32
  v142
def k0_off1 (k0_t1 : Fin k0_t1_loop.trips) (c2_i32_77 : BitVec 32) : Fin 3 → Nat :=
  let c0_78 : Index := 0#32
  let c2_i32 : BitVec 32 := 2#32
  let c0_i32 : BitVec 32 := 0#32
  let c1_i32 : BitVec 32 := 1#32
  let arg12 : BitVec 32 := Scf.iv c0_i32 c1_i32 k0_t1
  let v140 : BitVec 32 := Scalar.muli c2_i32 arg12
  let v141 : BitVec 32 := Scalar.addi v140 c2_i32_77
  let c256_i32 : BitVec 32 := 256#32
  let v142 : BitVec 32 := Scalar.muli v141 c256_i32
  let v143 : BitVec 32 := v142
  let v144 : Index := Scalar.indexCast v143
  let c0_79 : Index := 0#32
  ![0, v144.toNat, 0]
def k0_mult2 (k0_t1 : Fin k0_t1_loop.trips) : BitVec 32 :=
  let c2_i32 : BitVec 32 := 2#32
  let c0_i32 : BitVec 32 := 0#32
  let c1_i32 : BitVec 32 := 1#32
  let arg12 : BitVec 32 := Scf.iv c0_i32 c1_i32 k0_t1
  let v140 : BitVec 32 := Scalar.muli c2_i32 arg12
  let c256_i32_85 : BitVec 32 := 256#32
  let v154 : BitVec 32 := Scalar.muli v140 c256_i32_85
  v154
def k0_off2 (k0_t1 : Fin k0_t1_loop.trips) : Fin 3 → Nat :=
  let c0_86 : Index := 0#32
  let c2_i32 : BitVec 32 := 2#32
  let c0_i32 : BitVec 32 := 0#32
  let c1_i32 : BitVec 32 := 1#32
  let arg12 : BitVec 32 := Scf.iv c0_i32 c1_i32 k0_t1
  let v140 : BitVec 32 := Scalar.muli c2_i32 arg12
  let c256_i32_85 : BitVec 32 := 256#32
  let v154 : BitVec 32 := Scalar.muli v140 c256_i32_85
  let v155 : BitVec 32 := v154
  let v156 : Index := Scalar.indexCast v155
  let c0_87 : Index := 0#32
  ![0, v156.toNat, 0]
def k0_mult3 (k0_t1 : Fin k0_t1_loop.trips) : BitVec 32 :=
  let c2_i32_95 : BitVec 32 := 2#32
  let c0_i32 : BitVec 32 := 0#32
  let c1_i32 : BitVec 32 := 1#32
  let arg12 : BitVec 32 := Scf.iv c0_i32 c1_i32 k0_t1
  let v178 : BitVec 32 := Scalar.muli c2_i32_95 arg12
  let c1_i32_96 : BitVec 32 := 1#32
  let v179 : BitVec 32 := Scalar.addi v178 c1_i32_96
  let c2_i32_97 : BitVec 32 := 2#32
  let v180 : BitVec 32 := Scalar.addi v179 c2_i32_97
  let c256_i32_98 : BitVec 32 := 256#32
  let v181 : BitVec 32 := Scalar.muli v180 c256_i32_98
  v181
def k0_off3 (k0_t1 : Fin k0_t1_loop.trips) : Fin 3 → Nat :=
  let c0_99 : Index := 0#32
  let c2_i32_95 : BitVec 32 := 2#32
  let c0_i32 : BitVec 32 := 0#32
  let c1_i32 : BitVec 32 := 1#32
  let arg12 : BitVec 32 := Scf.iv c0_i32 c1_i32 k0_t1
  let v178 : BitVec 32 := Scalar.muli c2_i32_95 arg12
  let c1_i32_96 : BitVec 32 := 1#32
  let v179 : BitVec 32 := Scalar.addi v178 c1_i32_96
  let c2_i32_97 : BitVec 32 := 2#32
  let v180 : BitVec 32 := Scalar.addi v179 c2_i32_97
  let c256_i32_98 : BitVec 32 := 256#32
  let v181 : BitVec 32 := Scalar.muli v180 c256_i32_98
  let v182 : BitVec 32 := v181
  let v183 : Index := Scalar.indexCast v182
  let c0_100 : Index := 0#32
  ![0, v183.toNat, 0]
def k0_mult4 (k0_t1 : Fin k0_t1_loop.trips) : BitVec 32 :=
  let c2_i32_95 : BitVec 32 := 2#32
  let c0_i32 : BitVec 32 := 0#32
  let c1_i32 : BitVec 32 := 1#32
  let arg12 : BitVec 32 := Scf.iv c0_i32 c1_i32 k0_t1
  let v178 : BitVec 32 := Scalar.muli c2_i32_95 arg12
  let c1_i32_96 : BitVec 32 := 1#32
  let v179 : BitVec 32 := Scalar.addi v178 c1_i32_96
  let c256_i32_106 : BitVec 32 := 256#32
  let v193 : BitVec 32 := Scalar.muli v179 c256_i32_106
  v193
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Kernel7.lean ====
abbrev S8x8192x1024 : Shape := ⟨3, ![8, 8192, 1024]⟩
abbrev S8x1024 : Shape := ⟨2, ![8, 1024]⟩
abbrev S8x256x1024 : Shape := ⟨3, ![8, 256, 1024]⟩
abbrev S1024 : Shape := ⟨1, ![1024]⟩
abbrev S1024x3072 : Shape := ⟨2, ![1024, 3072]⟩
abbrev S3072 : Shape := ⟨1, ![3072]⟩
abbrev S1024x5120 : Shape := ⟨2, ![1024, 5120]⟩
abbrev S128 : Shape := ⟨1, ![128]⟩
abbrev S2048x1024 : Shape := ⟨2, ![2048, 1024]⟩
abbrev S_ : Shape := ⟨0, ![]⟩
abbrev S16x1024 : Shape := ⟨2, ![16, 1024]⟩
abbrev S1 : Shape := ⟨1, ![1]⟩
abbrev S1x3072 : Shape := ⟨2, ![1, 3072]⟩
abbrev S16x3072 : Shape := ⟨2, ![16, 3072]⟩
abbrev S1024x1024 : Shape := ⟨2, ![1024, 1024]⟩
abbrev S1x1024 : Shape := ⟨2, ![1, 1024]⟩
abbrev S16x1x3072 : Shape := ⟨3, ![16, 1, 3072]⟩
abbrev S1x128 : Shape := ⟨2, ![1, 128]⟩
abbrev S128x1 : Shape := ⟨2, ![128, 1]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S8x8192x2048 : Shape := ⟨3, ![8, 8192, 2048]⟩
abbrev S8x8192x512 : Shape := ⟨3, ![8, 8192, 512]⟩
abbrev S1x512x1024 : Shape := ⟨3, ![1, 512, 1024]⟩
abbrev S1x1x3072 : Shape := ⟨3, ![1, 1, 3072]⟩
abbrev S512x128 : Shape := ⟨2, ![512, 128]⟩
abbrev S1x512x2048 : Shape := ⟨3, ![1, 512, 2048]⟩
abbrev S1x512x512 : Shape := ⟨3, ![1, 512, 512]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1x512x128 : Shape := ⟨3, ![1, 512, 128]⟩
abbrev S8x256x512 : Shape := ⟨3, ![8, 256, 512]⟩
abbrev S1x256x1024 : Shape := ⟨3, ![1, 256, 1024]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S256x128 : Shape := ⟨2, ![256, 128]⟩
abbrev S1x256x128 : Shape := ⟨3, ![1, 256, 128]⟩
abbrev S8x8448x512 : Shape := ⟨3, ![8, 8448, 512]⟩
abbrev S1x8448x128 : Shape := ⟨3, ![1, 8448, 128]⟩
abbrev S2048x256 : Shape := ⟨2, ![2048, 256]⟩
abbrev S2048x128 : Shape := ⟨2, ![2048, 128]⟩
abbrev S256x256 : Shape := ⟨2, ![256, 256]⟩
abbrev S512x2048 : Shape := ⟨2, ![512, 2048]⟩

abbrev nBuf : Space → Nat
  | .hbm => 91
  | .vmem => 65
  | .smem => 0
  | _ => 0

abbrev bufTy : (tb : Table) → Fin (tcTables nBuf tb) → BufTy
  | .hbm, ⟨0, _⟩ => ⟨S8x8192x1024, .f32⟩
  | .hbm, ⟨1, _⟩ => ⟨S8x1024, .f32⟩
  | .hbm, ⟨2, _⟩ => ⟨S8x256x1024, .f32⟩
  | .hbm, ⟨3, _⟩ => ⟨S1024, .f32⟩
  | .hbm, ⟨4, _⟩ => ⟨S1024x3072, .f32⟩
  | .hbm, ⟨5, _⟩ => ⟨S3072, .f32⟩
  | .hbm, ⟨6, _⟩ => ⟨S1024, .f32⟩
  | .hbm, ⟨7, _⟩ => ⟨S1024x3072, .f32⟩
  | .hbm, ⟨8, _⟩ => ⟨S3072, .f32⟩
  | .hbm, ⟨9, _⟩ => ⟨S1024x5120, .f32⟩
  | .hbm, ⟨10, _⟩ => ⟨S128, .f32⟩
  | .hbm, ⟨11, _⟩ => ⟨S128, .f32⟩
  | .hbm, ⟨12, _⟩ => ⟨S2048x1024, .f32⟩
  | .hbm, ⟨13, _⟩ => ⟨S1024, .f32⟩
  | .hbm, ⟨14, _⟩ => ⟨S_, .f32⟩
  | .hbm, ⟨15, _⟩ => ⟨S16x1024, .f32⟩
  | .hbm, ⟨16, _⟩ => ⟨S_, .i32⟩
  | .hbm, ⟨17, _⟩ => ⟨S1, .i32⟩
  | .hbm, ⟨18, _⟩ => ⟨S16x1024, .f32⟩
  | .hbm, ⟨19, _⟩ => ⟨S_, .i32⟩
  | .hbm, ⟨20, _⟩ => ⟨S1, .i32⟩
  | .hbm, ⟨21, _⟩ => ⟨S16x1024, .f32⟩
  | .hbm, ⟨22, _⟩ => ⟨S1x3072, .f32⟩
  | .hbm, ⟨23, _⟩ => ⟨S1x3072, .f32⟩
  | .hbm, ⟨24, _⟩ => ⟨S16x3072, .f32⟩
  | .hbm, ⟨25, _⟩ => ⟨S16x3072, .f32⟩
  | .hbm, ⟨26, _⟩ => ⟨S16x1x3072, .f32⟩
  | .hbm, ⟨27, _⟩ => ⟨S1x128, .f32⟩
  | .hbm, ⟨28, _⟩ => ⟨S_, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1024x5120, .bf16⟩
  | .hbm, ⟨33, _⟩ => ⟨S128, .i32⟩
  | .hbm, ⟨34, _⟩ => ⟨S128x1, .i32⟩
  | .hbm, ⟨35, _⟩ => ⟨S128x64, .i32⟩
  | .hbm, ⟨36, _⟩ => ⟨S8192, .i32⟩
  | .hbm, ⟨37, _⟩ => ⟨S64, .i32⟩
  | .hbm, ⟨38, _⟩ => ⟨S1x64, .i32⟩
  | .hbm, ⟨39, _⟩ => ⟨S128x64, .i32⟩
  | .hbm, ⟨40, _⟩ => ⟨S8192, .i32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S32, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S8192, .f32⟩
  | .hbm, ⟨56, _⟩ => ⟨S8192x1, .f32⟩
  | .hbm, ⟨57, _⟩ => ⟨S1x32, .f32⟩
  | .hbm, ⟨58, _⟩ => ⟨S8192x32, .f32⟩
  | .hbm, ⟨59, _⟩ => ⟨S8192x32, .f32⟩
  | .hbm, ⟨60, _⟩ => ⟨S8192x32, .f32⟩
  | .hbm, ⟨61, _⟩ => ⟨S8192, .f32⟩
  | .hbm, ⟨62, _⟩ => ⟨S8192x1, .f32⟩
  | .hbm, ⟨63, _⟩ => ⟨S1x32, .f32⟩
  | .hbm, ⟨64, _⟩ => ⟨S8192x32, .f32⟩
  | .hbm, ⟨65, _⟩ => ⟨S8192x32, .f32⟩
  | .hbm, ⟨66, _⟩ => ⟨S8192x32, .f32⟩
  | .hbm, ⟨67, _⟩ => ⟨S8192x32, .f32⟩
  | .hbm, ⟨68, _⟩ => ⟨S8192x32, .f32⟩
  | .hbm, ⟨69, _⟩ => ⟨S8192x128, .f32⟩
  | .hbm, ⟨70, _⟩ => ⟨S8192x32, .f32⟩
  | .hbm, ⟨71, _⟩ => ⟨S8192x32, .f32⟩
  | .hbm, ⟨72, _⟩ => ⟨S8192x32, .f32⟩
  | .hbm, ⟨73, _⟩ => ⟨S8192x32, .f32⟩
  | .hbm, ⟨74, _⟩ => ⟨S8192x32, .f32⟩
  | .hbm, ⟨75, _⟩ => ⟨S8192x32, .f32⟩
  | .hbm, ⟨76, _⟩ => ⟨S8192x128, .f32⟩
  | .hbm, ⟨77, _⟩ => ⟨S1x1024, .f32⟩
  | .hbm, ⟨78, _⟩ => ⟨S8x8192x2048, .bf16⟩
  | .hbm, ⟨79, _⟩ => ⟨S8x8192x512, .bf16⟩
  | .hbm, ⟨80, _⟩ => ⟨S8x8192x512, .bf16⟩
  | .hbm, ⟨81, _⟩ => ⟨S8x8192x2048, .bf16⟩
  | .hbm, ⟨82, _⟩ => ⟨S1x1024, .f32⟩
  | .hbm, ⟨83, _⟩ => ⟨S8x256x512, .bf16⟩
  | .hbm, ⟨84, _⟩ => ⟨S8x256x512, .bf16⟩
  | .hbm, ⟨85, _⟩ => ⟨S8x8448x512, .bf16⟩
  | .hbm, ⟨86, _⟩ => ⟨S8x8448x512, .bf16⟩
  | .hbm, ⟨87, _⟩ => ⟨S8x8192x2048, .bf16⟩
  | .hbm, ⟨88, _⟩ => ⟨S2048x1024, .bf16⟩
  | .hbm, ⟨89, _⟩ => ⟨S1x1024, .f32⟩
  | .hbm, ⟨90, _⟩ => ⟨S8x8192x1024, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1x1024, .f32⟩
  | .local _ .vmem, ⟨9, _⟩ => ⟨S16x1024, .f32⟩
  | .local _ .vmem, ⟨10, _⟩ => ⟨S16x1024, .f32⟩
  | .local _ .vmem, ⟨11, _⟩ => ⟨S16x1024, .f32⟩
  | .local _ .vmem, ⟨12, _⟩ => ⟨S16x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x1x3072, .f32⟩
  | .local _ .vmem, ⟨16, _⟩ => ⟨S1x1x3072, .f32⟩
  | .local _ .vmem, ⟨17, _⟩ => ⟨S1x1024, .f32⟩
  | .local _ .vmem, ⟨18, _⟩ => ⟨S1024x5120, .bf16⟩
  | .local _ .vmem, ⟨19, _⟩ => ⟨S1x128, .f32⟩
  | .local _ .vmem, ⟨20, _⟩ => ⟨S1x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S1x512x2048, .bf16⟩
  | .local _ .vmem, ⟨26, _⟩ => ⟨S1x512x2048, .bf16⟩
  | .local _ .vmem, ⟨27, _⟩ => ⟨S1x512x512, .bf16⟩
  | .local _ .vmem, ⟨28, _⟩ => ⟨S1x512x512, .bf16⟩
  | .local _ .vmem, ⟨29, _⟩ => ⟨S1x512x512, .bf16⟩
  | .local _ .vmem, ⟨30, _⟩ => ⟨S1x512x512, .bf16⟩
  | .local _ .vmem, ⟨31, _⟩ => ⟨S1x512x2048, .bf16⟩
  | .local _ .vmem, ⟨32, _⟩ => ⟨S1x512x2048, .bf16⟩
  | .local _ .vmem, ⟨33, _⟩ => ⟨S1x256x1024, .f32⟩
  | .local _ .vmem, ⟨34, _⟩ => ⟨S1x256x1024, .f32⟩
  | .local _ .vmem, ⟨35, _⟩ => ⟨S1x1x3072, .f32⟩
  | .local _ .vmem, ⟨36, _⟩ => ⟨S1x1024, .f32⟩
  | .local _ .vmem, ⟨37, _⟩ => ⟨S1024x5120, .bf16⟩
  | .local _ .vmem, ⟨38, _⟩ => ⟨S1x128, .f32⟩
  | .local _ .vmem, ⟨39, _⟩ => ⟨S1x256x512, .bf16⟩
  | .local _ .vmem, ⟨40, _⟩ => ⟨S1x256x512, .bf16⟩
  | .local _ .vmem, ⟨41, _⟩ => ⟨S1x256x512, .bf16⟩
  | .local _ .vmem, ⟨42, _⟩ => ⟨S1x256x512, .bf16⟩
  | .local _ .vmem, ⟨43, _⟩ => ⟨S1x512x512, .bf16⟩
  | .local _ .vmem, ⟨44, _⟩ => ⟨S1x512x512, .bf16⟩
  | .local _ .vmem, ⟨45, _⟩ => ⟨S1x8448x128, .bf16⟩
  | .local _ .vmem, ⟨46, _⟩ => ⟨S1x8448x128, .bf16⟩
  | .local _ .vmem, ⟨47, _⟩ => ⟨S1x8448x128, .bf16⟩
  | .local _ .vmem, ⟨48, _⟩ => ⟨S1x8448x128, .bf16⟩
  | .local _ .vmem, ⟨49, _⟩ => ⟨S1x512x512, .bf16⟩
  | .local _ .vmem, ⟨50, _⟩ => ⟨S1x512x512, .bf16⟩
  | .local _ .vmem, ⟨51, _⟩ => ⟨S1x512x512, .bf16⟩
  | .local _ .vmem, ⟨52, _⟩ => ⟨S1x512x512, .bf16⟩
  | .local _ .vmem, ⟨53, _⟩ => ⟨S2048x256, .bf16⟩
  | .local _ .vmem, ⟨54, _⟩ => ⟨S2048x256, .bf16⟩
  | .local _ .vmem, ⟨55, _⟩ => ⟨S1x512x2048, .bf16⟩
  | .local _ .vmem, ⟨56, _⟩ => ⟨S1x512x2048, .bf16⟩
  | .local _ .vmem, ⟨57, _⟩ => ⟨S1x512x1024, .f32⟩
  | .local _ .vmem, ⟨58, _⟩ => ⟨S1x512x1024, .f32⟩
  | .local _ .vmem, ⟨59, _⟩ => ⟨S1x1x3072, .f32⟩
  | .local _ .vmem, ⟨60, _⟩ => ⟨S1x1x3072, .f32⟩
  | .local _ .vmem, ⟨61, _⟩ => ⟨S2048x1024, .bf16⟩
  | .local _ .vmem, ⟨62, _⟩ => ⟨S1x1024, .f32⟩
  | .local _ .vmem, ⟨63, _⟩ => ⟨S1x512x1024, .f32⟩
  | .local _ .vmem, ⟨64, _⟩ => ⟨S1x512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7_0 : Ref sig .tc := ⟨.hbm, 24, rfl⟩
abbrev main_v7_1 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55_0 : Ref sig .tc := ⟨.hbm, 78, rfl⟩
abbrev main_v55_1 : Ref sig .tc := ⟨.hbm, 79, rfl⟩
abbrev main_v55_2 : Ref sig .tc := ⟨.hbm, 80, rfl⟩
abbrev main_v55_3 : Ref sig .tc := ⟨.hbm, 81, rfl⟩
abbrev main_v56 : Ref sig .tc := ⟨.hbm, 82, rfl⟩
abbrev main_v57_0 : Ref sig .tc := ⟨.hbm, 83, rfl⟩
abbrev main_v57_1 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_stg8_1 : Ref sig .tc := ⟨.vmem, 26, rfl⟩
abbrev cc1_stg9_0 : Ref sig .tc := ⟨.vmem, 27, rfl⟩
abbrev cc1_stg9_1 : Ref sig .tc := ⟨.vmem, 28, rfl⟩
abbrev cc1_stg10_0 : Ref sig .tc := ⟨.vmem, 29, rfl⟩
abbrev cc1_stg10_1 : Ref sig .tc := ⟨.vmem, 30, rfl⟩
abbrev cc1_stg11_0 : Ref sig .tc := ⟨.vmem, 31, rfl⟩
abbrev cc1_stg11_1 : Ref sig .tc := ⟨.vmem, 32, rfl⟩
abbrev cc2_stg0_0 : Ref sig .tc := ⟨.vmem, 33, rfl⟩
abbrev cc2_stg0_1 : Ref sig .tc := ⟨.vmem, 34, rfl⟩
abbrev cc2_stg1_0 : Ref sig .tc := ⟨.vmem, 35, rfl⟩
abbrev cc2_stg2_0 : Ref sig .tc := ⟨.vmem, 36, rfl⟩
abbrev cc2_stg3_0 : Ref sig .tc := ⟨.vmem, 37, rfl⟩
abbrev cc2_stg4_0 : Ref sig .tc := ⟨.vmem, 38, rfl⟩
abbrev cc2_stg5_0 : Ref sig .tc := ⟨.vmem, 39, rfl⟩
abbrev cc2_stg5_1 : Ref sig .tc := ⟨.vmem, 40, rfl⟩
abbrev cc2_stg6_0 : Ref sig .tc := ⟨.vmem, 41, rfl⟩
abbrev cc2_stg6_1 : Ref sig .tc := ⟨.vmem, 42, rfl⟩
abbrev cc3_stg0_0 : Ref sig .tc := ⟨.vmem, 43, rfl⟩
abbrev cc3_stg0_1 : Ref sig .tc := ⟨.vmem, 44, rfl⟩
abbrev cc3_stg1_0 : Ref sig .tc := ⟨.vmem, 45, rfl⟩
abbrev cc3_stg1_1 : Ref sig .tc := ⟨.vmem, 46, rfl⟩
abbrev cc3_stg2_0 : Ref sig .tc := ⟨.vmem, 47, rfl⟩
abbrev cc3_stg2_1 : Ref sig .tc := ⟨.vmem, 48, rfl⟩
abbrev cc3_stg3_0 : Ref sig .tc := ⟨.vmem, 49, rfl⟩
abbrev cc3_stg3_1 : Ref sig .tc := ⟨.vmem, 50, rfl⟩
abbrev cc3_stg4_0 : Ref sig .tc := ⟨.vmem, 51, rfl⟩
abbrev cc3_stg4_1 : Ref sig .tc := ⟨.vmem, 52, rfl⟩
abbrev cc3_scratch0 : Ref sig .tc := ⟨.vmem, 53, rfl⟩
abbrev cc3_scratch1 : Ref sig .tc := ⟨.vmem, 54, rfl⟩
abbrev cc4_stg0_0 : Ref sig .tc := ⟨.vmem, 55, rfl⟩
abbrev cc4_stg0_1 : Ref sig .tc := ⟨.vmem, 56, rfl⟩
abbrev cc4_stg1_0 : Ref sig .tc := ⟨.vmem, 57, rfl⟩
abbrev cc4_stg1_1 : Ref sig .tc := ⟨.vmem, 58, rfl⟩
abbrev cc4_stg2_0 : Ref sig .tc := ⟨.vmem, 59, rfl⟩
abbrev cc4_stg2_1 : Ref sig .tc := ⟨.vmem, 60, rfl⟩
abbrev cc4_stg3_0 : Ref sig .tc := ⟨.vmem, 61, rfl⟩
abbrev cc4_stg4_0 : Ref sig .tc := ⟨.vmem, 62, rfl⟩
abbrev cc4_stg5_0 : Ref sig .tc := ⟨.vmem, 63, rfl⟩
abbrev cc4_stg5_1 : Ref sig .tc := ⟨.vmem, 64, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem6_1 : DmaSem sig := 22
abbrev cc1_sem7_0 : DmaSem sig := 23
abbrev cc1_sem7_1 : DmaSem sig := 24
abbrev cc1_sem8_0 : DmaSem sig := 25
abbrev cc1_sem8_1 : DmaSem sig := 26
abbrev cc1_sem9_0 : DmaSem sig := 27
abbrev cc1_sem9_1 : DmaSem sig := 28
abbrev cc1_sem10_0 : DmaSem sig := 29
abbrev cc1_sem10_1 : DmaSem sig := 30
abbrev cc1_sem11_0 : DmaSem sig := 31
abbrev cc1_sem11_1 : DmaSem sig := 32
abbrev cc2_sem0_0 : DmaSem sig := 33
abbrev cc2_sem0_1 : DmaSem sig := 34
abbrev cc2_sem1_0 : DmaSem sig := 35
abbrev cc2_sem2_0 : DmaSem sig := 36
abbrev cc2_sem3_0 : DmaSem sig := 37
abbrev cc2_sem4_0 : DmaSem sig := 38
abbrev cc2_sem5_0 : DmaSem sig := 39
abbrev cc2_sem5_1 : DmaSem sig := 40
abbrev cc2_sem6_0 : DmaSem sig := 41
abbrev cc2_sem6_1 : DmaSem sig := 42
abbrev cc3_sem0_0 : DmaSem sig := 43
abbrev cc3_sem0_1 : DmaSem sig := 44
abbrev cc3_sem1_0 : DmaSem sig := 45
abbrev cc3_sem1_1 : DmaSem sig := 46
abbrev cc3_sem2_0 : DmaSem sig := 47
abbrev cc3_sem2_1 : DmaSem sig := 48
abbrev cc3_sem3_0 : DmaSem sig := 49
abbrev cc3_sem3_1 : DmaSem sig := 50
abbrev cc3_sem4_0 : DmaSem sig := 51
abbrev cc3_sem4_1 : DmaSem sig := 52
abbrev cc4_sem0_0 : DmaSem sig := 53
abbrev cc4_sem0_1 : DmaSem sig := 54
abbrev cc4_sem1_0 : DmaSem sig := 55
abbrev cc4_sem1_1 : DmaSem sig := 56
abbrev cc4_sem2_0 : DmaSem sig := 57
abbrev cc4_sem2_1 : DmaSem sig := 58
abbrev cc4_sem3_0 : DmaSem sig := 59
abbrev cc4_sem4_0 : DmaSem sig := 60
abbrev cc4_sem5_0 : DmaSem sig := 61
abbrev cc4_sem5_1 : DmaSem sig := 62

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x3072 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024x5120 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S512x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S1x512x2048 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x512x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x512x512 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x512x2048 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev grid2 : Pipeline.Grid := ⟨2, ![8, 1], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x1x3072 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1024x5120 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x256x512 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x256x512 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev grid3 : Pipeline.Grid := ⟨3, ![8, 4, 16], ![false, false, false]⟩

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc3_transform_4 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage3_0 : Fin 2 → Memref sig .tc .vmem S1x512x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x8448x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, false]

abbrev stage3_2 : Fin 2 → Memref sig .tc .vmem S1x8448x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1x512x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true]

abbrev stage3_4 : Fin 2 → Memref sig .tc .vmem S1x512x512 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, true]

abbrev grid4 : Pipeline.Grid := ⟨2, ![8, 16], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S1x512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x512x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x1x3072 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 1 → Memref sig .tc .vmem S2048x1024 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S1x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 2 → Memref sig .tc .vmem S1x512x1024 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]
-- ==== Reference7Ideal.lean ====
abbrev S8x8192x1024 : Shape := ⟨3, ![8, 8192, 1024]⟩
abbrev S8x1024 : Shape := ⟨2, ![8, 1024]⟩
abbrev S8x256x1024 : Shape := ⟨3, ![8, 256, 1024]⟩
abbrev S1024 : Shape := ⟨1, ![1024]⟩
abbrev S1024x3072 : Shape := ⟨2, ![1024, 3072]⟩
abbrev S3072 : Shape := ⟨1, ![3072]⟩
abbrev S1024x5120 : Shape := ⟨2, ![1024, 5120]⟩
abbrev S128 : Shape := ⟨1, ![128]⟩
abbrev S2048x1024 : Shape := ⟨2, ![2048, 1024]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S16x3072 : Shape := ⟨2, ![16, 3072]⟩
abbrev S1x3072 : Shape := ⟨2, ![1, 3072]⟩
abbrev S8x3072 : Shape := ⟨2, ![8, 3072]⟩
abbrev S8x1x3072 : Shape := ⟨3, ![8, 1, 3072]⟩
abbrev S8x1x1024 : Shape := ⟨3, ![8, 1, 1024]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5120 : Shape := ⟨3, ![8, 8192, 5120]⟩
abbrev S8x8192x2048 : Shape := ⟨3, ![8, 8192, 2048]⟩
abbrev S8x8192x512 : Shape := ⟨3, ![8, 8192, 512]⟩
abbrev S8192 : Shape := ⟨1, ![8192]⟩
abbrev S8192x1 : Shape := ⟨2, ![8192, 1]⟩
abbrev S8192x2 : Shape := ⟨2, ![8192, 2]⟩
abbrev S32 : Shape := ⟨1, ![32]⟩
abbrev S8192x2x1 : Shape := ⟨3, ![8192, 2, 1]⟩
abbrev S1x1x32 : Shape := ⟨3, ![1, 1, 32]⟩
abbrev S8192x2x32 : Shape := ⟨3, ![8192, 2, 32]⟩
abbrev S8x8192x16x128 : Shape := ⟨4, ![8, 8192, 16, 128]⟩
abbrev S8x8192x16 : Shape := ⟨3, ![8, 8192, 16]⟩
abbrev S8x8192x16x1 : Shape := ⟨4, ![8, 8192, 16, 1]⟩
abbrev S1x1x1x128 : Shape := ⟨4, ![1, 1, 1, 128]⟩
abbrev S8x8192x16x2x2x32 : Shape := ⟨6, ![8, 8192, 16, 2, 2, 32]⟩
abbrev S8x8192x16x2x1x32 : Shape := ⟨6, ![8, 8192, 16, 2, 1, 32]⟩
abbrev S8x8192x16x2x32 : Shape := ⟨5, ![8, 8192, 16, 2, 32]⟩
abbrev S8192x1x2x32 : Shape := ⟨4, ![8192, 1, 2, 32]⟩
abbrev S1x8192x1x2x32 : Shape := ⟨5, ![1, 8192, 1, 2, 32]⟩
abbrev S8x8192x4x128 : Shape := ⟨4, ![8, 8192, 4, 128]⟩
abbrev S8x8192x4 : Shape := ⟨3, ![8, 8192, 4]⟩
abbrev S8x8192x4x1 : Shape := ⟨4, ![8, 8192, 4, 1]⟩
abbrev S8x8192x4x2x2x32 : Shape := ⟨6, ![8, 8192, 4, 2, 2, 32]⟩
abbrev S8x8192x4x2x1x32 : Shape := ⟨6, ![8, 8192, 4, 2, 1, 32]⟩
abbrev S8x8192x4x2x32 : Shape := ⟨5, ![8, 8192, 4, 2, 32]⟩
abbrev S8x256 : Shape := ⟨2, ![8, 256]⟩
abbrev S8x256x1 : Shape := ⟨3, ![8, 256, 1]⟩
abbrev S1024x1024 : Shape := ⟨2, ![1024, 1024]⟩
abbrev S8x256x512 : Shape := ⟨3, ![8, 256, 512]⟩
abbrev S8x256x4x128 : Shape := ⟨4, ![8, 256, 4, 128]⟩
abbrev S8x256x4 : Shape := ⟨3, ![8, 256, 4]⟩
abbrev S8x256x4x1 : Shape := ⟨4, ![8, 256, 4, 1]⟩
abbrev S8x8448x512 : Shape := ⟨3, ![8, 8448, 512]⟩
abbrev S8x8192x4x4x128 : Shape := ⟨5, ![8, 8192, 4, 4, 128]⟩
abbrev S8x8448x4x128 : Shape := ⟨4, ![8, 8448, 4, 128]⟩
abbrev S8x4x8448x8192x4 : Shape := ⟨5, ![8, 4, 8448, 8192, 4]⟩
abbrev S8x4x4x8192x8448 : Shape := ⟨5, ![8, 4, 4, 8192, 8448]⟩
abbrev S8x4x4x8192 : Shape := ⟨4, ![8, 4, 4, 8192]⟩
abbrev S8x4x4x8192x1 : Shape := ⟨5, ![8, 4, 4, 8192, 1]⟩
abbrev S8x4x128x4x8192 : Shape := ⟨5, ![8, 4, 128, 4, 8192]⟩

abbrev nBuf : Space → Nat
  | .hbm => 346
  | .vmem => 0
  | .smem => 0
  | _ => 0

abbrev hbmTy0_0 (i : Nat) : BufTy := match i % 128 with
  | 0 => ⟨S8x8192x1024, .f32⟩
  | 1 => ⟨S8x1024, .f32⟩
  | 2 => ⟨S8x256x1024, .f32⟩
  | 3 => ⟨S1024, .f32⟩
  | 4 => ⟨S1024x3072, .f32⟩
  | 5 => ⟨S3072, .f32⟩
  | 6 => ⟨S1024, .f32⟩
  | 7 => ⟨S1024x3072, .f32⟩
  | 8 => ⟨S3072, .f32⟩
  | 9 => ⟨S1024x5120, .f32⟩
  | 10 => ⟨S128, .f32⟩
  | 11 => ⟨S128, .f32⟩
  | 12 => ⟨S2048x1024, .f32⟩
  | 13 => ⟨S1024, .f32⟩
  | 14 => ⟨S1x1024, .f32⟩
  | 15 => ⟨S_, .f32⟩
  | 16 => ⟨S7x1024, .f32⟩
  | 17 => ⟨S16x1024, .f32⟩
  | 18 => ⟨S16x1024, .f32⟩
  | 19 => ⟨S16x1024, .f32⟩
  | 20 => ⟨S_, .f32⟩
  | 21 => ⟨S16x1024, .f32⟩
  | 22 => ⟨S16x1024, .f32⟩
  | 23 => ⟨S_, .f32⟩
  | 24 => ⟨S16x1024, .f32⟩
  | 25 => ⟨S16x1024, .f32⟩
  | 26 => ⟨S16x1024, .f32⟩
  | 27 => ⟨S16x3072, .f32⟩
  | 28 => ⟨S1x3072, .f32⟩
  | 29 => ⟨S16x3072, .f32⟩
  | 30 => ⟨S16x3072, .f32⟩
  | 31 => ⟨S8x3072, .f32⟩
  | 32 => ⟨S8x1x3072, .f32⟩
  | 33 => ⟨S8x1x1024, .f32⟩
  | 34 => ⟨S8x1x1024, .f32⟩
  | 35 => ⟨S8x1x1024, .f32⟩
  | 36 => ⟨S8x8192x1024, .f32⟩
  | 37 => ⟨S_, .f32⟩
  | 38 => ⟨S8x8192, .f32⟩
  | 39 => ⟨S8x8192x1, .f32⟩
  | 40 => ⟨S_, .f32⟩
  | 41 => ⟨S8x8192x1, .f32⟩
  | 42 => ⟨S8x8192x1, .f32⟩
  | 43 => ⟨S_, .f32⟩
  | 44 => ⟨S8x8192x1, .f32⟩
  | 45 => ⟨S8x8192x1, .f32⟩
  | 46 => ⟨S8x8192x1, .f32⟩
  | 47 => ⟨S8x8192x1024, .f32⟩
  | 48 => ⟨S8x8192x1024, .f32⟩
  | 49 => ⟨S1x1x1024, .f32⟩
  | 50 => ⟨S8x8192x1024, .f32⟩
  | 51 => ⟨S8x8192x1024, .f32⟩
  | 52 => ⟨S_, .f32⟩
  | 53 => ⟨S8x1x1024, .f32⟩
  | 54 => ⟨S8x1x1024, .f32⟩
  | 55 => ⟨S8x8192x1024, .f32⟩
  | 56 => ⟨S8x8192x1024, .f32⟩
  | 57 => ⟨S8x8192x1024, .f32⟩
  | 58 => ⟨S8x8192x1024, .f32⟩
  | 59 => ⟨S8x8192x5120, .f32⟩
  | 60 => ⟨S8x8192x2048, .f32⟩
  | 61 => ⟨S8x8192x512, .f32⟩
  | 62 => ⟨S8x8192x512, .f32⟩
  | 63 => ⟨S8x8192x2048, .f32⟩
  | 64 => ⟨S8192, .i32⟩
  | 65 => ⟨S_, .i32⟩
  | 66 => ⟨S_, .i32⟩
  | 67 => ⟨S8192, .i32⟩
  | 68 => ⟨S8192, .i32⟩
  | 69 => ⟨S8192, .i32⟩
  | 70 => ⟨S_, .i32⟩
  | 71 => ⟨S8192, .i32⟩
  | 72 => ⟨S8192, .i1⟩
  | 73 => ⟨S8192, .i32⟩
  | 74 => ⟨S8192, .i32⟩
  | 75 => ⟨S_, .i32⟩
  | 76 => ⟨S8192, .i32⟩
  | 77 => ⟨S8192, .i1⟩
  | 78 => ⟨S8192, .i1⟩
  | 79 => ⟨S_, .i32⟩
  | 80 => ⟨S8192, .i32⟩
  | 81 => ⟨S8192, .i32⟩
  | 82 => ⟨S8192, .i32⟩
  | 83 => ⟨S_, .i32⟩
  | 84 => ⟨S_, .i32⟩
  | 85 => ⟨S_, .i32⟩
  | 86 => ⟨S_, .i1⟩
  | 87 => ⟨S_, .i32⟩
  | 88 => ⟨S_, .i32⟩
  | 89 => ⟨S8192, .i32⟩
  | 90 => ⟨S8192, .i32⟩
  | 91 => ⟨S_, .i32⟩
  | 92 => ⟨S8192, .i32⟩
  | 93 => ⟨S8192, .i1⟩
  | 94 => ⟨S_, .i32⟩
  | 95 => ⟨S8192, .i32⟩
  | 96 => ⟨S8192, .i1⟩
  | 97 => ⟨S_, .i32⟩
  | 98 => ⟨S_, .i1⟩
  | 99 => ⟨S8192, .i1⟩
  | 100 => ⟨S8192, .i1⟩
  | 101 => ⟨S8192, .i1⟩
  | 102 => ⟨S8192, .i32⟩
  | 103 => ⟨S8192, .i32⟩
  | 104 => ⟨S8192, .i32⟩
  | 105 => ⟨S8192x1, .i32⟩
  | 106 => ⟨S8192x1, .i32⟩
  | 107 => ⟨S8192x2, .i32⟩
  | 108 => ⟨S8192x2, .f32⟩
  | 109 => ⟨S32, .f32⟩
  | 110 => ⟨S_, .f32⟩
  | 111 => ⟨S32, .f32⟩
  | 112 => ⟨S32, .f32⟩
  | 113 => ⟨S_, .f32⟩
  | 114 => ⟨S32, .f32⟩
  | 115 => ⟨S32, .f32⟩
  | 116 => ⟨S32, .f32⟩
  | 117 => ⟨S_, .f32⟩
  | 118 => ⟨S32, .f32⟩
  | 119 => ⟨S32, .f32⟩
  | 120 => ⟨S_, .f32⟩
  | 121 => ⟨S32, .f32⟩
  | 122 => ⟨S32, .f32⟩
  | 123 => ⟨S8192x2x1, .f32⟩
  | 124 => ⟨S1x1x32, .f32⟩
  | 125 => ⟨S8192x2x32, .f32⟩
  | 126 => ⟨S8192x2x32, .f32⟩
  | 127 => ⟨S8192x2x32, .f32⟩
  | _ => ⟨S8x8192x1024, .f32⟩

abbrev hbmTy0_1 (i : Nat) : BufTy := match i % 128 with
  | 0 => ⟨S8192x2x32, .f32⟩
  | 1 => ⟨S8192x2x32, .f32⟩
  | 2 => ⟨S8x8192x16x128, .f32⟩
  | 3 => ⟨S8x8192x16x128, .f32⟩
  | 4 => ⟨S_, .f32⟩
  | 5 => ⟨S8x8192x16, .f32⟩
  | 6 => ⟨S8x8192x16x1, .f32⟩
  | 7 => ⟨S_, .f32⟩
  | 8 => ⟨S8x8192x16x1, .f32⟩
  | 9 => ⟨S8x8192x16x1, .f32⟩
  | 10 => ⟨S_, .f32⟩
  | 11 => ⟨S8x8192x16x1, .f32⟩
  | 12 => ⟨S8x8192x16x1, .f32⟩
  | 13 => ⟨S8x8192x16x1, .f32⟩
  | 14 => ⟨S8x8192x16x128, .f32⟩
  | 15 => ⟨S8x8192x16x128, .f32⟩
  | 16 => ⟨S1x1x1x128, .f32⟩
  | 17 => ⟨S8x8192x16x128, .f32⟩
  | 18 => ⟨S8x8192x16x128, .f32⟩
  | 19 => ⟨S8x8192x16x2x2x32, .f32⟩
  | 20 => ⟨S8x8192x16x2x1x32, .f32⟩
  | 21 => ⟨S8x8192x16x2x32, .f32⟩
  | 22 => ⟨S8x8192x16x2x1x32, .f32⟩
  | 23 => ⟨S8x8192x16x2x32, .f32⟩
  | 24 => ⟨S8192x1x2x32, .f32⟩
  | 25 => ⟨S8192x1x2x32, .f32⟩
  | 26 => ⟨S1x8192x1x2x32, .f32⟩
  | 27 => ⟨S8x8192x16x2x32, .f32⟩
  | 28 => ⟨S8x8192x16x2x32, .f32⟩
  | 29 => ⟨S1x8192x1x2x32, .f32⟩
  | 30 => ⟨S8x8192x16x2x32, .f32⟩
  | 31 => ⟨S8x8192x16x2x32, .f32⟩
  | 32 => ⟨S8x8192x16x2x32, .f32⟩
  | 33 => ⟨S1x8192x1x2x32, .f32⟩
  | 34 => ⟨S8x8192x16x2x32, .f32⟩
  | 35 => ⟨S8x8192x16x2x32, .f32⟩
  | 36 => ⟨S1x8192x1x2x32, .f32⟩
  | 37 => ⟨S8x8192x16x2x32, .f32⟩
  | 38 => ⟨S8x8192x16x2x32, .f32⟩
  | 39 => ⟨S8x8192x16x2x32, .f32⟩
  | 40 => ⟨S8x8192x16x2x1x32, .f32⟩
  | 41 => ⟨S8x8192x16x2x1x32, .f32⟩
  | 42 => ⟨S8x8192x16x2x2x32, .f32⟩
  | 43 => ⟨S8x8192x16x128, .f32⟩
  | 44 => ⟨S_, .f32⟩
  | 45 => ⟨S8x8192x16x128, .f32⟩
  | 46 => ⟨S8x8192x16x128, .f32⟩
  | 47 => ⟨S8x8192x4x128, .f32⟩
  | 48 => ⟨S8x8192x4x128, .f32⟩
  | 49 => ⟨S_, .f32⟩
  | 50 => ⟨S8x8192x4, .f32⟩
  | 51 => ⟨S8x8192x4x1, .f32⟩
  | 52 => ⟨S_, .f32⟩
  | 53 => ⟨S8x8192x4x1, .f32⟩
  | 54 => ⟨S8x8192x4x1, .f32⟩
  | 55 => ⟨S_, .f32⟩
  | 56 => ⟨S8x8192x4x1, .f32⟩
  | 57 => ⟨S8x8192x4x1, .f32⟩
  | 58 => ⟨S8x8192x4x1, .f32⟩
  | 59 => ⟨S8x8192x4x128, .f32⟩
  | 60 => ⟨S8x8192x4x128, .f32⟩
  | 61 => ⟨S1x1x1x128, .f32⟩
  | 62 => ⟨S8x8192x4x128, .f32⟩
  | 63 => ⟨S8x8192x4x128, .f32⟩
  | 64 => ⟨S8x8192x4x2x2x32, .f32⟩
  | 65 => ⟨S8x8192x4x2x1x32, .f32⟩
  | 66 => ⟨S8x8192x4x2x32, .f32⟩
  | 67 => ⟨S8x8192x4x2x1x32, .f32⟩
  | 68 => ⟨S8x8192x4x2x32, .f32⟩
  | 69 => ⟨S8192x1x2x32, .f32⟩
  | 70 => ⟨S8192x1x2x32, .f32⟩
  | 71 => ⟨S1x8192x1x2x32, .f32⟩
  | 72 => ⟨S8x8192x4x2x32, .f32⟩
  | 73 => ⟨S8x8192x4x2x32, .f32⟩
  | 74 => ⟨S1x8192x1x2x32, .f32⟩
  | 75 => ⟨S8x8192x4x2x32, .f32⟩
  | 76 => ⟨S8x8192x4x2x32, .f32⟩
  | 77 => ⟨S8x8192x4x2x32, .f32⟩
  | 78 => ⟨S1x8192x1x2x32, .f32⟩
  | 79 => ⟨S8x8192x4x2x32, .f32⟩
  | 80 => ⟨S8x8192x4x2x32, .f32⟩
  | 81 => ⟨S1x8192x1x2x32, .f32⟩
  | 82 => ⟨S8x8192x4x2x32, .f32⟩
  | 83 => ⟨S8x8192x4x2x32, .f32⟩
  | 84 => ⟨S8x8192x4x2x32, .f32⟩
  | 85 => ⟨S8x8192x4x2x1x32, .f32⟩
  | 86 => ⟨S8x8192x4x2x1x32, .f32⟩
  | 87 => ⟨S8x8192x4x2x2x32, .f32⟩
  | 88 => ⟨S8x8192x4x128, .f32⟩
  | 89 => ⟨S8x8192x2048, .f32⟩
  | 90 => ⟨S8x8192x2048, .bf16⟩
  | 91 => ⟨S8x8192x512, .f32⟩
  | 92 => ⟨S8x8192x512, .bf16⟩
  | 93 => ⟨S8x8192x512, .bf16⟩
  | 94 => ⟨S8x8192x2048, .f32⟩
  | 95 => ⟨S8x8192x2048, .f32⟩
  | 96 => ⟨S_, .f32⟩
  | 97 => ⟨S8x8192x2048, .f32⟩
  | 98 => ⟨S8x8192x2048, .f32⟩
  | 99 => ⟨S_, .f32⟩
  | 100 => ⟨S8x8192x2048, .f32⟩
  | 101 => ⟨S8x8192x2048, .f32⟩
  | 102 => ⟨S8x8192x2048, .f32⟩
  | 103 => ⟨S8x8192x2048, .bf16⟩
  | 104 => ⟨S1x3072, .f32⟩
  | 105 => ⟨S1x1024, .f32⟩
  | 106 => ⟨S1x1024, .f32⟩
  | 107 => ⟨S1x1024, .f32⟩
  | 108 => ⟨S8x256x1024, .f32⟩
  | 109 => ⟨S_, .f32⟩
  | 110 => ⟨S8x256, .f32⟩
  | 111 => ⟨S8x256x1, .f32⟩
  | 112 => ⟨S_, .f32⟩
  | 113 => ⟨S8x256x1, .f32⟩
  | 114 => ⟨S8x256x1, .f32⟩
  | 115 => ⟨S_, .f32⟩
  | 116 => ⟨S8x256x1, .f32⟩
  | 117 => ⟨S8x256x1, .f32⟩
  | 118 => ⟨S8x256x1, .f32⟩
  | 119 => ⟨S8x256x1024, .f32⟩
  | 120 => ⟨S8x256x1024, .f32⟩
  | 121 => ⟨S1x1x1024, .f32⟩
  | 122 => ⟨S8x256x1024, .f32⟩
  | 123 => ⟨S8x256x1024, .f32⟩
  | 124 => ⟨S_, .f32⟩
  | 125 => ⟨S1x1024, .f32⟩
  | 126 => ⟨S1x1024, .f32⟩
  | 127 => ⟨S1x1x1024, .f32⟩
  | _ => ⟨S8x8192x1024, .f32⟩

abbrev hbmTy0_2 (i : Nat) : BufTy := match i % 128 with
  | 0 => ⟨S8x256x1024, .f32⟩
  | 1 => ⟨S8x256x1024, .f32⟩
  | 2 => ⟨S1x1x1024, .f32⟩
  | 3 => ⟨S8x256x1024, .f32⟩
  | 4 => ⟨S8x256x1024, .f32⟩
  | 5 => ⟨S1024x1024, .f32⟩
  | 6 => ⟨S8x256x1024, .f32⟩
  | 7 => ⟨S8x256x512, .f32⟩
  | 8 => ⟨S8x256x4x128, .f32⟩
  | 9 => ⟨S8x256x4x128, .f32⟩
  | 10 => ⟨S_, .f32⟩
  | 11 => ⟨S8x256x4, .f32⟩
  | 12 => ⟨S8x256x4x1, .f32⟩
  | 13 => ⟨S_, .f32⟩
  | 14 => ⟨S8x256x4x1, .f32⟩
  | 15 => ⟨S8x256x4x1, .f32⟩
  | 16 => ⟨S_, .f32⟩
  | 17 => ⟨S8x256x4x1, .f32⟩
  | 18 => ⟨S8x256x4x1, .f32⟩
  | 19 => ⟨S8x256x4x1, .f32⟩
  | 20 => ⟨S8x256x4x128, .f32⟩
  | 21 => ⟨S8x256x4x128, .f32⟩
  | 22 => ⟨S1x1x1x128, .f32⟩
  | 23 => ⟨S8x256x4x128, .f32⟩
  | 24 => ⟨S8x256x4x128, .f32⟩
  | 25 => ⟨S8x256x512, .f32⟩
  | 26 => ⟨S8x256x512, .bf16⟩
  | 27 => ⟨S8x256x512, .f32⟩
  | 28 => ⟨S8x256x512, .bf16⟩
  | 29 => ⟨S8x8448x512, .bf16⟩
  | 30 => ⟨S8x8448x512, .bf16⟩
  | 31 => ⟨S8x8192x2048, .f32⟩
  | 32 => ⟨S8x8192x4x4x128, .f32⟩
  | 33 => ⟨S8x8448x512, .f32⟩
  | 34 => ⟨S8x8448x4x128, .f32⟩
  | 35 => ⟨S8x8448x512, .f32⟩
  | 36 => ⟨S8x8448x4x128, .f32⟩
  | 37 => ⟨S8x4x8448x8192x4, .f32⟩
  | 38 => ⟨S8x4x4x8192x8448, .f32⟩
  | 39 => ⟨S_, .f32⟩
  | 40 => ⟨S_, .f32⟩
  | 41 => ⟨S_, .f32⟩
  | 42 => ⟨S8x4x4x8192x8448, .f32⟩
  | 43 => ⟨S8x4x4x8192x8448, .f32⟩
  | 44 => ⟨S_, .f32⟩
  | 45 => ⟨S8x4x4x8192, .f32⟩
  | 46 => ⟨S_, .f32⟩
  | 47 => ⟨S8x4x4x8192, .f32⟩
  | 48 => ⟨S8x4x4x8192, .f32⟩
  | 49 => ⟨S8x4x4x8192x1, .f32⟩
  | 50 => ⟨S8x4x4x8192x8448, .f32⟩
  | 51 => ⟨S8x4x4x8192x8448, .f32⟩
  | 52 => ⟨S8x4x4x8192x8448, .f32⟩
  | 53 => ⟨S_, .f32⟩
  | 54 => ⟨S8x4x4x8192, .f32⟩
  | 55 => ⟨S8x4x4x8192x1, .f32⟩
  | 56 => ⟨S8x4x4x8192x8448, .f32⟩
  | 57 => ⟨S8x4x4x8192x8448, .f32⟩
  | 58 => ⟨S8x4x128x4x8192, .f32⟩
  | 59 => ⟨S8x8192x4x4x128, .f32⟩
  | 60 => ⟨S8x8192x2048, .f32⟩
  | 61 => ⟨S8x8192x2048, .f32⟩
  | 62 => ⟨S8x8192x2048, .f32⟩
  | 63 => ⟨S8x8192x2048, .bf16⟩
  | 64 => ⟨S8x3072, .f32⟩
  | 65 => ⟨S8x1x3072, .f32⟩
  | 66 => ⟨S8x1x1024, .f32⟩
  | 67 => ⟨S8x1x1024, .f32⟩
  | 68 => ⟨S8x1x1024, .f32⟩
  | 69 => ⟨S8x8192x2048, .f32⟩
  | 70 => ⟨S8x8192x1024, .f32⟩
  | 71 => ⟨S8x8192x1024, .f32⟩
  | 72 => ⟨S8x8192x1024, .f32⟩
  | 73 => ⟨S8x8192x1024, .f32⟩
  | 74 => ⟨S8x8192x1024, .f32⟩
  | 75 => ⟨S_, .f32⟩
  | 76 => ⟨S8x8192, .f32⟩
  | 77 => ⟨S8x8192x1, .f32⟩
  | 78 => ⟨S_, .f32⟩
  | 79 => ⟨S8x8192x1, .f32⟩
  | 80 => ⟨S8x8192x1, .f32⟩
  | 81 => ⟨S_, .f32⟩
  | 82 => ⟨S8x8192x1, .f32⟩
  | 83 => ⟨S8x8192x1, .f32⟩
  | 84 => ⟨S8x8192x1, .f32⟩
  | 85 => ⟨S8x8192x1024, .f32⟩
  | 86 => ⟨S8x8192x1024, .f32⟩
  | 87 => ⟨S1x1x1024, .f32⟩
  | 88 => ⟨S8x8192x1024, .f32⟩
  | 89 => ⟨S8x8192x1024, .f32⟩
  | _ => ⟨S8x8192x1024, .f32⟩

abbrev hbmTy (i : Nat) : BufTy := match i / 128 with
  | 0 => hbmTy0_0 i
  | 1 => hbmTy0_1 i
  | 2 => hbmTy0_2 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_0 : Ref sig .tc := ⟨.hbm, 37, rfl⟩
abbrev main_v14 : Ref sig .tc := ⟨.hbm, 38, rfl⟩
abbrev main_v15 : Ref sig .tc := ⟨.hbm, 39, rfl⟩
abbrev main_cst_1 : Ref sig .tc := ⟨.hbm, 40, rfl⟩
abbrev main_v16 : Ref sig .tc := ⟨.hbm, 41, rfl⟩
abbrev main_v17 : Ref sig .tc := ⟨.hbm, 42, rfl⟩
abbrev main_cst_2 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_3 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_c : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_0 : Ref sig .tc := ⟨.hbm, 79, rfl⟩
abbrev main_call1_v12 : Ref sig .tc := ⟨.hbm, 80, rfl⟩
abbrev main_call1_v13 : Ref sig .tc := ⟨.hbm, 81, rfl⟩
abbrev main_v38 : Ref sig .tc := ⟨.hbm, 82, rfl⟩
abbrev main_c_4 : Ref sig .tc := ⟨.hbm, 83, rfl⟩
abbrev main_call2_v0 : Ref sig .tc := ⟨.hbm, 84, rfl⟩
abbrev main_call2_c : Ref sig .tc := ⟨.hbm, 85, rfl⟩
abbrev main_call2_v1 : Ref sig .tc := ⟨.hbm, 86, rfl⟩
abbrev main_call2_c_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_c_1 : Ref sig .tc := ⟨.hbm, 91, rfl⟩
abbrev main_call2_v5 : Ref sig .tc := ⟨.hbm, 92, rfl⟩
abbrev main_call2_v6 : Ref sig .tc := ⟨.hbm, 93, rfl⟩
abbrev main_call2_c_2 : Ref sig .tc := ⟨.hbm, 94, rfl⟩
abbrev main_call2_v7 : Ref sig .tc := ⟨.hbm, 95, rfl⟩
abbrev main_call2_v8 : Ref sig .tc := ⟨.hbm, 96, rfl⟩
abbrev main_call2_c_3 : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_v12 : Ref sig .tc := ⟨.hbm, 101, rfl⟩
abbrev main_call2_v13 : Ref sig .tc := ⟨.hbm, 102, rfl⟩
abbrev main_call2_v14 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_cst_5 : Ref sig .tc := ⟨.hbm, 110, rfl⟩
abbrev main_v45 : Ref sig .tc := ⟨.hbm, 111, rfl⟩
abbrev main_v46 : Ref sig .tc := ⟨.hbm, 112, rfl⟩
abbrev main_cst_6 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_cst_7 : Ref sig .tc := ⟨.hbm, 117, rfl⟩
abbrev main_v50 : Ref sig .tc := ⟨.hbm, 118, rfl⟩
abbrev main_v51 : Ref sig .tc := ⟨.hbm, 119, rfl⟩
abbrev main_cst_8 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_cst_9 : Ref sig .tc := ⟨.hbm, 132, rfl⟩
abbrev main_v63 : Ref sig .tc := ⟨.hbm, 133, rfl⟩
abbrev main_v64 : Ref sig .tc := ⟨.hbm, 134, rfl⟩
abbrev main_cst_10 : Ref sig .tc := ⟨.hbm, 135, rfl⟩
abbrev main_v65 : Ref sig .tc := ⟨.hbm, 136, rfl⟩
abbrev main_v66 : Ref sig .tc := ⟨.hbm, 137, rfl⟩
abbrev main_cst_11 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_cst_12 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_cst_13 : Ref sig .tc := ⟨.hbm, 177, rfl⟩
abbrev main_v104 : Ref sig .tc := ⟨.hbm, 178, rfl⟩
abbrev main_v105 : Ref sig .tc := ⟨.hbm, 179, rfl⟩
abbrev main_cst_14 : Ref sig .tc := ⟨.hbm, 180, rfl⟩
abbrev main_v106 : Ref sig .tc := ⟨.hbm, 181, rfl⟩
abbrev main_v107 : Ref sig .tc := ⟨.hbm, 182, rfl⟩
abbrev main_cst_15 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_call3_v0 : Ref sig .tc := ⟨.hbm, 222, rfl⟩
abbrev main_call3_v1 : Ref sig .tc := ⟨.hbm, 223, rfl⟩
abbrev main_call3_cst : Ref sig .tc := ⟨.hbm, 224, rfl⟩
abbrev main_call3_v2 : Ref sig .tc := ⟨.hbm, 225, rfl⟩
abbrev main_call3_v3 : Ref sig .tc := ⟨.hbm, 226, rfl⟩
abbrev main_call3_cst_0 : Ref sig .tc := ⟨.hbm, 227, rfl⟩
abbrev main_call3_v4 : Ref sig .tc := ⟨.hbm, 228, rfl⟩
abbrev main_call3_v5 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_cst_16 : Ref sig .tc := ⟨.hbm, 237, rfl⟩
abbrev main_v153 : Ref sig .tc := ⟨.hbm, 238, rfl⟩
abbrev main_v154 : Ref sig .tc := ⟨.hbm, 239, rfl⟩
abbrev main_cst_17 : Ref sig .tc := ⟨.hbm, 240, rfl⟩
abbrev main_v155 : Ref sig .tc := ⟨.hbm, 241, rfl⟩
abbrev main_v156 : Ref sig .tc := ⟨.hbm, 242, rfl⟩
abbrev main_cst_18 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_v163 : Ref sig .tc := ⟨.hbm, 250, rfl⟩
abbrev main_v164 : Ref sig .tc := ⟨.hbm, 251, rfl⟩
abbrev main_cst_19 : Ref sig .tc := ⟨.hbm, 252, rfl⟩
abbrev main_v165 : Ref sig .tc := ⟨.hbm, 253, rfl⟩
abbrev main_v166 : Ref sig .tc := ⟨.hbm, 254, rfl⟩
abbrev main_v167 : Ref sig .tc := ⟨.hbm, 255, rfl⟩
abbrev main_v168 : Ref sig .tc := ⟨.hbm, 256, rfl⟩
abbrev main_v169 : Ref sig .tc := ⟨.hbm, 257, rfl⟩
abbrev main_v170 : Ref sig .tc := ⟨.hbm, 258, rfl⟩
abbrev main_v171 : Ref sig .tc := ⟨.hbm, 259, rfl⟩
abbrev main_v172 : Ref sig .tc := ⟨.hbm, 260, rfl⟩
abbrev main_v173 : Ref sig .tc := ⟨.hbm, 261, rfl⟩
abbrev main_v174 : Ref sig .tc := ⟨.hbm, 262, rfl⟩
abbrev main_v175 : Ref sig .tc := ⟨.hbm, 263, rfl⟩
abbrev main_v176 : Ref sig .tc := ⟨.hbm, 264, rfl⟩
abbrev main_v177 : Ref sig .tc := ⟨.hbm, 265, rfl⟩
abbrev main_cst_20 : Ref sig .tc := ⟨.hbm, 266, rfl⟩
abbrev main_v178 : Ref sig .tc := ⟨.hbm, 267, rfl⟩
abbrev main_v179 : Ref sig .tc := ⟨.hbm, 268, rfl⟩
abbrev main_cst_21 : Ref sig .tc := ⟨.hbm, 269, rfl⟩
abbrev main_v180 : Ref sig .tc := ⟨.hbm, 270, rfl⟩
abbrev main_v181 : Ref sig .tc := ⟨.hbm, 271, rfl⟩
abbrev main_cst_22 : Ref sig .tc := ⟨.hbm, 272, rfl⟩
abbrev main_v182 : Ref sig .tc := ⟨.hbm, 273, rfl⟩
abbrev main_v183 : Ref sig .tc := ⟨.hbm, 274, rfl⟩
abbrev main_v184 : Ref sig .tc := ⟨.hbm, 275, rfl⟩
abbrev main_v185 : Ref sig .tc := ⟨.hbm, 276, rfl⟩
abbrev main_v186 : Ref sig .tc := ⟨.hbm, 277, rfl⟩
abbrev main_v187 : Ref sig .tc := ⟨.hbm, 278, rfl⟩
abbrev main_v188 : Ref sig .tc := ⟨.hbm, 279, rfl⟩
abbrev main_v189 : Ref sig .tc := ⟨.hbm, 280, rfl⟩
abbrev main_v190 : Ref sig .tc := ⟨.hbm, 281, rfl⟩
abbrev main_v191 : Ref sig .tc := ⟨.hbm, 282, rfl⟩
abbrev main_v192 : Ref sig .tc := ⟨.hbm, 283, rfl⟩
abbrev main_v193 : Ref sig .tc := ⟨.hbm, 284, rfl⟩
abbrev main_v194 : Ref sig .tc := ⟨.hbm, 285, rfl⟩
abbrev main_v195 : Ref sig .tc := ⟨.hbm, 286, rfl⟩
abbrev main_v196 : Ref sig .tc := ⟨.hbm, 287, rfl⟩
abbrev main_v197 : Ref sig .tc := ⟨.hbm, 288, rfl⟩
abbrev main_v198 : Ref sig .tc := ⟨.hbm, 289, rfl⟩
abbrev main_v199 : Ref sig .tc := ⟨.hbm, 290, rfl⟩
abbrev main_v200 : Ref sig .tc := ⟨.hbm, 291, rfl⟩
abbrev main_v201 : Ref sig .tc := ⟨.hbm, 292, rfl⟩
abbrev main_v202 : Ref sig .tc := ⟨.hbm, 293, rfl⟩
abbrev main_v203 : Ref sig .tc := ⟨.hbm, 294, rfl⟩
abbrev main_cst_23 : Ref sig .tc := ⟨.hbm, 295, rfl⟩
abbrev main_v204 : Ref sig .tc := ⟨.hbm, 296, rfl⟩
abbrev main_v205 : Ref sig .tc := ⟨.hbm, 297, rfl⟩
abbrev main_v206 : Ref sig .tc := ⟨.hbm, 298, rfl⟩
abbrev main_v207 : Ref sig .tc := ⟨.hbm, 299, rfl⟩
abbrev main_cst_24 : Ref sig .tc := ⟨.hbm, 300, rfl⟩
abbrev main_v208 : Ref sig .tc := ⟨.hbm, 301, rfl⟩
abbrev main_cst_25 : Ref sig .tc := ⟨.hbm, 302, rfl⟩
abbrev main_v209 : Ref sig .tc := ⟨.hbm, 303, rfl⟩
abbrev main_v210 : Ref sig .tc := ⟨.hbm, 304, rfl⟩
abbrev main_v211 : Ref sig .tc := ⟨.hbm, 305, rfl⟩
abbrev main_v212 : Ref sig .tc := ⟨.hbm, 306, rfl⟩
abbrev main_v213 : Ref sig .tc := ⟨.hbm, 307, rfl⟩
abbrev main_v214 : Ref sig .tc := ⟨.hbm, 308, rfl⟩
abbrev main_cst_26 : Ref sig .tc := ⟨.hbm, 309, rfl⟩
abbrev main_v215 : Ref sig .tc := ⟨.hbm, 310, rfl⟩
abbrev main_v216 : Ref sig .tc := ⟨.hbm, 311, rfl⟩
abbrev main_v217 : Ref sig .tc := ⟨.hbm, 312, rfl⟩
abbrev main_v218 : Ref sig .tc := ⟨.hbm, 313, rfl⟩
abbrev main_v219 : Ref sig .tc := ⟨.hbm, 314, rfl⟩
abbrev main_v220 : Ref sig .tc := ⟨.hbm, 315, rfl⟩
abbrev main_v221 : Ref sig .tc := ⟨.hbm, 316, rfl⟩
abbrev main_v222 : Ref sig .tc := ⟨.hbm, 317, rfl⟩
abbrev main_v223 : Ref sig .tc := ⟨.hbm, 318, rfl⟩
abbrev main_v224 : Ref sig .tc := ⟨.hbm, 319, rfl⟩
abbrev main_v225 : Ref sig .tc := ⟨.hbm, 320, rfl⟩
abbrev main_v226 : Ref sig .tc := ⟨.hbm, 321, rfl⟩
abbrev main_v227 : Ref sig .tc := ⟨.hbm, 322, rfl⟩
abbrev main_v228 : Ref sig .tc := ⟨.hbm, 323, rfl⟩
abbrev main_v229 : Ref sig .tc := ⟨.hbm, 324, rfl⟩
abbrev main_v230 : Ref sig .tc := ⟨.hbm, 325, rfl⟩
abbrev main_v231 : Ref sig .tc := ⟨.hbm, 326, rfl⟩
abbrev main_v232 : Ref sig .tc := ⟨.hbm, 327, rfl⟩
abbrev main_v233 : Ref sig .tc := ⟨.hbm, 328, rfl⟩
abbrev main_v234 : Ref sig .tc := ⟨.hbm, 329, rfl⟩
abbrev main_v235 : Ref sig .tc := ⟨.hbm, 330, rfl⟩
abbrev main_cst_27 : Ref sig .tc := ⟨.hbm, 331, rfl⟩
abbrev main_v236 : Ref sig .tc := ⟨.hbm, 332, rfl⟩
abbrev main_v237 : Ref sig .tc := ⟨.hbm, 333, rfl⟩
abbrev main_cst_28 : Ref sig .tc := ⟨.hbm, 334, rfl⟩
abbrev main_v238 : Ref sig .tc := ⟨.hbm, 335, rfl⟩
abbrev main_v239 : Ref sig .tc := ⟨.hbm, 336, rfl⟩
abbrev main_cst_29 : Ref sig .tc := ⟨.hbm, 337, rfl⟩
abbrev main_v240 : Ref sig .tc := ⟨.hbm, 338, rfl⟩
abbrev main_v241 : Ref sig .tc := ⟨.hbm, 339, rfl⟩
abbrev main_v242 : Ref sig .tc := ⟨.hbm, 340, rfl⟩
abbrev main_v243 : Ref sig .tc := ⟨.hbm, 341, rfl⟩
abbrev main_v244 : Ref sig .tc := ⟨.hbm, 342, rfl⟩
abbrev main_v245 : Ref sig .tc := ⟨.hbm, 343, rfl⟩
abbrev main_v246 : Ref sig .tc := ⟨.hbm, 344, rfl⟩
abbrev main_v247 : Ref sig .tc := ⟨.hbm, 345, rfl⟩

abbrev nD : Nat := 1
abbrev τ : Topo := Topo.v7x

variable {F : FTy → Type} [FloatOps F]
-- ==== Proof.AttnBlock.lean ====
/-
  What the attention call writes for one block of queries, in words of its own: the query rows of the four heads of a group, the chunks of keys and
  values, the powers of two of a chunk's scores, and the accumulator the chunks are added to one after another.
-/
module
public import proofs.«01_k».proof.Proof.Gen.KernelIdeal.Value
public import proofs.«01_k».proof.Proof.Gen.KernelIdeal.Frame
public import Idealize.ShloMosaic.Lib.Pipeline.Value
public import Idealize.ShloMosaic.Lib.VecWindow
@[expose] public section
set_option maxRecDepth 65536
noncomputable section
namespace Cert.KernelIdeal.Attn
open Cert.KernelIdeal Cert.KernelIdeal.Gen Idealize.ShloMosaic Idealize.ShloMosaic.TcCoe Idealize.SL.Sem
open Idealize.ShloMosaic.Pipeline (Dat)
variable {F : FTy → Type} [FloatOps F]

/-- Chunk `n` of 256 rows fits in the 8448 rows of a key or value block. -/
theorem chunk_fits (n : ℕ) : ∀ a, (![0, 256 * (n % 33), 0] : Fin 3 → ℕ) a + (![1, 256, 128] : Fin 3 → ℕ) a ≤ S1x8448x128.size a := by
  have h := Nat.mod_lt n (by decide : 0 < 33)
  intro a
  fin_cases a
  · exact Nat.le_refl 1
  · show 256 * (n % 33) + 256 ≤ 8448
    omega
  · exact Nat.le_refl 128

/-- Rows `256 n … 256 n + 255` of a key or value block. -/
def chunk (x : Vec F S1x8448x128 .bf16) (n : ℕ) : Vec F S1x256x128 .bf16 :=
  View.ld x (Rect.unit ![0, 256 * (n % 33), 0] ![1, 256, 128] (chunk_fits n))

/-- Two to the power of the scores of all query rows against one chunk of keys. -/
def weights (q : FVec F S2048x128 .bf16) (kc : Vec F S1x256x128 .bf16) : FVec F S2048x256 .bf16 :=
  shapeCast S2048x256 (truncf .bf16 (exp2 (matmul dot_S2048x128_S256x128_S2048x256_1_1_0_0_n_n none q (shapeCast S256x128 kc shapeCasts_S1x256x128_S256x128)
    (constant S2048x256 .f32 0x00000000#32))) bitsLt_bf16_f32) shapeCasts_S2048x256_S2048x256

/-- A chunk of values with as many columns of ones beside it. -/
def withOnes (vc : Vec F S1x256x128 .bf16) : FVec F S256x256 .bf16 :=
  concatenate S256x256 1 [⟨S256x128, shapeCast S256x128 vc shapeCasts_S1x256x128_S256x128⟩,
    ⟨S256x128, broadcast S256x128 (Scalar.ofBits .bf16 0x3F80#16 : F .bf16)⟩] concatenates_S256x128_S256x128_S256x256_d1

/-- One chunk added to the accumulator. -/
def step (acc : FVec F S2048x256 .f32) (p : FVec F S2048x256 .bf16) (vc : Vec F S1x256x128 .bf16) : FVec F S2048x256 .f32 :=
  addf acc (matmul dot_S2048x256_S256x256_S2048x256_1_0_0_1_n_n none p (withOnes vc) (constant S2048x256 .f32 0x00000000#32))

/-- The accumulator after the first `n` chunks. -/
def accum (q : FVec F S2048x128 .bf16) (k v : Vec F S1x8448x128 .bf16) : ℕ → FVec F S2048x256 .f32
  | 0 => broadcast S2048x256 (Scalar.ofBits .f32 0x00000000#32 : F .f32)
  | n + 1 => step (accum q k v n) (weights q (chunk k n)) (chunk v n)

/-- Weighted sums of the values over sums of the weights. -/
def ratio (acc : FVec F S2048x256 .f32) : FVec F S2048x128 .f32 :=
  divf (extractStridedSlice S2048x128 ![0, 0] acc slices_S2048x256_o0_0_S2048x128)
    (extractStridedSlice S2048x128 ![0, 128] acc slices_S2048x256_o0_128_S2048x128)

/-- A load of the whole weight buffer after a store of all of it reads what was stored. -/
theorem stored_loaded (v : View sig .tc .vmem S2048x256 .bf16) (w : FVec F S2048x256 .bf16) (L : List (View.Piece (Elt F) S2048x256 .bf16)) :
    v.readCov ((⟨Rect.unit ![0, 0] ![2048, 256] inb_S2048x256_S2048x256_0_0, w⟩ : View.Piece (Elt F) S2048x256 .bf16) :: L)
      (Rect.unit ![0, 0] ![2048, 256] inb_S2048x256_S2048x256_0_0).toLoadRect = w :=
  View.readCov_full (s := S2048x256) (e := .bf16) (Val := Elt F) v (off := ![0, 0]) (off' := ![0, 0]) inb_S2048x256_S2048x256_0_0 inb_S2048x256_S2048x256_0_0 w L

/-- The query block is loaded whole. -/
theorem query_loaded (x : Vec F S1x512x512 .bf16) :
    View.ld x (Rect.unit ![0, 0, 0] ![1, 512, 512] inb_S1x512x512_S1x512x512_0_0_0) = x :=
  View.ld_unit_zero (S := S1x512x512) (by funext a; fin_cases a <;> rfl) _ _

/-- The columns of head `g` of the group, in a block of queries, gates or results. -/
theorem head_fits (g : Fin 4) : ∀ a, (![0, 0, 128 * g.val] : Fin 3 → ℕ) a + (![1, 512, 128] : Fin 3 → ℕ) a ≤ S1x512x512.size a := by
  have h := g.isLt
  intro a
  fin_cases a
  · exact Nat.le_refl 1
  · exact Nat.le_refl 512
  · show 128 * g.val + 128 ≤ 512
    omega

abbrev headRect (g : Fin 4) : Rect S1x512x512 := Rect.unit ![0, 0, 128 * g.val] ![1, 512, 128] (head_fits g)

/-- The rows of head `g` among the stacked rows of the four heads. -/
theorem rows_fit (g : Fin 4) : S2048x128.Slices ![512 * g.val, 0] S512x128 := by
  have h := g.isLt
  refine ⟨rfl, fun a => ?_⟩
  fin_cases a
  · show 512 * g.val + 512 ≤ 2048
    omega
  · exact Nat.le_refl 128

/-- What is stored for head `g`: its rows of the ratio, times the gates. -/
def headOut (o : FVec F S2048x128 .f32) (x3 : Vec F S1x512x512 .bf16) (g : Fin 4) : FVec F S1x512x128 .bf16 :=
  shapeCast S1x512x128 (truncf .bf16 (mulf (extractStridedSlice S512x128 ![512 * g.val, 0] o (rows_fit g))
    (extf .f32 (shapeCast S512x128 (View.ld x3 (headRect g)) shapeCasts_S1x512x128_S512x128) bitsLt_bf16_f32)) bitsLt_bf16_f32) shapeCasts_S512x128_S1x512x128

/-- The store of head `g`. -/
def headPiece (o : FVec F S2048x128 .f32) (x3 : Vec F S1x512x512 .bf16) (g : Fin 4) : View.Piece (Elt F) S1x512x512 .bf16 :=
  ⟨headRect g, headOut o x3 g⟩

set_option maxHeartbeats 4000000 in
/-- The block the call writes: four stores of 128 columns, one per head of the group. -/
theorem block_eq (c : Dev nD) (i : grid0.Coords) (arg3 : Memref sig .tc .vmem S1x512x512 .bf16) (harg3 : arg3.IsWhole) (arg4 : Memref sig .tc .vmem S1x8448x128 .bf16) (harg4 : arg4.IsWhole) (arg5 : Memref sig .tc .vmem S1x8448x128 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S2048x256 .bf16) (harg8 : arg8.IsWhole) (arg9 : Memref sig .tc .vmem S2048x256 .bf16) (harg9 : arg9.IsWhole)
    (x0 : Vec F S1x512x512 .bf16) (x1 : Vec F S1x8448x128 .bf16) (x2 : Vec F S1x8448x128 .bf16) (x3 : Vec F S1x512x512 .bf16) :
    out0_A_4 c i arg3 harg3 arg4 harg4 arg5 harg5 arg6 harg6 arg7 harg7 arg8 harg8 arg9 harg9 x0 x1 x2 x3 =
      View.canon [headPiece (ratio (accum (k0_pay2 x0) x1 x2 33)) x3 3, headPiece (ratio (accum (k0_pay2 x0) x1 x2 33)) x3 2,
        headPiece (ratio (accum (k0_pay2 x0) x1 x2 33)) x3 1, headPiece (ratio (accum (k0_pay2 x0) x1 x2 33)) x3 0] := by
  unfold out0_A_4
  rw [View.read_writes_eq_canon _ _ _ (cover0_A_4 c i arg3 harg3 arg4 harg4 arg5 harg5 arg6 harg6 arg7 harg7 arg8 harg8 arg9 harg9 x0 x1 x2 x3)]
  unfold kernelRun0_A
  dsimp only
  sl_unfold_words
  simp only [View.readAt_eq_ld, harg3.read_unread, harg4.read_unread, harg5.read_unread, harg6.read_unread, stored_loaded, query_loaded]
  rfl
end Cert.KernelIdeal.Attn
end
-- ==== Proof.OnlineRun.lean ====
/-
  One block of queries under the attention that keeps a running maximum: its chunks of keys one after another, each rescaling what was summed before,
  and the loop over pairs of chunks run by the state it carries.
-/
module
public import proofs.«01_k».proof.Proof.Gen.Kernel6Ideal.Frame.Runs
public import proofs.«01_k».proof.Proof.AttnBlock
@[expose] public section
set_option maxRecDepth 16384
noncomputable section
namespace Cert.Kernel6Ideal.Online
open Cert.Kernel6Ideal Cert.Kernel6Ideal.Gen
open Cert.KernelIdeal.Attn (chunk chunk_fits)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scores of all query rows against chunk `n` of the keys. -/
def scores (q : FVec F S2048x128 .bf16) (k : Vec F S1x8448x128 .bf16) (n : ℕ) : FVec F S2048x256 .f32 := k0_pay1 q (chunk k n)

/-- The largest score of each row among the first `n` chunks. -/
def top (q : FVec F S2048x128 .bf16) (k : Vec F S1x8448x128 .bf16) : ℕ → FVec F S2048x1 .f32
  | 0 => k0_pay16
  | n + 1 => k0_pay3 (top q k n) (scores q k n)

/-- The sum of the weights of the first `n` chunks, each weight taken below the largest score so far. -/
def total (q : FVec F S2048x128 .bf16) (k : Vec F S1x8448x128 .bf16) : ℕ → FVec F S2048x1 .f32
  | 0 => broadcast S2048x1 (Scalar.ofBits .f32 0x00000000#32 : F .f32)
  | n + 1 => k0_pay6 (top q k n) (total q k n) (scores q k n)

/-- The factor by which chunk `n` rescales what was summed before it. -/
def rescale (q : FVec F S2048x128 .bf16) (k : Vec F S1x8448x128 .bf16) (n : ℕ) : FVec F S2048x1 .f32 := k0_pay5 (top q k n) (scores q k n)

/-- The weights of chunk `n`. -/
def weights (q : FVec F S2048x128 .bf16) (k : Vec F S1x8448x128 .bf16) (n : ℕ) : FVec F S2048x256 .bf16 := k0_pay7 (top q k n) (scores q k n)

/-- The weighted sum of the values of the first `n` chunks. -/
def accum (q : FVec F S2048x128 .bf16) (k v : Vec F S1x8448x128 .bf16) : ℕ → FVec F S2048x128 .f32
  | 0 => k0_pay17
  | n + 1 => k0_pay2 (rescale q k n) (accum q k v n) (weights q k n) (chunk v n)

/-- What the loop carries before trip `j`. -/
def carried (q : FVec F S2048x128 .bf16) (k v : Vec F S1x8448x128 .bf16) (j : ℕ) :
    FVec F S2048x1 .f32 × FVec F S2048x1 .f32 × FVec F S2048x1 .f32 × FVec F S2048x128 .f32 :=
  (top q k (2 * j + 1), total q k (2 * j + 1), rescale q k (2 * j), accum q k v (2 * j))

/-- A load of 256 rows from row `256 n` is chunk `n`. -/
theorem chunk_of_rows (x : Vec F S1x8448x128 .bf16) (off : Fin 3 → ℕ) (h : ∀ a, off a + (![1, 256, 128] : Fin 3 → ℕ) a ≤ S1x8448x128.size a) (n : ℕ)
    (hn : n < 33) (ho : off = ![0, 256 * n, 0]) : View.ld x (Rect.unit (s := S1x8448x128) off ![1, 256, 128] h) = chunk x n := by
  subst ho
  unfold chunk
  congr 2
  rw [Nat.mod_eq_of_lt hn]

/-- One trip's state: the keys and values, the scores and weights the next trip starts from, and what is carried. -/
def inv (c : Dev nD) (arg4 : Memref sig .tc .vmem S1x8448x128 .bf16) (harg4 : arg4.IsWhole) (arg5 : Memref sig .tc .vmem S1x8448x128 .bf16) (harg5 : arg5.IsWhole)
    (arg8 : Memref sig .tc .vmem S2048x256 .f32) (harg8 : arg8.IsWhole) (arg9 : Memref sig .tc .vmem S2048x256 .f32) (harg9 : arg9.IsWhole)
    (arg10 : Memref sig .tc .vmem S2048x256 .bf16) (harg10 : arg10.IsWhole) (arg11 : Memref sig .tc .vmem S2048x256 .bf16) (harg11 : arg11.IsWhole)
    (q : FVec F S2048x128 .bf16) (k v : Vec F S1x8448x128 .bf16) (j : ℕ)
    (acc : FVec F S2048x1 .f32 × FVec F S2048x1 .f32 × FVec F S2048x1 .f32 × FVec F S2048x128 .f32) : sProp 𝕄 :=
  iprop((arg4.view.loc (c : Thread nD τ) ↦[arg4.view.set]{fullShare} harg4.unread k) ∗ (arg5.view.loc (c : Thread nD τ) ↦[arg5.view.set]{fullShare} harg5.unread v)
    ∗ (∃ f, (arg8.view.loc (c : Thread nD τ) ↦[arg8.view.set]{fullShare} f))
    ∗ (∃ f, (arg9.view.loc (c : Thread nD τ) ↦[arg9.view.set]{fullShare} f) ∗ ⌜arg9.view.read (Elt F) f = scores q k (2 * j + 1)⌝)
    ∗ (∃ f, (arg10.view.loc (c : Thread nD τ) ↦[arg10.view.set]{fullShare} f) ∗ ⌜arg10.view.read (Elt F) f = weights q k (2 * j)⌝)
    ∗ (∃ f, (arg11.view.loc (c : Thread nD τ) ↦[arg11.view.set]{fullShare} f))
    ∗ ⌜acc = carried q k v j⌝)

/-- A load of a whole scratch buffer reads what it holds. -/
theorem whole_scores (x : Vec F S2048x256 .f32) : View.ld x (Rect.unit (s := S2048x256) ![0, 0] ![2048, 256] inb_S2048x256_S2048x256_0_0) = x :=
  View.ld_unit_zero (S := S2048x256) (by funext a; fin_cases a <;> rfl) _ _
theorem whole_weights (x : Vec F S2048x256 .bf16) : View.ld x (Rect.unit (s := S2048x256) ![0, 0] ![2048, 256] inb_S2048x256_S2048x256_0_0) = x :=
  View.ld_unit_zero (S := S2048x256) (by funext a; fin_cases a <;> rfl) _ _

/-- A load of a whole scratch buffer after a store of all of it reads what was stored. -/
theorem stored_scores (v : View sig .tc .vmem S2048x256 .f32) (w : FVec F S2048x256 .f32) (L : List (View.Piece (Elt F) S2048x256 .f32)) :
    v.readCov ((⟨Rect.unit ![0, 0] ![2048, 256] inb_S2048x256_S2048x256_0_0, w⟩ : View.Piece (Elt F) S2048x256 .f32) :: L)
      (Rect.unit ![0, 0] ![2048, 256] inb_S2048x256_S2048x256_0_0).toLoadRect = w :=
  View.readCov_full (s := S2048x256) (e := .f32) (Val := Elt F) v (off := ![0, 0]) (off' := ![0, 0]) inb_S2048x256_S2048x256_0_0 inb_S2048x256_S2048x256_0_0 w L
theorem stored_weights (v : View sig .tc .vmem S2048x256 .bf16) (w : FVec F S2048x256 .bf16) (L : List (View.Piece (Elt F) S2048x256 .bf16)) :
    v.readCov ((⟨Rect.unit ![0, 0] ![2048, 256] inb_S2048x256_S2048x256_0_0, w⟩ : View.Piece (Elt F) S2048x256 .bf16) :: L)
      (Rect.unit ![0, 0] ![2048, 256] inb_S2048x256_S2048x256_0_0).toLoadRect = w :=
  View.readCov_full (s := S2048x256) (e := .bf16) (Val := Elt F) v (off := ![0, 0]) (off' := ![0, 0]) inb_S2048x256_S2048x256_0_0 inb_S2048x256_S2048x256_0_0 w L

/-- The chunks a trip loads. -/
theorem loaded1 (x : Vec F S1x8448x128 .bf16) (j : Fin k0_t1_loop.trips) (h) :
    View.ld x (Rect.unit (s := S1x8448x128) (k0_off1 j 1#32) ![1, 256, 128] h) = chunk x (2 * j.val + 1) :=
  chunk_of_rows x _ _ _ (by have := Nat.lt_of_lt_of_le j.isLt k0_t1_abs.2.1; omega)
    ((k0_off1_eq j ⟨0, by decide⟩).trans (congrArg (fun n : ℕ => (![0, n, 0] : Fin 3 → ℕ)) (by show 512 * j.val + 256 * 0 + 256 = _; omega)))
theorem loaded2 (x : Vec F S1x8448x128 .bf16) (j : Fin k0_t1_loop.trips) (h) :
    View.ld x (Rect.unit (s := S1x8448x128) (k0_off1 j 2#32) ![1, 256, 128] h) = chunk x (2 * j.val + 2) :=
  chunk_of_rows x _ _ _ (by have := Nat.lt_of_lt_of_le j.isLt k0_t1_abs.2.1; omega)
    ((k0_off1_eq j ⟨1, by decide⟩).trans (congrArg (fun n : ℕ => (![0, n, 0] : Fin 3 → ℕ)) (by show 512 * j.val + 256 * 1 + 256 = _; omega)))
theorem loaded0 (x : Vec F S1x8448x128 .bf16) (j : Fin k0_t1_loop.trips) (h) :
    View.ld x (Rect.unit (s := S1x8448x128) (k0_off2 j) ![1, 256, 128] h) = chunk x (2 * j.val) :=
  chunk_of_rows x _ _ _ (by have := Nat.lt_of_lt_of_le j.isLt k0_t1_abs.2.1; omega)
    ((k0_off2_eq j).trans (congrArg (fun n : ℕ => (![0, n, 0] : Fin 3 → ℕ)) (by omega)))
theorem loaded3 (x : Vec F S1x8448x128 .bf16) (j : Fin k0_t1_loop.trips) (h) :
    View.ld x (Rect.unit (s := S1x8448x128) (k0_off3 j) ![1, 256, 128] h) = chunk x (2 * j.val + 3) :=
  chunk_of_rows x _ _ _ (by have := Nat.lt_of_lt_of_le j.isLt k0_t1_abs.2.1; omega)
    ((k0_off3_eq j).trans (congrArg (fun n : ℕ => (![0, n, 0] : Fin 3 → ℕ)) (by omega)))

/-- Each stage computes the same functions under names of its own. -/
theorem scores_again (q : FVec F S2048x128 .bf16) (x : Vec F S1x256x128 .bf16) : k0_pay8 q x = k0_pay1 q x := rfl
theorem accum_again (a : FVec F S2048x1 .f32) (x : FVec F S2048x128 .f32) (p : Vec F S2048x256 .bf16) (vc : Vec F S1x256x128 .bf16) :
    k0_pay9 x a p vc = k0_pay2 a x p vc := rfl
theorem top_again (t : FVec F S2048x1 .f32) (s : Vec F S2048x256 .f32) : k0_pay10 t s = k0_pay3 t s := rfl
theorem rescale_again (t : FVec F S2048x1 .f32) (s : Vec F S2048x256 .f32) : k0_pay12 t s = k0_pay5 t s := rfl
theorem total_again (t l : FVec F S2048x1 .f32) (s : Vec F S2048x256 .f32) : k0_pay13 t l s = k0_pay6 t l s := rfl
theorem weights_again (t : FVec F S2048x1 .f32) (s : Vec F S2048x256 .f32) : k0_pay27 (k0_pay14 t s) = k0_pay7 t s := rfl

theorem top_succ (q : FVec F S2048x128 .bf16) (k : Vec F S1x8448x128 .bf16) (n : ℕ) : top q k (n + 1) = k0_pay3 (top q k n) (scores q k n) := rfl
theorem total_succ (q : FVec F S2048x128 .bf16) (k : Vec F S1x8448x128 .bf16) (n : ℕ) :
    total q k (n + 1) = k0_pay6 (top q k n) (total q k n) (scores q k n) := rfl
theorem accum_succ (q : FVec F S2048x128 .bf16) (k v : Vec F S1x8448x128 .bf16) (n : ℕ) :
    accum q k v (n + 1) = k0_pay2 (rescale q k n) (accum q k v n) (weights q k n) (chunk v n) := rfl

/-- What is carried into the next trip, from what was carried into this one. -/
theorem carried_succ (q : FVec F S2048x128 .bf16) (k v : Vec F S1x8448x128 .bf16) (j : ℕ) :
    carried q k v (j + 1) = (k0_pay3 (k0_pay3 (top q k (2 * j + 1)) (scores q k (2 * j + 1))) (k0_pay1 q (chunk k (2 * j + 2))),
      k0_pay6 (k0_pay3 (top q k (2 * j + 1)) (scores q k (2 * j + 1))) (k0_pay6 (top q k (2 * j + 1)) (total q k (2 * j + 1)) (scores q k (2 * j + 1)))
        (k0_pay1 q (chunk k (2 * j + 2))),
      k0_pay5 (k0_pay3 (top q k (2 * j + 1)) (scores q k (2 * j + 1))) (k0_pay1 q (chunk k (2 * j + 2))),
      k0_pay2 (k0_pay5 (top q k (2 * j + 1)) (scores q k (2 * j + 1)))
        (k0_pay2 (rescale q k (2 * j)) (accum q k v (2 * j)) (weights q k (2 * j)) (chunk v (2 * j)))
        (k0_pay7 (top q k (2 * j + 1)) (scores q k (2 * j + 1))) (chunk v (2 * j + 1))) := by
  unfold carried
  rw [show 2 * (j + 1) = 2 * j + 1 + 1 from rfl]
  simp only [top_succ, total_succ, accum_succ]
  rfl

/-- The weights the next trip starts from. -/
theorem weights_next (q : FVec F S2048x128 .bf16) (k : Vec F S1x8448x128 .bf16) (j : ℕ) :
    weights q k (2 * (j + 1)) = k0_pay7 (k0_pay3 (top q k (2 * j + 1)) (scores q k (2 * j + 1))) (k0_pay1 q (chunk k (2 * j + 2))) := by
  rw [show 2 * (j + 1) = 2 * j + 1 + 1 from rfl]
  unfold weights
  rw [top_succ]
  rfl

set_option maxHeartbeats 400000 in
/-- One trip takes the state before it to the state after it. -/
theorem trip (c : Dev nD) (E : Set ℕ) (i : grid0.Coords) (arg3 : Memref sig .tc .vmem S1x512x512 .bf16) (harg3 : arg3.IsWhole) (arg4 : Memref sig .tc .vmem S1x8448x128 .bf16) (harg4 : arg4.IsWhole) (arg5 : Memref sig .tc .vmem S1x8448x128 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S2048x256 .f32) (harg8 : arg8.IsWhole) (arg9 : Memref sig .tc .vmem S2048x256 .f32) (harg9 : arg9.IsWhole) (arg10 : Memref sig .tc .vmem S2048x256 .bf16) (harg10 : arg10.IsWhole) (arg11 : Memref sig .tc .vmem S2048x256 .bf16) (harg11 : arg11.IsWhole)
    (v9 : FVec F S2048x128 .f32) (v25 : FVec F S2048x1 .f32) (v28 : FVec F S2048x256 .f32) (v30 : FVec F S2048x1 .f32) (v31 : FVec F S2048x1 .f32) (v32 : FVec F S2048 .f32)
    (q : FVec F S2048x128 .bf16) (k v : Vec F S1x8448x128 .bf16) (j : Fin k0_t1_loop.trips)
    (acc : FVec F S2048x1 .f32 × FVec F S2048x1 .f32 × FVec F S2048x1 .f32 × FVec F S2048x128 .f32) :
    inv c arg4 harg4 arg5 harg5 arg8 harg8 arg9 harg9 arg10 harg10 arg11 harg11 q k v j.val acc
      ⊢ wp frame (wpE (defs₀ (F := F)) Variants.none (c : Thread nD τ) none) E
          (k0_t1_body (F := F) i arg3 harg3 arg4 harg4 arg5 harg5 arg6 harg6 arg7 harg7 arg8 harg8 arg9 harg9 arg10 harg10 arg11 harg11 q v9 v25 v28 v30 v31 v32 j acc)
          (inv c arg4 harg4 arg5 harg5 arg8 harg8 arg9 harg9 arg10 harg10 arg11 harg11 q k v (j.val + 1)) := by
  have hj : j.val < 15 := Nat.lt_of_lt_of_le j.isLt k0_t1_abs.2.1
  unfold inv k0_t1_body
  iintro ⟨H4, H5, ⟨%f8, H8⟩, ⟨%f9, H9, %h9⟩, ⟨%f10, H10, %h10⟩, ⟨%f11, H11⟩, %hacc⟩
  subst hacc
  obtain rfl := harg9.eq_unread h9
  obtain rfl := harg10.eq_unread h10
  sl_exec
  sl_step
  isplitl [H4]; · iexact H4
  isplitl [H5]; · iexact H5
  isplitl [H8]; · iexists _; iexact H8
  isplitl [H9]
  · iexists _; isplitl [H9]; · iexact H9
    ipureintro
    refine (View.read_writes_full (s := S2048x256) (e := .f32) (Val := Elt F) _ _ (off := ![0, 0]) inb_S2048x256_S2048x256_0_0 _ _).trans ?_
    rw [View.readAt_eq_ld, harg4.read_unread, loaded3, scores_again]
    rfl
  isplitl [H10]
  · iexists _; isplitl [H10]; · iexact H10
    ipureintro
    refine (View.read_writes_full (s := S2048x256) (e := .bf16) (Val := Elt F) _ _ (off := ![0, 0]) inb_S2048x256_S2048x256_0_0 _ _).trans ?_
    delta trip.sl.v200 trip.sl.H8_1 trip.sl.r trip.sl.r_1 trip.sl.r_2 trip.sl.r_3 trip.sl.r_4 trip.sl.r_5 trip.sl.r_6 trip.sl.r_7 trip.sl.r_8 trip.sl.r_9
    simp only [View.readAt_eq_ld, harg4.read_unread, harg9.read_unread, loaded2,
      whole_scores, stored_scores, weights_again, weights_next]
  isplitl [H11]; · iexists _; iexact H11
  ipureintro
  delta trip.sl.v192 trip.sl.v200 trip.sl.H8_1 trip.sl.H11_1 trip.sl.r trip.sl.r_1 trip.sl.r_2 trip.sl.r_3 trip.sl.r_4 trip.sl.r_5 trip.sl.r_6 trip.sl.r_7 trip.sl.r_8 trip.sl.r_9
  simp only [View.readAt_eq_ld, harg4.read_unread, harg5.read_unread, harg9.read_unread, harg10.read_unread, loaded0, loaded1, loaded2,
    whole_scores, whole_weights, stored_scores, stored_weights, carried_succ, accum_again, top_again, rescale_again, total_again]

/-- The loop by the state it carries. -/
@[instance_reducible] def loop (c : Dev nD) (E : Set ℕ) (i : grid0.Coords) (arg3 : Memref sig .tc .vmem S1x512x512 .bf16) (harg3 : arg3.IsWhole) (arg4 : Memref sig .tc .vmem S1x8448x128 .bf16) (harg4 : arg4.IsWhole) (arg5 : Memref sig .tc .vmem S1x8448x128 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S2048x256 .f32) (harg8 : arg8.IsWhole) (arg9 : Memref sig .tc .vmem S2048x256 .f32) (harg9 : arg9.IsWhole) (arg10 : Memref sig .tc .vmem S2048x256 .bf16) (harg10 : arg10.IsWhole) (arg11 : Memref sig .tc .vmem S2048x256 .bf16) (harg11 : arg11.IsWhole)
    (v9 : FVec F S2048x128 .f32) (v25 : FVec F S2048x1 .f32) (v28 : FVec F S2048x256 .f32) (v30 : FVec F S2048x1 .f32) (v31 : FVec F S2048x1 .f32) (v32 : FVec F S2048 .f32)
    (q : FVec F S2048x128 .bf16) (k v : Vec F S1x8448x128 .bf16) (init : FVec F S2048x1 .f32 × FVec F S2048x1 .f32 × FVec F S2048x1 .f32 × FVec F S2048x128 .f32) :
    LoopInvTy_k0_t1 (F := F) Unit ℕ (UR sig nD τ) ℕ Variants.none c none E i arg3 harg3 arg4 harg4 arg5 harg5 arg6 harg6 arg7 harg7 arg8 harg8 arg9 harg9 arg10 harg10 arg11 harg11 q v9 v25 v28 v30 v31 v32 init where
  inv := inv c arg4 harg4 arg5 harg5 arg8 harg8 arg9 harg9 arg10 harg10 arg11 harg11 q k v
  step := trip c E i arg3 harg3 arg4 harg4 arg5 harg5 arg6 harg6 arg7 harg7 arg8 harg8 arg9 harg9 arg10 harg10 arg11 harg11 v9 v25 v28 v30 v31 v32 q k v
end Cert.Kernel6Ideal.Online
end
-- ==== Proof.OnlineBody.lean ====
/-
  One block of queries under the running maximum: what the whole body writes.
-/
module
public import proofs.«01_k».proof.Proof.OnlineRun
@[expose] public section
set_option maxRecDepth 16384
noncomputable section
namespace Cert.Kernel6Ideal.Online
open Cert.Kernel6Ideal Cert.Kernel6Ideal.Gen
open Cert.KernelIdeal.Attn (chunk chunk_fits headPiece headOut query_loaded)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The result rows of one block, before the gates: the weighted sums of the values over the sums of the weights. -/
def rows (x0 : Vec F S1x512x512 .bf16) (x1 x2 : Vec F S1x8448x128 .bf16) : FVec F S2048x128 .f32 :=
  divf (accum (k0_pay15 x0) x1 x2 33) (broadcastTo S2048x128 (total (k0_pay15 x0) x1 33) broadcasts_S2048x1_S2048x128)

/-- The stores of the four heads of a group. -/
def pieces (x0 : Vec F S1x512x512 .bf16) (x1 x2 : Vec F S1x8448x128 .bf16) (x3 : Vec F S1x512x512 .bf16) : List (View.Piece (Elt F) S1x512x512 .bf16) :=
  [headPiece (rows x0 x1 x2) x3 3, headPiece (rows x0 x1 x2) x3 2, headPiece (rows x0 x1 x2) x3 1, headPiece (rows x0 x1 x2) x3 0]

/-- The chunks loaded outside the loop. -/
theorem at_0 (x : Vec F S1x8448x128 .bf16) :
    View.ld x (Rect.unit (s := S1x8448x128) ![0, 0, 0] ![1, 256, 128] inb_S1x8448x128_S1x256x128_0_0_0) = chunk x 0 :=
  chunk_of_rows x _ _ _ (by omega) rfl
theorem at_256 (x : Vec F S1x8448x128 .bf16) :
    View.ld x (Rect.unit (s := S1x8448x128) ![0, 256, 0] ![1, 256, 128] inb_S1x8448x128_S1x256x128_0_256_0) = chunk x 1 :=
  chunk_of_rows x _ _ _ (by omega) rfl
theorem at_7680 (x : Vec F S1x8448x128 .bf16) :
    View.ld x (Rect.unit (s := S1x8448x128) ![0, 7680, 0] ![1, 256, 128] inb_S1x8448x128_S1x256x128_0_7680_0) = chunk x 30 :=
  chunk_of_rows x _ _ _ (by omega) rfl
theorem at_7936 (x : Vec F S1x8448x128 .bf16) :
    View.ld x (Rect.unit (s := S1x8448x128) ![0, 7936, 0] ![1, 256, 128] inb_S1x8448x128_S1x256x128_0_7936_0) = chunk x 31 :=
  chunk_of_rows x _ _ _ (by omega) rfl
theorem at_8192 (x : Vec F S1x8448x128 .bf16) :
    View.ld x (Rect.unit (s := S1x8448x128) ![0, 8192, 0] ![1, 256, 128] inb_S1x8448x128_S1x256x128_0_8192_0) = chunk x 32 :=
  chunk_of_rows x _ _ _ (by omega) rfl

/-- The stages outside the loop compute the same functions too. -/
theorem first_scores (x : Vec F S1x512x512 .bf16) (y : Vec F S1x256x128 .bf16) : k0_pay18 x y = k0_pay1 (k0_pay15 x) y := rfl
theorem second_scores (x : Vec F S1x512x512 .bf16) (y : Vec F S1x256x128 .bf16) : k0_pay19 x y = k0_pay1 (k0_pay15 x) y := rfl
theorem last_scores (q : FVec F S2048x128 .bf16) (y : Vec F S1x256x128 .bf16) : k0_pay28 q y = k0_pay1 q y := rfl
theorem late_accum (a : FVec F S2048x1 .f32) (x : FVec F S2048x128 .f32) (p : Vec F S2048x256 .bf16) (vc : Vec F S1x256x128 .bf16) :
    k0_pay29 a x p vc = k0_pay2 a x p vc := rfl
theorem late_top (t : FVec F S2048x1 .f32) (s : Vec F S2048x256 .f32) : k0_pay30 t s = k0_pay3 t s := rfl
theorem late_rescale (t : FVec F S2048x1 .f32) (s : Vec F S2048x256 .f32) : k0_pay32 t s = k0_pay5 t s := rfl
theorem late_total (t l : FVec F S2048x1 .f32) (s : Vec F S2048x256 .f32) : k0_pay33 t l s = k0_pay6 t l s := rfl
theorem late_weights (t : FVec F S2048x1 .f32) (s : Vec F S2048x256 .f32) : k0_pay35 (k0_pay34 t s) = k0_pay7 t s := rfl
theorem last_weights (t : FVec F S2048x1 .f32) (s : Vec F S2048x256 .f32) : k0_pay38 t s = k0_pay7 t s := rfl
/-- The last stage adds two chunks and divides. -/
theorem last_rows (q : FVec F S2048x128 .bf16) (k v : Vec F S1x8448x128 .bf16) :
    k0_pay39 (accum q k v 31) (top q k 32) (rescale q k 31) (total q k 32) (weights q k 31) (chunk v 31) (scores q k 32) (weights q k 32) (chunk v 32)
      = divf (accum q k v 33) (broadcastTo S2048x128 (total q k 33) broadcasts_S2048x1_S2048x128) := by
  rw [accum_succ q k v 32, accum_succ q k v 31, total_succ q k 32]
  rfl

theorem trips_eq : Scf.trips k0_t1_loop.lb k0_t1_loop.ub k0_t1_loop.st = 15 := by decide

set_option maxHeartbeats 1000000 in
/-- Before the loop: the scores of the first two chunks and the first maximum. -/
theorem part3 (c : Dev nD) (E : Set ℕ) (i : grid0.Coords) (arg3 : Memref sig .tc .vmem S1x512x512 .bf16) (harg3 : arg3.IsWhole) (arg4 : Memref sig .tc .vmem S1x8448x128 .bf16) (harg4 : arg4.IsWhole) (arg5 : Memref sig .tc .vmem S1x8448x128 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S2048x256 .f32) (harg8 : arg8.IsWhole) (arg9 : Memref sig .tc .vmem S2048x256 .f32) (harg9 : arg9.IsWhole) (arg10 : Memref sig .tc .vmem S2048x256 .bf16) (harg10 : arg10.IsWhole) (arg11 : Memref sig .tc .vmem S2048x256 .bf16) (harg11 : arg11.IsWhole)
    (x0 : Vec F S1x512x512 .bf16) (k : Vec F S1x8448x128 .bf16) :
    (iprop((arg3.view.loc (c : Thread nD τ) ↦[arg3.view.set]{fullShare} harg3.unread x0) ∗ (arg4.view.loc (c : Thread nD τ) ↦[arg4.view.set]{fullShare} harg4.unread k) ∗ (∃ f, (arg8.view.loc (c : Thread nD τ) ↦[arg8.view.set]{fullShare} f)) ∗ (∃ f, (arg9.view.loc (c : Thread nD τ) ↦[arg9.view.set]{fullShare} f))) : sProp 𝕄)
      ⊢ wp frame (wpE (defs₀ (F := F)) Variants.none (c : Thread nD τ) none) E (k0_part3_skel (F := F) i arg3 harg3 arg4 harg4 arg5 harg5 arg6 harg6 arg7 harg7 arg8 harg8 arg9 harg9 arg10 harg10 arg11 harg11)
          (fun r => iprop((arg3.view.loc (c : Thread nD τ) ↦[arg3.view.set]{fullShare} harg3.unread x0) ∗ (arg4.view.loc (c : Thread nD τ) ↦[arg4.view.set]{fullShare} harg4.unread k) ∗ (∃ f, (arg8.view.loc (c : Thread nD τ) ↦[arg8.view.set]{fullShare} f)) ∗ (∃ f, (arg9.view.loc (c : Thread nD τ) ↦[arg9.view.set]{fullShare} f) ∗ ⌜arg9.view.read (Elt F) f = scores (k0_pay15 x0) k 1⌝)
            ∗ ⌜r = ⟨k0_pay15 x0, k0_pay17, k0_pay20 (scores (k0_pay15 x0) k 0), k0_pay21 (scores (k0_pay15 x0) k 0), k0_pay22 (scores (k0_pay15 x0) k 0),
                k0_pay23 (scores (k0_pay15 x0) k 0), k0_pay24 (scores (k0_pay15 x0) k 0)⟩⌝)) := by
  iintro ⟨H3, H4, ⟨%f8, H8⟩, ⟨%f9, H9⟩⟩
  unfold k0_part3_skel
  sl_exec
  sl_step
  isplitl [H3]; · iexact H3
  isplitl [H4]; · iexact H4
  isplitl [H8]; · iexists _; iexact H8
  isplitl [H9]
  · iexists _; isplitl [H9]; · iexact H9
    ipureintro
    refine (View.read_writes_full (s := S2048x256) (e := .f32) (Val := Elt F) _ _ (off := ![0, 0]) inb_S2048x256_S2048x256_0_0 _ _).trans ?_
    simp only [View.readAt_eq_ld, harg3.read_unread, harg4.read_unread, query_loaded, at_256, second_scores]
    rfl
  ipureintro
  delta part3.sl.v22 part3.sl.H8_1
  simp only [View.readAt_eq_ld, harg3.read_unread, harg4.read_unread, query_loaded, at_0, stored_scores, first_scores]
  rfl

set_option maxHeartbeats 1000000 in
/-- The first weights, the loop over pairs of chunks, and the scores of the last chunk. -/
theorem part4 (c : Dev nD) (E : Set ℕ) (i : grid0.Coords) (arg3 : Memref sig .tc .vmem S1x512x512 .bf16) (harg3 : arg3.IsWhole) (arg4 : Memref sig .tc .vmem S1x8448x128 .bf16) (harg4 : arg4.IsWhole) (arg5 : Memref sig .tc .vmem S1x8448x128 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S2048x256 .f32) (harg8 : arg8.IsWhole) (arg9 : Memref sig .tc .vmem S2048x256 .f32) (harg9 : arg9.IsWhole) (arg10 : Memref sig .tc .vmem S2048x256 .bf16) (harg10 : arg10.IsWhole) (arg11 : Memref sig .tc .vmem S2048x256 .bf16) (harg11 : arg11.IsWhole)
    (v9 : FVec F S2048x128 .f32) (v25 : FVec F S2048x1 .f32) (v28 : FVec F S2048x256 .f32) (v30 : FVec F S2048x1 .f32) (v31 : FVec F S2048x1 .f32) (v32 : FVec F S2048 .f32)
    (q : FVec F S2048x128 .bf16) (k v : Vec F S1x8448x128 .bf16) (hw : k0_pay26 v28 = weights q k 0) (hc : (v25, k0_pay25 v31 v32, v30, v9) = carried q k v 0) :
    (iprop((arg4.view.loc (c : Thread nD τ) ↦[arg4.view.set]{fullShare} harg4.unread k) ∗ (arg5.view.loc (c : Thread nD τ) ↦[arg5.view.set]{fullShare} harg5.unread v) ∗ (∃ f, (arg8.view.loc (c : Thread nD τ) ↦[arg8.view.set]{fullShare} f)) ∗ (arg9.view.loc (c : Thread nD τ) ↦[arg9.view.set]{fullShare} harg9.unread (scores q k 1)) ∗ (∃ f, (arg10.view.loc (c : Thread nD τ) ↦[arg10.view.set]{fullShare} f)) ∗ (∃ f, (arg11.view.loc (c : Thread nD τ) ↦[arg11.view.set]{fullShare} f))) : sProp 𝕄)
      ⊢ wp frame (wpE (defs₀ (F := F)) Variants.none (c : Thread nD τ) none) E
          (k0_part4_skel (F := F) i arg3 harg3 arg4 harg4 arg5 harg5 arg6 harg6 arg7 harg7 arg8 harg8 arg9 harg9 arg10 harg10 arg11 harg11 q v9 v25 v28 v30 v31 v32)
          (fun r => iprop((arg4.view.loc (c : Thread nD τ) ↦[arg4.view.set]{fullShare} harg4.unread k) ∗ (arg5.view.loc (c : Thread nD τ) ↦[arg5.view.set]{fullShare} harg5.unread v) ∗ (∃ f, (arg8.view.loc (c : Thread nD τ) ↦[arg8.view.set]{fullShare} f) ∗ ⌜arg8.view.read (Elt F) f = scores q k 32⌝) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f))
            ∗ ⌜r = ⟨accum q k v 31, top q k 32, rescale q k 31, total q k 32, k0_pay34 (top q k 31) (scores q k 31)⟩⌝)) := by
  iintro ⟨H4, H5, ⟨%f8, H8⟩, H9, ⟨%f10, H10⟩, ⟨%f11, H11⟩⟩
  unfold k0_part4_skel
  let L := loop c E i arg3 harg3 arg4 harg4 arg5 harg5 arg6 harg6 arg7 harg7 arg8 harg8 arg9 harg9 arg10 harg10 arg11 harg11 v9 v25 v28 v30 v31 v32 q k v (v25, k0_pay25 v31 v32, v30, v9)
  have e9 : arg9.view.read (Elt F) (harg9.unread (scores q k 1)) = scores q k (2 * 0 + 1) := harg9.read_unread _
  have e10 : arg10.view.read (Elt F) (arg10.view.writes (Elt F) arg10.view.junk
      [⟨Rect.unit ![0, 0] S2048x256.size inb_S2048x256_S2048x256_0_0, k0_pay26 v28⟩]) = weights q k (2 * 0) := by
    rw [← hw]
    exact View.read_writes_full (s := S2048x256) (e := .bf16) (Val := Elt F) _ _ (off := ![0, 0]) inb_S2048x256_S2048x256_0_0 _ _
  sl_exec
  sl_step
  rw [trips_eq] at hL4 hL6
  isplitl [H4]; · iexact H4
  isplitl [H5]; · iexact H5
  isplitl [H8]
  · iexists _; isplitl [H8]; · iexact H8
    ipureintro
    refine (View.read_writes_full (s := S2048x256) (e := .f32) (Val := Elt F) _ _ (off := ![0, 0]) inb_S2048x256_S2048x256_0_0 _ _).trans ?_
    simp only [View.readAt_eq_ld, harg4.read_unread, at_8192, last_scores]
    rfl
  isplitl [H9]; · iexists _; iexact H9
  isplitl [H10]; · iexists _; iexact H10
  isplitl [H11]; · iexists _; iexact H11
  ipureintro
  simp only [trips_eq, View.readAt_eq_ld, harg5.read_unread, hL4, hL6, at_7680, whole_scores, whole_weights, late_accum, late_top, late_rescale, late_total]
  rw [accum_succ q k v 30, top_succ q k 31, total_succ q k 31]
  rfl

set_option maxHeartbeats 1000000 in
/-- After the loop: the last two chunks of values, and the quotient. -/
theorem part5 (c : Dev nD) (E : Set ℕ) (i : grid0.Coords) (arg3 : Memref sig .tc .vmem S1x512x512 .bf16) (harg3 : arg3.IsWhole) (arg4 : Memref sig .tc .vmem S1x8448x128 .bf16) (harg4 : arg4.IsWhole) (arg5 : Memref sig .tc .vmem S1x8448x128 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S2048x256 .f32) (harg8 : arg8.IsWhole) (arg9 : Memref sig .tc .vmem S2048x256 .f32) (harg9 : arg9.IsWhole) (arg10 : Memref sig .tc .vmem S2048x256 .bf16) (harg10 : arg10.IsWhole) (arg11 : Memref sig .tc .vmem S2048x256 .bf16) (harg11 : arg11.IsWhole)
    (q : FVec F S2048x128 .bf16) (k v : Vec F S1x8448x128 .bf16) :
    (iprop((arg5.view.loc (c : Thread nD τ) ↦[arg5.view.set]{fullShare} harg5.unread v) ∗ (arg8.view.loc (c : Thread nD τ) ↦[arg8.view.set]{fullShare} harg8.unread (scores q k 32)) ∗ (∃ f, (arg10.view.loc (c : Thread nD τ) ↦[arg10.view.set]{fullShare} f)) ∗ (∃ f, (arg11.view.loc (c : Thread nD τ) ↦[arg11.view.set]{fullShare} f))) : sProp 𝕄)
      ⊢ wp frame (wpE (defs₀ (F := F)) Variants.none (c : Thread nD τ) none) E
          (k0_part5_skel (F := F) i arg3 harg3 arg4 harg4 arg5 harg5 arg6 harg6 arg7 harg7 arg8 harg8 arg9 harg9 arg10 harg10 arg11 harg11 (accum q k v 31) (top q k 32) (rescale q k 31) (total q k 32) (k0_pay34 (top q k 31) (scores q k 31)))
          (fun r => iprop((arg5.view.loc (c : Thread nD τ) ↦[arg5.view.set]{fullShare} harg5.unread v) ∗ (arg8.view.loc (c : Thread nD τ) ↦[arg8.view.set]{fullShare} harg8.unread (scores q k 32)) ∗ (∃ f, (arg10.view.loc (c : Thread nD τ) ↦[arg10.view.set]{fullShare} f)) ∗ (∃ f, (arg11.view.loc (c : Thread nD τ) ↦[arg11.view.set]{fullShare} f))
            ∗ ⌜r = divf (accum q k v 33) (broadcastTo S2048x128 (total q k 33) broadcasts_S2048x1_S2048x128)⌝)) := by
  iintro ⟨H5, H8, ⟨%f10, H10⟩, ⟨%f11, H11⟩⟩
  unfold k0_part5_skel
  sl_exec
  sl_step
  isplitl [H5]; · iexact H5
  isplitl [H8]; · iexact H8
  isplitl [H10]; · iexists _; iexact H10
  isplitl [H11]; · iexists _; iexact H11
  ipureintro
  delta part5.sl.v73 part5.sl.v97 part5.sl.H11_1 part5.sl.H10_1
  simp only [View.readAt_eq_ld, harg5.read_unread, harg8.read_unread, at_7936, at_8192, whole_scores, stored_weights, late_weights, last_weights]
  exact last_rows q k v

set_option maxHeartbeats 1000000 in
/-- The gates of the four heads, and the stores of the first three. -/
theorem part6 (c : Dev nD) (E : Set ℕ) (i : grid0.Coords) (arg3 : Memref sig .tc .vmem S1x512x512 .bf16) (harg3 : arg3.IsWhole) (arg4 : Memref sig .tc .vmem S1x8448x128 .bf16) (harg4 : arg4.IsWhole) (arg5 : Memref sig .tc .vmem S1x8448x128 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S2048x256 .f32) (harg8 : arg8.IsWhole) (arg9 : Memref sig .tc .vmem S2048x256 .f32) (harg9 : arg9.IsWhole) (arg10 : Memref sig .tc .vmem S2048x256 .bf16) (harg10 : arg10.IsWhole) (arg11 : Memref sig .tc .vmem S2048x256 .bf16) (harg11 : arg11.IsWhole)
    (o : FVec F S2048x128 .f32) (x3 : Vec F S1x512x512 .bf16) :
    (iprop((arg6.view.loc (c : Thread nD τ) ↦[arg6.view.set]{fullShare} harg6.unread x3) ∗ (∃ f, (arg7.view.loc (c : Thread nD τ) ↦[arg7.view.set]{fullShare} f))) : sProp 𝕄)
      ⊢ wp frame (wpE (defs₀ (F := F)) Variants.none (c : Thread nD τ) none) E (k0_part6_skel (F := F) i arg3 harg3 arg4 harg4 arg5 harg5 arg6 harg6 arg7 harg7 arg8 harg8 arg9 harg9 arg10 harg10 arg11 harg11 o)
          (fun r => iprop((arg6.view.loc (c : Thread nD τ) ↦[arg6.view.set]{fullShare} harg6.unread x3) ∗ (∃ f, (arg7.view.loc (c : Thread nD τ) ↦[arg7.view.set]{fullShare} arg7.view.writes (Elt F) f [headPiece o x3 2, headPiece o x3 1, headPiece o x3 0]))
            ∗ ⌜r = headOut o x3 3⌝)) := by
  iintro ⟨H6, ⟨%f7, H7⟩⟩
  unfold k0_part6_skel
  sl_exec
  sl_step
  simp only [View.readAt_eq_ld, harg6.read_unread]
  isplitl [H6]; · iexact H6
  isplitl [H7]; · iexists _; iexact H7
  ipureintro
  rfl

set_option maxHeartbeats 1000000 in
/-- The body on whole staging buffers writes the stores of the four heads. -/
theorem body (c : Dev nD) (i : grid0.Coords) (arg3 : Memref sig .tc .vmem S1x512x512 .bf16) (harg3 : arg3.IsWhole) (arg4 : Memref sig .tc .vmem S1x8448x128 .bf16) (harg4 : arg4.IsWhole) (arg5 : Memref sig .tc .vmem S1x8448x128 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S2048x256 .f32) (harg8 : arg8.IsWhole) (arg9 : Memref sig .tc .vmem S2048x256 .f32) (harg9 : arg9.IsWhole) (arg10 : Memref sig .tc .vmem S2048x256 .bf16) (harg10 : arg10.IsWhole) (arg11 : Memref sig .tc .vmem S2048x256 .bf16) (harg11 : arg11.IsWhole)
    (x0 : Vec F S1x512x512 .bf16) (x1 : Vec F S1x8448x128 .bf16) (x2 : Vec F S1x8448x128 .bf16) (x3 : Vec F S1x512x512 .bf16) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f (pieces x0 x1 x2 x3)) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_gqa_attention i arg3 harg3 arg4 harg4 arg5 harg5 arg6 harg6 arg7 harg7 arg8 harg8 arg9 harg9 arg10 harg10 arg11 harg11) K := by
  simp only [cc0_gqa_attention_eq_skeleton]; unfold cc0_gqa_attention_skel
  simp only [k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, ⟨%ds3, %fs3, -, HS3⟩, Hk⟩
  obtain rfl := harg3.eq_unread hf0; obtain rfl := harg4.eq_unread hf1; obtain rfl := harg5.eq_unread hf2; obtain rfl := harg6.eq_unread hf3
  rw [wp_bind]
  iapply (wp_wand_r frame (wpE (defs₀ (F := F)) Variants.none (c : Thread nD τ) none) E)
  isplitl [H0 H1 HS0 HS1]
  · iapply (part3 c E i arg3 harg3 arg4 harg4 arg5 harg5 arg6 harg6 arg7 harg7 arg8 harg8 arg9 harg9 arg10 harg10 arg11 harg11 x0 x1)
    isplitl [H0]; · iexact H0
    isplitl [H1]; · iexact H1
    isplitl [HS0]; · iexists _; iexact HS0
    iexists _; iexact HS1
  iintro %r ⟨H0, H1, ⟨%g8, HS0⟩, ⟨%g9, HS1, %h9⟩, %hr⟩
  subst hr
  obtain rfl := harg9.eq_unread h9
  dsimp only
  rw [wp_bind]
  iapply (wp_wand_r frame (wpE (defs₀ (F := F)) Variants.none (c : Thread nD τ) none) E)
  isplitl [H1 H2 HS0 HS1 HS2 HS3]
  · iapply (part4 c E i arg3 harg3 arg4 harg4 arg5 harg5 arg6 harg6 arg7 harg7 arg8 harg8 arg9 harg9 arg10 harg10 arg11 harg11 _ _ _ _ _ _ (k0_pay15 x0) x1 x2 rfl rfl)
    isplitl [H1]; · iexact H1
    isplitl [H2]; · iexact H2
    isplitl [HS0]; · iexists _; iexact HS0
    isplitl [HS1]; · iexact HS1
    isplitl [HS2]; · iexists _; iexact HS2
    iexists _; iexact HS3
  iintro %r ⟨H1, H2, ⟨%g8, HS0, %h8⟩, ⟨%g9, HS1⟩, ⟨%g10, HS2⟩, ⟨%g11, HS3⟩, %hr⟩
  subst hr
  obtain rfl := harg8.eq_unread h8
  dsimp only
  rw [wp_bind]
  iapply (wp_wand_r frame (wpE (defs₀ (F := F)) Variants.none (c : Thread nD τ) none) E)
  isplitl [H2 HS0 HS2 HS3]
  · iapply (part5 c E i arg3 harg3 arg4 harg4 arg5 harg5 arg6 harg6 arg7 harg7 arg8 harg8 arg9 harg9 arg10 harg10 arg11 harg11 (k0_pay15 x0) x1 x2)
    isplitl [H2]; · iexact H2
    isplitl [HS0]; · iexact HS0
    isplitl [HS2]; · iexists _; iexact HS2
    iexists _; iexact HS3
  iintro %r ⟨H2, HS0, ⟨%g10, HS2⟩, ⟨%g11, HS3⟩, %hr⟩
  subst hr
  rw [wp_bind]
  iapply (wp_wand_r frame (wpE (defs₀ (F := F)) Variants.none (c : Thread nD τ) none) E)
  isplitl [H3 H4]
  · iapply (part6 c E i arg3 harg3 arg4 harg4 arg5 harg5 arg6 harg6 arg7 harg7 arg8 harg8 arg9 harg9 arg10 harg10 arg11 harg11 _ x3)
    isplitl [H3]; · iexact H3
    iexists _; iexact H4
  iintro %r ⟨H3, ⟨%g7, H4⟩, %hr⟩
  subst hr
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]; · iexists _; iexact H4
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.Kernel6Ideal.Online
end
-- ==== Proof.OnlineFrame.lean ====
/-
  The launch around the body under the running maximum: the pipeline's data, the obligation at a generic point, and the frame.
-/
module
public import proofs.«01_k».proof.Proof.OnlineBody
public import Idealize.ShloMosaic.Lib.Claim
@[expose] public section
set_option maxRecDepth 16384
noncomputable section
namespace Cert.Kernel6Ideal.Online
open Cert.Kernel6Ideal Cert.Kernel6Ideal.Gen
open Cert.KernelIdeal.Attn (headPiece)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four stores tile the block. -/
theorem covered (x0 : Vec F S1x512x512 .bf16) (x1 x2 : Vec F S1x8448x128 .bf16) (x3 : Vec F S1x512x512 .bf16) (y : S1x512x512.Idx) :
    ∃ pc ∈ pieces x0 x1 x2 x3, y ∈ pc.1.set :=
  View.cover_of_tiledL (pieces x0 x1 x2 x3) S1x512x128.size (by sl_kernel_rfl) y

/-- The block the call writes at point `t`. -/
def written (c : Dev nD) (t : Fin cfg0.N) : Vec F S1x512x512 .bf16 :=
  View.canon (pieces (iblk m c 0 t) (iblk m c 1 t) (iblk m c 2 t) (iblk m c 3 t))

/-- The pipeline on core `c`: its arrays as found, after the body each input block as it was and the output block `written`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (written m c t)
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (written m c t) := by dsimp only [dats]

/-- Each input holds its block before the body. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold written
  iintro ⟨⟨⟨HS0, HS1, HS2, HS3⟩, Hg⟩, Ho, ⟨%d0, H0⟩, ⟨%d1, H1⟩, ⟨%d2, H2⟩, ⟨%d3, H3⟩, ⟨%d4, H4⟩⟩
  iapply (body c (grid0.coords t) _ _ _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  iintro ⟨H0, H1, H2, H3, ⟨%e4, H4⟩, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_eq_canon _ _ _ (covered _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch ends with every array of the pipeline as the data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: every run ends, the arguments unchanged and the counters at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel6Ideal.Online
end
-- ==== Proof.OnlineBits.lean ====
/-
  The frame at machine numbers: the two printings of the general attention call are one program, so the frame of the one is the other's.
-/
module
public import proofs.«01_k».proof.Proof.OnlineFrame
public import proofs.«01_k».proof.Proof.Gen.Kernel6
public import proofs.«01_k».proof.Defs
@[expose] public section
set_option maxRecDepth 16384
namespace Cert.Kernel6.Online
open Idealize.ShloMosaic Idealize.ShloMosaic.TcCoe Idealize.ShloMosaic.Tactic Idealize.SL.Sem

/-- The two body tables are the same. -/
theorem defs_same : Cert.Kernel6.defs (F := Bits) = Cert.Kernel6Ideal.defs (F := Bits) := by sl_kernel_rfl

/-- The frame at machine numbers. -/
theorem framed (m : (ℓ : Loc Cert.Kernel6.nD Cert.Kernel6.τ Cert.Kernel6.sig) → Buf (Elt Bits) ℓ) (g : Dev Cert.Kernel6.nD → PrngReg) :
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0) := by
  rw [defs_same]
  exact Cert.Kernel6Ideal.Online.framed (F := Bits) m g
end Cert.Kernel6.Online
end
-- ==== Proof.AttnSum.lean ====
/-
  The accumulator of one block of queries read entry by entry over the extended reals: sums over all keys.
-/
module
public import proofs.«01_k».proof.Proof.AttnBlock
public import Idealize.ShloMosaic.Lib.MatmulPlain
public import Idealize.ShloMosaic.Lib.ValueIdx
public import Idealize.ShloMosaic.Lib.IdealHost
public import Idealize.ShloMosaic.Lib.Pipeline.ValueKit.Acc
@[expose] public section
set_option maxRecDepth 16384
noncomputable section
namespace Cert.KernelIdeal.Attn
open Cert.KernelIdeal Cert.KernelIdeal.Gen Idealize.ShloMosaic Idealize.ShloMosaic.TcCoe Idealize.SL.Sem
open Idealize.ShloMosaic.Pipeline (Dat)
open Idealize.ShloMosaic.ValueIdx (ix2 ix3)
open scoped BigOperators

/-- The row of the key or value block that chunk `n` holds at its row `c`. -/
abbrev row (n : ℕ) (c : Fin 256) : Fin 8448 :=
  ⟨256 * (n % 33) + c.val, by have h := Nat.mod_lt n (by decide : 0 < 33); have := c.isLt; omega⟩

theorem chunk_apply (x : FVec Ideal S1x8448x128 .bf16) (n : ℕ) (c : Fin 256) (d : Fin 128) :
    chunk (F := Ideal) x n (ix3 0 c d) = x (ix3 0 (row n c) d) := by
  refine congrArg x ?_
  funext a
  apply Fin.ext
  fin_cases a
  · show 0 + 1 * 0 = 0
    rfl
  · show 256 * (n % 33) + 1 * c.val = 256 * (n % 33) + c.val
    omega
  · show 0 + 1 * d.val = d.val
    omega

theorem chunk_flat_apply (x : FVec Ideal S1x8448x128 .bf16) (n : ℕ) (c : Fin 256) (d : Fin 128) :
    shapeCast S256x128 (chunk (F := Ideal) x n) shapeCasts_S1x256x128_S256x128 (ix2 c d) = x (ix3 0 (row n c) d) := by
  rw [← chunk_apply x]
  refine (shapeCast_dropUnit_apply ![256, 128] (chunk (F := Ideal) x n) _ (ix2 c d)).trans (congrArg (chunk (F := Ideal) x n) ?_)
  funext a
  fin_cases a <;> rfl

/-- The score of a query row against a key. -/
def score (q : FVec Ideal S2048x128 .bf16) (k : FVec Ideal S1x8448x128 .bf16) (r : Fin 2048) (l : Fin 8448) : EReal :=
  ∑ d : Fin 128, q (ix2 r d) * k (ix3 0 l d)

theorem weights_apply (q : FVec Ideal S2048x128 .bf16) (k : FVec Ideal S1x8448x128 .bf16) (n : ℕ) (r : Fin 2048) (c : Fin 256) :
    weights (F := Ideal) q (chunk k n) (ix2 r c) = Ideal.exp2 (score q k r (row n c)) := by
  unfold weights
  rw [shapeCast_self]
  show Ideal.exp2 (FloatOps.matmul (DotDims.transposedRhs 2048 128 256) none q _ _ (ix2 r c)) = _
  rw [Ideal.matmul_transposedRhs_apply]
  refine congrArg Ideal.exp2 ?_
  rw [show (constant S2048x256 .f32 0x00000000#32 : FVec Ideal S2048x256 .f32) (ix2 r c) = 0 from Ideal.ofBits_zero_f32, zero_add]
  exact Finset.sum_congr rfl fun d _ => by rw [chunk_flat_apply]

/-- The values with ones beside them: the value in the first 128 columns, one in the others. -/
def valOne (v : FVec Ideal S1x8448x128 .bf16) (l : Fin 8448) (col : Fin 256) : EReal :=
  if h : col.val < 128 then v (ix3 0 l ⟨col.val, h⟩) else 1

theorem withOnes_apply (v : FVec Ideal S1x8448x128 .bf16) (n : ℕ) (c : Fin 256) (col : Fin 256) :
    withOnes (F := Ideal) (chunk v n) (ix2 c col) = valOne v (row n c) col := by
  unfold withOnes valOne
  split
  · rename_i h
    rw [← chunk_flat_apply v]
    exact concatenate_pair_apply_left (s₁ := S256x128) (s₂ := S256x128) (1 : Fin S256x256.rank) _ _ _ (ix2 c col) rfl (ix2 c ⟨col.val, h⟩)
      (fun b => by fin_cases b <;> rfl)
  · rename_i h
    have hc := col.isLt
    refine (concatenate_pair_apply_right (s₁ := S256x128) (s₂ := S256x128) (1 : Fin S256x256.rank) _ _ _ (ix2 c col) rfl rfl
      (ix2 c ⟨col.val - 128, by omega⟩) (fun b hb => ?_) ?_).trans Ideal.ofBits_one_bf16
    · fin_cases b
      · rfl
      · exact absurd rfl hb
    · show col.val - 128 + 128 = col.val
      omega

theorem step_apply (acc : FVec Ideal S2048x256 .f32) (p : FVec Ideal S2048x256 .bf16) (vc : FVec Ideal S1x256x128 .bf16) (r : Fin 2048) (col : Fin 256) :
    step (F := Ideal) acc p vc (ix2 r col) = acc (ix2 r col) + ∑ c : Fin 256, p (ix2 r c) * withOnes (F := Ideal) vc (ix2 c col) := by
  show acc (ix2 r col) + FloatOps.matmul (DotDims.plain 2048 256 256) none p _ _ (ix2 r col) = _
  rw [Ideal.matmul_plain_apply, show (constant S2048x256 .f32 0x00000000#32 : FVec Ideal S2048x256 .f32) (ix2 r col) = 0 from Ideal.ofBits_zero_f32, zero_add]

theorem accum_range (q : FVec Ideal S2048x128 .bf16) (k v : FVec Ideal S1x8448x128 .bf16) (r : Fin 2048) (col : Fin 256) (n : ℕ) :
    accum (F := Ideal) q k v n (ix2 r col)
      = ∑ j ∈ Finset.range n, ∑ c : Fin 256, Ideal.exp2 (score q k r (row j c)) * valOne v (row j c) col := by
  induction n with
  | zero =>
    rw [Finset.range_zero, Finset.sum_empty]
    exact Ideal.ofBits_zero_f32
  | succ n ih =>
    show step _ _ _ _ = _
    rw [step_apply, ih, Finset.sum_range_succ]
    refine congrArg (_ + ·) (Finset.sum_congr rfl fun c _ => ?_)
    rw [weights_apply, withOnes_apply]

/-- After all 33 chunks the accumulator holds the sums over all 8448 keys. -/
theorem accum_all (q : FVec Ideal S2048x128 .bf16) (k v : FVec Ideal S1x8448x128 .bf16) (r : Fin 2048) (col : Fin 256) :
    accum (F := Ideal) q k v 33 (ix2 r col) = ∑ l : Fin 8448, Ideal.exp2 (score q k r l) * valOne v l col := by
  rw [accum_range, Finset.sum_range]
  refine Fin.sum_mul_add_congr (S := 33) (n := 256) (fun s c hl => ?_)
  have e : row s.val c = ⟨s.val * 256 + c.val, hl⟩ := Fin.ext (by
    show 256 * (s.val % 33) + c.val = s.val * 256 + c.val
    rw [Nat.mod_eq_of_lt s.isLt, Nat.mul_comm])
  rw [e]
end Cert.KernelIdeal.Attn
end
-- ==== Proof.AttnEntry.lean ====
/-
  One entry of the block the attention call writes: the values averaged with the powers of two of the scores as weights, times the gate.
-/
module
public import proofs.«01_k».proof.Proof.AttnSum
@[expose] public section
set_option maxRecDepth 16384
noncomputable section
namespace Cert.KernelIdeal.Attn
open Cert.KernelIdeal Cert.KernelIdeal.Gen Idealize.ShloMosaic Idealize.ShloMosaic.TcCoe Idealize.SL.Sem
open Idealize.ShloMosaic.Pipeline (Dat)
open Idealize.ShloMosaic.ValueIdx (ix2 ix3 eq_ix3)
open scoped BigOperators

/-- The values averaged with the powers of two of the scores as weights. -/
def average (s v : Fin 8448 → EReal) : EReal := Ideal.div (∑ l, Ideal.exp2 (s l) * v l) (∑ l, Ideal.exp2 (s l))

/-- Column `128 g + d` of the 512 columns of a group. -/
abbrev col (g : Fin 4) (d : Fin 128) : Fin 512 := ⟨128 * g.val + d.val, by have := g.isLt; have := d.isLt; omega⟩
/-- Row `512 g + t` of the 2048 stacked query rows of a group. -/
abbrev stacked (g : Fin 4) (t : Fin 512) : Fin 2048 := ⟨512 * g.val + t.val, by have := g.isLt; have := t.isLt; omega⟩

/-- The columns of head `g` of a query block. -/
def queryHead (x0 : FVec Ideal S1x512x512 .bf16) (g : Fin 4) : FVec Ideal S512x128 .bf16 :=
  fun j => x0 (ix3 0 (j 0) (col g (j 1)))

theorem query_slice (x0 : FVec Ideal S1x512x512 .bf16) (g : Fin 4) (h : S512x512.Slices ![0, 128 * g.val] S512x128) :
    extractStridedSlice S512x128 ![0, 128 * g.val] (shapeCast S512x512 x0 shapeCasts_S1x512x512_S512x512) h = queryHead x0 g := by
  funext j
  refine (extractStridedSlice_apply _ _ h j (ix2 (j 0) (col g (j 1))) (fun a => ?_)).trans
    ((shapeCast_dropUnit_apply ![512, 512] x0 _ _).trans (congrArg x0 ?_))
  · fin_cases a
    · show (j 0).val = 0 + (j 0).val
      omega
    · rfl
  · funext a
    fin_cases a <;> rfl

theorem cols_fit (g : Fin 4) : S512x512.Slices ![0, 128 * g.val] S512x128 := by
  have h := g.isLt
  refine ⟨rfl, fun a => ?_⟩
  fin_cases a
  · exact Nat.le_refl 512
  · show 128 * g.val + 128 ≤ 512
    omega

/-- Four blocks of 512 rows stacked, read at row `512 g + t`. -/
theorem stacked_apply (f : Fin 4 → S512x128.Idx → EReal) (g : Fin 4) (t : Fin 512) (d : Fin 128) :
    concatenate S2048x128 0 [⟨S512x128, f 0⟩, ⟨S512x128, f 1⟩, ⟨S512x128, f 2⟩, ⟨S512x128, f 3⟩]
      concatenates_S512x128_S512x128_S512x128_S512x128_S2048x128_d0 (ix2 (stacked g t) d) = f g (ix2 t d) := by
  have ht := t.isLt
  refine concatenate_ofFn_apply (s₁ := S512x128) (0 : Fin S2048x128.rank) f concatenates_S512x128_S512x128_S512x128_S512x128_S2048x128_d0 rfl 512 rfl
    (ix2 (stacked g t) d) g ?_ (ix2 t d) ?_ ?_
  · show (512 * g.val + t.val) / 512 = g.val
    omega
  · show t.val = (512 * g.val + t.val) % 512
    omega
  · intro b hb
    fin_cases b
    · exact absurd rfl hb
    · rfl

theorem query_stacked (x0 : FVec Ideal S1x512x512 .bf16) (g : Fin 4) (t : Fin 512) (d : Fin 128) :
    k0_pay2 (F := Ideal) x0 (ix2 (stacked g t) d) = x0 (ix3 0 t (col g d)) := by
  have e := stacked_apply (fun n : Fin 4 => extractStridedSlice S512x128 ![0, 128 * n.val] (shapeCast S512x512 x0 shapeCasts_S1x512x512_S512x512) (cols_fit n)) g t d
  refine Eq.trans ?_ (e.trans (congrFun (query_slice x0 g (cols_fit g)) (ix2 t d)))
  unfold k0_pay2
  rfl

/-- The scores of a query row of head `g` against the keys. -/
def scores (x0 : FVec Ideal S1x512x512 .bf16) (x1 : FVec Ideal S1x8448x128 .bf16) (g : Fin 4) (t : Fin 512) (l : Fin 8448) : EReal :=
  ∑ d : Fin 128, x0 (ix3 0 t (col g d)) * x1 (ix3 0 l d)

theorem score_stacked (x0 : FVec Ideal S1x512x512 .bf16) (x1 : FVec Ideal S1x8448x128 .bf16) (g : Fin 4) (t : Fin 512) :
    score (k0_pay2 (F := Ideal) x0) x1 (stacked g t) = scores x0 x1 g t :=
  funext fun l => Finset.sum_congr rfl fun d _ => by rw [query_stacked]

theorem ratio_apply (x0 : FVec Ideal S1x512x512 .bf16) (x1 x2 : FVec Ideal S1x8448x128 .bf16) (g : Fin 4) (t : Fin 512) (d : Fin 128) :
    ratio (F := Ideal) (accum (k0_pay2 x0) x1 x2 33) (ix2 (stacked g t) d) = average (scores x0 x1 g t) (fun l => x2 (ix3 0 l d)) := by
  have hd := d.isLt
  have e1 := extractStridedSlice_apply (![0, 0] : Fin 2 → ℕ) (accum (F := Ideal) (k0_pay2 x0) x1 x2 33) slices_S2048x256_o0_0_S2048x128
    (ix2 (stacked g t) d) (ix2 (stacked g t) ⟨d.val, by omega⟩) (fun a => by fin_cases a <;> exact (Nat.zero_add _).symm)
  have e2 := extractStridedSlice_apply (![0, 128] : Fin 2 → ℕ) (accum (F := Ideal) (k0_pay2 x0) x1 x2 33) slices_S2048x256_o0_128_S2048x128
    (ix2 (stacked g t) d) (ix2 (stacked g t) ⟨128 + d.val, by omega⟩) (fun a => by fin_cases a; exact (Nat.zero_add _).symm; rfl)
  show Ideal.div _ _ = _
  unfold average
  rw [e1, e2, accum_all, accum_all, score_stacked]
  congr 1
  · exact Finset.sum_congr rfl fun l _ => by rw [valOne, dif_pos hd]
  · refine Finset.sum_congr rfl fun l _ => ?_
    rw [valOne, dif_neg (by show ¬(128 + d.val < 128); omega), mul_one]

/-- One entry of the block written for one block of queries, by its row, its head and its column within the head. -/
def entry (x0 : FVec Ideal S1x512x512 .bf16) (x1 x2 : FVec Ideal S1x8448x128 .bf16) (x3 : FVec Ideal S1x512x512 .bf16) (t : Fin 512) (g : Fin 4) (d : Fin 128) : EReal :=
  average (scores x0 x1 g t) (fun l => x2 (ix3 0 l d)) * x3 (ix3 0 t (col g d))

/-- Rows that hold the averages, by head. -/
def Averages (o : FVec Ideal S2048x128 .f32) (x0 : FVec Ideal S1x512x512 .bf16) (x1 x2 : FVec Ideal S1x8448x128 .bf16) : Prop :=
  ∀ (g : Fin 4) (t : Fin 512) (d : Fin 128), o (ix2 (stacked g t) d) = average (scores x0 x1 g t) (fun l => x2 (ix3 0 l d))

theorem headOut_apply (o : FVec Ideal S2048x128 .f32) (x0 : FVec Ideal S1x512x512 .bf16) (x1 x2 : FVec Ideal S1x8448x128 .bf16) (x3 : FVec Ideal S1x512x512 .bf16)
    (ho : Averages o x0 x1 x2) (g : Fin 4) (t : Fin 512) (d : Fin 128) :
    headOut (F := Ideal) o x3 g (ix3 0 t d) = entry x0 x1 x2 x3 t g d := by
  unfold headOut
  refine (shapeCast_addUnit_apply ![512, 128] _ _ _).trans ?_
  unfold entry
  rw [← ho]
  refine congrArg₂ (fun a b : EReal => a * b) ?_ ?_
  · skip
    refine extractStridedSlice_apply _ _ _ _ _ (fun a => ?_)
    fin_cases a
    · rfl
    · exact (Nat.zero_add _).symm
  · refine (shapeCast_dropUnit_apply ![512, 128] (View.ld (Val := Elt Ideal) (e' := .bf16) x3 (headRect g)) _ _).trans (congrArg x3 ?_)
    funext a
    apply Fin.ext
    fin_cases a
    · rfl
    · show 0 + 1 * t.val = t.val
      omega
    · show 128 * g.val + 1 * d.val = 128 * g.val + d.val
      omega

/-- The whole block. -/
def block (x0 : FVec Ideal S1x512x512 .bf16) (x1 x2 : FVec Ideal S1x8448x128 .bf16) (x3 : FVec Ideal S1x512x512 .bf16) : FVec Ideal S1x512x512 .bf16 :=
  fun y => entry x0 x1 x2 x3 (y 1) ⟨(y 2).val / 128, by have : (y 2).val < 512 := (y 2).isLt; omega⟩ ⟨(y 2).val % 128, Nat.mod_lt _ (by decide)⟩

theorem canon_block (o : FVec Ideal S2048x128 .f32) (x0 : FVec Ideal S1x512x512 .bf16) (x1 x2 : FVec Ideal S1x8448x128 .bf16) (x3 : FVec Ideal S1x512x512 .bf16)
    (ho : Averages o x0 x1 x2) :
    View.canon [headPiece (F := Ideal) o x3 3, headPiece o x3 2,
      headPiece o x3 1, headPiece o x3 0] = block x0 x1 x2 x3 := by
  funext y
  refine View.canon_apply_of_pieces (Val := Elt Ideal) (S := S1x512x512) (e := .bf16) (block x0 x1 x2 x3) _ (fun p hp x => ?_) y ?_
  · obtain ⟨g, rfl⟩ : ∃ g, p = headPiece (F := Ideal) o x3 g := by
      simp only [List.mem_cons, List.not_mem_nil, or_false] at hp
      rcases hp with h | h | h | h <;> exact ⟨_, h⟩
    have hx : x = ix3 0 (x 1) (x 2) := by
      refine (eq_ix3 (n0 := 1) (n1 := 512) (n2 := 128) x).trans ?_
      rw [Subsingleton.elim (α := Fin 1) (x 0) 0]
      rfl
    have h2 : (x 2).val < 128 := (x 2).isLt
    rw [hx]
    refine (headOut_apply o x0 x1 x2 x3 ho g (x 1) (x 2)).trans ?_
    unfold block
    congr 1
    · apply Fin.ext
      show (x 1).val = 0 + 1 * (x 1).val
      omega
    · apply Fin.ext
      show g.val = (128 * g.val + 1 * (x 2).val) / 128
      omega
    · apply Fin.ext
      show (x 2).val = (128 * g.val + 1 * (x 2).val) % 128
      omega
  · have h2 : (y 2).val < 512 := (y 2).isLt
    refine ⟨headPiece o x3 ⟨(y 2).val / 128, by omega⟩, ?_, ?_⟩
    · have h : ∀ g : Fin 4, headPiece (F := Ideal) o x3 g ∈
          [headPiece (F := Ideal) o x3 3, headPiece o x3 2,
            headPiece o x3 1, headPiece o x3 0] := by
        intro g
        fin_cases g <;> simp
      exact h _
    · show y ∈ (headRect _).set
      rw [Rect.mem_set_unit]
      intro a
      fin_cases a
      · have : (y 0).val < 1 := (y 0).isLt
        exact ⟨Nat.zero_le _, by show (y 0).val < 0 + 1; omega⟩
      · have : (y 1).val < 512 := (y 1).isLt
        exact ⟨Nat.zero_le _, by show (y 1).val < 0 + 512; omega⟩
      · exact ⟨by show 128 * ((y 2).val / 128) ≤ (y 2).val; omega, by show (y 2).val < 128 * ((y 2).val / 128) + 128; omega⟩
end Cert.KernelIdeal.Attn
end
-- ==== Proof.Softmax.lean ====
/- The softmax average, from powers of two and from shifted exponentials.

   The kernel divides a sum of values weighted by `2 ^ s l` by the sum of those powers, with no shift; the reference
   multiplies each score by `log 2`, subtracts a shift, takes exponentials, divides each by their sum and then sums the
   values. At real scores both are the same average whatever the values are, infinite ones included, since the two
   weights of an entry differ by one positive real factor. -/
module

public import proofs.«01_k».proof.Proof.AttnEntry

@[expose] public section

noncomputable section

namespace Cert.Softmax

open Idealize.ShloMosaic
open Cert.KernelIdeal.Attn (average)
open scoped BigOperators

/-- A real sum, read among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes through a sum of extended reals. -/
theorem sum_mul_real {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.2 hc) (EReal.coe_ne_top c) _ _

/-- The sum of positive reals over a nonempty index is positive. -/
theorem sum_pos' {n : ℕ} (hn : 0 < n) (f : Fin n → ℝ) (h : ∀ i, 0 < f i) : 0 < ∑ i, f i :=
  Finset.sum_pos (fun i _ => h i) ⟨⟨0, hn⟩, Finset.mem_univ _⟩

/-- `exp (x * log 2 - M)` is `2 ^ x` scaled by `exp (-M)`. -/
theorem exp_shift (x M : ℝ) : Real.exp (x * Real.log 2 - M) = Real.rpow 2 x * Real.exp (-M) := by
  show _ = (2 : ℝ) ^ x * _
  rw [Real.rpow_def_of_pos two_pos, ← Real.exp_add]
  congr 1
  ring

/-- The kernel's average is the shifted softmax's, at real scores and any values. -/
theorem average_eq (a : Fin 8448 → ℝ) (M : ℝ) (v : Fin 8448 → EReal) :
    average (fun l => (a l : EReal)) v
      = ∑ l, v l * Ideal.div (Ideal.exp ((a l : EReal) * (Real.log 2 : ℝ) - (M : EReal)))
          (0 + ∑ j, Ideal.exp ((a j : EReal) * (Real.log 2 : ℝ) - (M : EReal))) := by
  have hexp : ∀ l, Ideal.exp ((a l : EReal) * (Real.log 2 : ℝ) - (M : EReal)) = ((Real.rpow 2 (a l) * Real.exp (-M) : ℝ) : EReal) := fun l => by
    rw [← EReal.coe_mul, ← EReal.coe_sub, Ideal.exp_coe, exp_shift]
  have hpos : ∀ l, 0 < Real.rpow 2 (a l) := fun l => Real.rpow_pos_of_pos two_pos _
  have hW := sum_pos' (by decide : 0 < 8448) (fun l => Real.rpow 2 (a l)) hpos
  have hE := Real.exp_pos (-M)
  unfold average
  simp only [Ideal.exp2_coe, hexp, zero_add]
  rw [← coe_sum, ← coe_sum, ← Finset.sum_mul, Ideal.div_coe hW.ne', sum_mul_real _ _ (one_div_nonneg.2 hW.le)]
  refine Finset.sum_congr rfl fun l _ => ?_
  rw [Ideal.div_coe (mul_pos hW hE).ne', ← EReal.coe_mul, mul_comm ((Real.rpow 2 (a l) : ℝ) : EReal) (v l), mul_assoc, ← EReal.coe_mul]
  congr 2
  field_simp

end Cert.Softmax

end
-- ==== Proof.AttnFinal.lean ====
/-
  The array the attention call leaves: every entry is the gated average of the values of its group, weighted with the powers of two of the scores.
-/
module
public import proofs.«01_k».proof.Proof.AttnEntry
public import Idealize.ShloMosaic.Lib.Pipeline.ValueKit
@[expose] public section
set_option maxRecDepth 16384
noncomputable section
namespace Cert.KernelIdeal.Attn
open Cert.KernelIdeal Cert.KernelIdeal.Gen Idealize.ShloMosaic.TcCoe Idealize.SL.Sem
open Idealize.ShloMosaic hiding ix2 ix3
open Idealize.ShloMosaic.Pipeline (Dat)
open Idealize.ShloMosaic.ValueIdx (ix2 ix3 eq_ix3)
open scoped BigOperators

variable (m : (ℓ : Loc nD τ sig) → Buf (Elt Ideal) ℓ)

/-- Where the blocks lie: the point's batch, its rows of queries and its group. -/
theorem places0 : ∀ t : Fin grid0.N, win0_0.index t 0 = t.val / 64 ∧ win0_0.index t 1 = t.val % 16 ∧ win0_0.index t 2 = t.val / 16 % 4 := by decide +kernel
theorem places1 : ∀ t : Fin grid0.N, win0_1.index t 0 = t.val / 64 ∧ win0_1.index t 1 = 0 ∧ win0_1.index t 2 = t.val / 16 % 4 := by decide +kernel
theorem places2 : ∀ t : Fin grid0.N, win0_2.index t 0 = t.val / 64 ∧ win0_2.index t 1 = 0 ∧ win0_2.index t 2 = t.val / 16 % 4 := by decide +kernel
theorem places3 : ∀ t : Fin grid0.N, win0_3.index t 0 = t.val / 64 ∧ win0_3.index t 1 = t.val % 16 ∧ win0_3.index t 2 = t.val / 16 % 4 := by decide +kernel
theorem places4 : ∀ t : Fin grid0.N, win0_4.index t 0 = t.val / 64 ∧ win0_4.index t 1 = t.val % 16 ∧ win0_4.index t 2 = t.val / 16 % 4 := by decide +kernel

theorem point_lt (t : Fin cfg0.N) : t.val < 512 := lt_of_lt_of_eq t.isLt Gen.N_0

/-- The batch of a point. -/
abbrev bOf (t : Fin cfg0.N) : Fin 8 := ⟨t.val / 64, by have := point_lt t; omega⟩
/-- Row `r` of the point's block of queries, among all rows. -/
abbrev rOf (t : Fin cfg0.N) (r : Fin 512) : Fin 8192 := ⟨t.val % 16 * 512 + r.val, by have := r.isLt; omega⟩
/-- Column `c` of the point's group, among all 2048 columns of the queries. -/
abbrev cOf (t : Fin cfg0.N) (c : Fin 512) : Fin 2048 := ⟨t.val / 16 % 4 * 512 + c.val, by have := c.isLt; omega⟩
/-- Column `d` of the point's group, among all 512 columns of the keys and values. -/
abbrev dOf (t : Fin cfg0.N) (d : Fin 128) : Fin 512 := ⟨t.val / 16 % 4 * 128 + d.val, by have := d.isLt; omega⟩

set_option backward.isDefEq.respectTransparency false in
theorem place0 (t : Fin cfg0.N) (r : Fin 512) (k : Fin 512) :
    (win0_0.rect t).emb (ix3 0 r k) = (ix3 (bOf t) (rOf t r) (cOf t k)) := by
  obtain ⟨h0, h1, h2⟩ := places0 t
  refine funext fun a => Fin.ext ?_
  refine (Pipeline.Window.rect_emb_val win0_0 t _ a).trans ?_
  fin_cases a
  · show win0_0.index t 0 * 1 + 0 = t.val / 64
    omega
  · show win0_0.index t 1 * 512 + r.val = t.val % 16 * 512 + r.val
    omega
  · show win0_0.index t 2 * 512 + k.val = t.val / 16 % 4 * 512 + k.val
    omega

set_option backward.isDefEq.respectTransparency false in
theorem place3 (t : Fin cfg0.N) (r : Fin 512) (k : Fin 512) :
    (win0_3.rect t).emb (ix3 0 r k) = (ix3 (bOf t) (rOf t r) (cOf t k)) := by
  obtain ⟨h0, h1, h2⟩ := places3 t
  refine funext fun a => Fin.ext ?_
  refine (Pipeline.Window.rect_emb_val win0_3 t _ a).trans ?_
  fin_cases a
  · show win0_3.index t 0 * 1 + 0 = t.val / 64
    omega
  · show win0_3.index t 1 * 512 + r.val = t.val % 16 * 512 + r.val
    omega
  · show win0_3.index t 2 * 512 + k.val = t.val / 16 % 4 * 512 + k.val
    omega

set_option backward.isDefEq.respectTransparency false in
theorem place1 (t : Fin cfg0.N) (l : Fin 8448) (d : Fin 128) :
    (win0_1.rect t).emb (ix3 0 l d) = (ix3 (bOf t) l (dOf t d)) := by
  obtain ⟨h0, h1, h2⟩ := places1 t
  refine funext fun a => Fin.ext ?_
  refine (Pipeline.Window.rect_emb_val win0_1 t _ a).trans ?_
  fin_cases a
  · show win0_1.index t 0 * 1 + 0 = t.val / 64
    omega
  · show win0_1.index t 1 * 8448 + l.val = l.val
    omega
  · show win0_1.index t 2 * 128 + d.val = t.val / 16 % 4 * 128 + d.val
    omega

set_option backward.isDefEq.respectTransparency false in
theorem place2 (t : Fin cfg0.N) (l : Fin 8448) (d : Fin 128) :
    (win0_2.rect t).emb (ix3 0 l d) = (ix3 (bOf t) l (dOf t d)) := by
  obtain ⟨h0, h1, h2⟩ := places2 t
  refine funext fun a => Fin.ext ?_
  refine (Pipeline.Window.rect_emb_val win0_2 t _ a).trans ?_
  fin_cases a
  · show win0_2.index t 0 * 1 + 0 = t.val / 64
    omega
  · show win0_2.index t 1 * 8448 + l.val = l.val
    omega
  · show win0_2.index t 2 * 128 + d.val = t.val / 16 % 4 * 128 + d.val
    omega

/-- What the points read, entry by entry. -/
theorem block0 (c : Dev nD) (t : Fin cfg0.N) (r : Fin 512) (k : Fin 512) :
    iblk m c 0 t (ix3 0 r k) = m ((c : Thread nD τ).loc main_arg0) (ix3 (bOf t) (rOf t r) (cOf t k)) :=
  congrArg (m ((c : Thread nD τ).loc main_arg0)) (place0 t r k)
theorem block1 (c : Dev nD) (t : Fin cfg0.N) (l : Fin 8448) (d : Fin 128) :
    iblk m c 1 t (ix3 0 l d) = m ((c : Thread nD τ).loc main_arg1) (ix3 (bOf t) l (dOf t d)) :=
  congrArg (m ((c : Thread nD τ).loc main_arg1)) (place1 t l d)
theorem block2 (c : Dev nD) (t : Fin cfg0.N) (l : Fin 8448) (d : Fin 128) :
    iblk m c 2 t (ix3 0 l d) = m ((c : Thread nD τ).loc main_arg2) (ix3 (bOf t) l (dOf t d)) :=
  congrArg (m ((c : Thread nD τ).loc main_arg2)) (place2 t l d)
theorem block3 (c : Dev nD) (t : Fin cfg0.N) (r : Fin 512) (k : Fin 512) :
    iblk m c 3 t (ix3 0 r k) = m ((c : Thread nD τ).loc main_arg3) (ix3 (bOf t) (rOf t r) (cOf t k)) :=
  congrArg (m ((c : Thread nD τ).loc main_arg3)) (place3 t r k)

/-- The entry of batch `b`, row `s`, head `h` and column `d` within the head, from the four arrays. -/
def attended (q : FVec Ideal S8x8192x2048 .bf16) (k v : FVec Ideal S8x8448x512 .bf16) (z : FVec Ideal S8x8192x2048 .bf16)
    (b : Fin 8) (s : Fin 8192) (h : Fin 16) (d : Fin 128) : EReal :=
  average (fun l => ∑ e : Fin 128, q (ix3 b s ⟨h.val * 128 + e.val, by have := h.isLt; have := e.isLt; omega⟩)
      * k (ix3 b l ⟨h.val / 4 * 128 + e.val, by have := h.isLt; have := e.isLt; omega⟩))
    (fun l => v (ix3 b l ⟨h.val / 4 * 128 + d.val, by have := h.isLt; have := d.isLt; omega⟩))
    * z (ix3 b s ⟨h.val * 128 + d.val, by have := h.isLt; have := d.isLt; omega⟩)

/-- The whole result of the attention. -/
def result (q : FVec Ideal S8x8192x2048 .bf16) (k v : FVec Ideal S8x8448x512 .bf16) (z : FVec Ideal S8x8192x2048 .bf16) : FVec Ideal S8x8192x2048 .bf16 :=
  fun i => attended q k v z (i 0) (i 1) ⟨(i 2).val / 128, by have : (i 2).val < 2048 := (i 2).isLt; omega⟩ ⟨(i 2).val % 128, Nat.mod_lt _ (by decide)⟩

theorem entry_attended (x0 : FVec Ideal S1x512x512 .bf16) (x1 x2 : FVec Ideal S1x8448x128 .bf16) (x3 : FVec Ideal S1x512x512 .bf16)
    (q : FVec Ideal S8x8192x2048 .bf16) (k v : FVec Ideal S8x8448x512 .bf16) (z : FVec Ideal S8x8192x2048 .bf16) (t : Fin cfg0.N)
    (b0 : ∀ r e, x0 (ix3 0 r e) = q (ix3 (bOf t) (rOf t r) (cOf t e))) (b1 : ∀ l e, x1 (ix3 0 l e) = k (ix3 (bOf t) l (dOf t e)))
    (b2 : ∀ l e, x2 (ix3 0 l e) = v (ix3 (bOf t) l (dOf t e))) (b3 : ∀ r e, x3 (ix3 0 r e) = z (ix3 (bOf t) (rOf t r) (cOf t e))) (r : Fin 512) (g : Fin 4) (d : Fin 128) (h : Fin 16) (hh : h.val = t.val / 16 % 4 * 4 + g.val) :
    entry x0 x1 x2 x3 r g d
      = attended q k v z
          (bOf t) (rOf t r) h d := by
  have hg := g.isLt
  have eq : ∀ e : Fin 128, cOf t (col g e) = ⟨h.val * 128 + e.val, by have := h.isLt; have := e.isLt; omega⟩ := fun e =>
    Fin.ext (by show t.val / 16 % 4 * 512 + (128 * g.val + e.val) = h.val * 128 + e.val; omega)
  have ek : ∀ e : Fin 128, dOf t e = ⟨h.val / 4 * 128 + e.val, by have := h.isLt; have := e.isLt; omega⟩ := fun e =>
    Fin.ext (by show t.val / 16 % 4 * 128 + e.val = h.val / 4 * 128 + e.val; omega)
  unfold entry attended
  rw [b3, eq]
  refine congrArg (· * _) ?_
  congr 1
  · funext l
    refine Finset.sum_congr rfl fun e _ => ?_
    rw [b0, b1, eq, ek]
  · funext l
    rw [b2, ek]

theorem block_result (x0 : FVec Ideal S1x512x512 .bf16) (x1 x2 : FVec Ideal S1x8448x128 .bf16) (x3 : FVec Ideal S1x512x512 .bf16)
    (q : FVec Ideal S8x8192x2048 .bf16) (k v : FVec Ideal S8x8448x512 .bf16) (z : FVec Ideal S8x8192x2048 .bf16) (t : Fin cfg0.N)
    (b0 : ∀ r e, x0 (ix3 0 r e) = q (ix3 (bOf t) (rOf t r) (cOf t e))) (b1 : ∀ l e, x1 (ix3 0 l e) = k (ix3 (bOf t) l (dOf t e)))
    (b2 : ∀ l e, x2 (ix3 0 l e) = v (ix3 (bOf t) l (dOf t e))) (b3 : ∀ r e, x3 (ix3 0 r e) = z (ix3 (bOf t) (rOf t r) (cOf t e)))
    (y : S1x512x512.Idx) (i : S8x8192x2048.Idx) (v0 : (i 0).val = t.val / 64)
    (v1 : (i 1).val = t.val % 16 * 512 + (y 1).val) (v2 : (i 2).val = t.val / 16 % 4 * 512 + (y 2).val) :
    block x0 x1 x2 x3 y
      = result q k v z i := by
  have ht := point_lt t
  have y2 : (y 2).val < 512 := (y 2).isLt
  unfold block result
  rw [entry_attended x0 x1 x2 x3 q k v z t b0 b1 b2 b3 (y 1) _ _ ⟨t.val / 16 % 4 * 4 + (y 2).val / 128, by omega⟩ rfl]
  congr 1
  · exact Fin.ext v0.symm
  · exact Fin.ext v1.symm
  · refine Fin.ext ?_
    show t.val / 16 % 4 * 4 + (y 2).val / 128 = (i 2).val / 128
    rw [v2]
    omega
  · refine Fin.ext ?_
    show (y 2).val % 128 = (i 2).val % 128
    rw [v2]
    omega

theorem after_block (c : Dev nD) (t : Fin cfg0.N) :
    (dats m 0 c).after 4 t = block (iblk m c 0 t) (iblk m c 1 t) (iblk m c 2 t) (iblk m c 3 t) := by
  rw [after0_4]
  unfold outsAt0
  rw [block_eq, canon_block _ _ _ _ _ (ratio_apply _ _ _)]

/-- The result array after the run. -/
theorem final (c : Dev nD) : (dats m 0 c).arrAt 4 cfg0.N
    = result (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨h0, h1, h2⟩ := places4 t
  rw [after_block]
  have y0 : (y 0).val < 1 := (y 0).isLt
  refine block_result _ _ _ _ _ _ _ _ t (block0 m c t) (block1 m c t) (block2 m c t) (block3 m c t) y _ ?_ ?_ ?_
  · refine (Pipeline.Window.rect_emb_val win0_4 t y 0).trans ?_
    show win0_4.index t 0 * 1 + (y 0).val = _
    omega
  · refine (Pipeline.Window.rect_emb_val win0_4 t y 1).trans ?_
    show win0_4.index t 1 * 512 + (y 1).val = _
    omega
  · refine (Pipeline.Window.rect_emb_val win0_4 t y 2).trans ?_
    show win0_4.index t 2 * 512 + (y 2).val = _
    omega
end Cert.KernelIdeal.Attn
end
-- ==== Proof.RefAttn.lean ====
/- The reference's result, read at an index, and its agreement with the kernel's.

   At an entry the reference takes the scores of one query head, its weights (shifted exponentials over their sum) and
   the weighted sum of the values, times the gate. Where every query and key is a real number the scores and their
   maximum are real, so `Cert.Softmax.average_eq` turns the reference's average into the kernel's. -/
module

public import proofs.«01_k».proof.Proof.Softmax
public import proofs.«01_k».proof.Proof.AttnFinal
public import proofs.«01_k».proof.Proof.Gen.ReferenceIdeal.Read
public import Idealize.ShloMosaic.Lib.Pointwise.Reduce

@[expose] public section

noncomputable section

namespace Cert.ReferenceIdeal.Attn

open Cert.ReferenceIdeal Cert.ReferenceIdeal.Gen Cert.ReferenceIdeal.Read
open Idealize.ShloMosaic hiding ix2 ix3 ix4 ix5
open Idealize.ShloMosaic.ValueIdx (ix3 ix4 ix5)
open Cert.KernelIdeal.Attn (average attended result)
open scoped BigOperators

variable (q : FVec Ideal S8x8192x2048 .bf16) (k v : FVec Ideal S8x8448x512 .bf16) (z : FVec Ideal S8x8192x2048 .bf16)

/-- An array of real numbers. -/
def Finite {S : Shape} (x : S.Idx → EReal) : Prop := ∀ i, x i = ((x i).toReal : EReal)

/-- Entry `e` of query head `h` in row `s`. -/
abbrev queryAt (b : Fin 8) (s : Fin 8192) (h : Fin 16) (e : Fin 128) : EReal :=
  q (ix3 b s ⟨h.val * 128 + e.val, by have := h.isLt; have := e.isLt; omega⟩)
/-- Entry `e` of the key head that query head `h` reads, in row `l`. -/
abbrev keyAt (b : Fin 8) (l : Fin 8448) (h : Fin 16) (e : Fin 128) : EReal :=
  k (ix3 b l ⟨h.val / 4 * 128 + e.val, by have := h.isLt; have := e.isLt; omega⟩)

/-- The real score of a query row and a key row. -/
def dot (b : Fin 8) (h : Fin 16) (s : Fin 8192) (l : Fin 8448) : ℝ :=
  ∑ e : Fin 128, (queryAt q b s h e).toReal * (keyAt k b l h e).toReal

theorem coe_dot (hq : Finite q) (hk : Finite k) (b : Fin 8) (h : Fin 16) (s : Fin 8192) (l : Fin 8448) :
    (dot q k b h s l : EReal) = ∑ e : Fin 128, queryAt q b s h e * keyAt k b l h e := by
  unfold dot
  rw [Softmax.coe_sum]
  refine Finset.sum_congr rfl fun e _ => ?_
  rw [EReal.coe_mul, ← hq, ← hk]

/-- The key head of a query head, and its place within the group. -/
abbrev kv (h : Fin 16) : Fin 4 := ⟨h.val / 4, by have := h.isLt; omega⟩
abbrev grp (h : Fin 16) : Fin 4 := ⟨h.val % 4, by omega⟩

theorem scores_at (b : Fin 8) (h : Fin 16) (s : Fin 8192) (l : Fin 8448) :
    val_main_v7 (F := Ideal) q k (ix5 b (kv h) (grp h) s l) = ∑ e : Fin 128, queryAt q b s h e * keyAt k b l h e := by
  rw [val_main_v7_apply, val_main_v6_apply]
  refine Finset.sum_congr rfl fun e _ => ?_
  rw [val_main_v3_apply, val_main_v1_apply, val_main_v2_apply, val_main_v0_apply, mul_comm]
  have hb := b.isLt
  have hh := h.isLt
  have hs := s.isLt
  have hl := l.isLt
  have he := e.isLt
  refine congrArg₂ (· * ·) (congrArg q (funext fun a => Fin.ext ?_)) (congrArg k (funext fun a => Fin.ext ?_))
  · fin_cases a
    · show ((((b.val * 8192 + s.val) * 4 + h.val / 4) * 4 + h.val % 4) * 128 + e.val) / 16777216 = b.val
      omega
    · show ((((b.val * 8192 + s.val) * 4 + h.val / 4) * 4 + h.val % 4) * 128 + e.val) / 2048 % 8192 = s.val
      omega
    · show ((((b.val * 8192 + s.val) * 4 + h.val / 4) * 4 + h.val % 4) * 128 + e.val) % 2048 = h.val * 128 + e.val
      omega
  · fin_cases a
    · show (((b.val * 8448 + l.val) * 4 + h.val / 4) * 128 + e.val) / 4325376 = b.val
      omega
    · show (((b.val * 8448 + l.val) * 4 + h.val / 4) * 128 + e.val) / 512 % 8448 = l.val
      omega
    · show (((b.val * 8448 + l.val) * 4 + h.val / 4) * 128 + e.val) % 512 = h.val / 4 * 128 + e.val
      omega

/-- The printed word of two, and its logarithm. -/
theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee, -EReal.coe_mul]; norm_num
  rw [h, Ideal.log_coe, if_neg (by norm_num)]

theorem scaled_at (hq : Finite q) (hk : Finite k) (b : Fin 8) (h : Fin 16) (s : Fin 8192) (l : Fin 8448) :
    val_main_v11 (F := Ideal) q k (ix5 b (kv h) (grp h) s l) = (dot q k b h s l : EReal) * ((Real.log 2 : ℝ) : EReal) := by
  rw [val_main_v11_apply, scores_at, val_main_v10_apply, coe_dot q k hq hk, ← log_two]
  rfl

/-- The greatest of finitely many real numbers, and at least one, is real. -/
theorem fold_real {n : ℕ} (hn : 0 < n) (f : Fin n → EReal) (b : EReal) (hb : b = ⊥) (hf : ∀ l, ∃ r : ℝ, f l = (r : EReal)) :
    ∃ M : ℝ, (Finset.univ : Finset (Fin n)).fold (FloatOps.maximumf (F := Ideal) (φ := .f32)) b f = (M : EReal) := by
  subst hb
  show ∃ M : ℝ, (Finset.univ : Finset (Fin n)).fold max ⊥ f = (M : EReal)
  refine ⟨_, (EReal.coe_toReal (ne_of_lt ?_) (ne_of_gt ?_)).symm⟩
  · refine Finset.fold_max_lt _ |>.2 ⟨bot_lt_top, fun l _ => ?_⟩
    obtain ⟨r, hr⟩ := hf l
    rw [hr]
    exact EReal.coe_lt_top _
  · obtain ⟨r, hr⟩ := hf ⟨0, hn⟩
    refine Finset.lt_fold_max _ |>.2 (.inr ⟨⟨0, hn⟩, Finset.mem_univ _, ?_⟩)
    rw [hr]
    exact EReal.bot_lt_coe _

theorem minus_infinity : Ideal.ofBits .f32 0xFF800000#32 = ⊥ := by simp [Ideal.ofBits, Ideal.ieee]

/-- The maximum the reference subtracts is a real number. -/
theorem shift_real (hq : Finite q) (hk : Finite k) (b : Fin 8) (h : Fin 16) (s : Fin 8192) :
    ∃ M : ℝ, val_main_v14 (F := Ideal) q k (ix4 b (kv h) (grp h) s) = (M : EReal) := by
  have hsup : val_main_v14 (F := Ideal) q k (ix4 b (kv h) (grp h) s) = val_main_v12 (F := Ideal) q k (ix4 b (kv h) (grp h) s) := by
    rw [val_main_v14_apply, val_main_v13_apply, val_main_cst_1_apply]
    generalize val_main_v12 (F := Ideal) q k (ix4 b (kv h) (grp h) s) = y
    show max (Ideal.ofBits .f32 0xFF800000#32) y = y
    rw [minus_infinity]
    exact bot_sup_eq y
  rw [hsup]
  unfold val_main_v12
  rw [Host.reduce_eq_fold, Shape.ReducesTo.fold_fiber_r5_a4]
  refine fold_real (by decide) _ _ minus_infinity fun l => ⟨dot q k b h s l * Real.log 2, ?_⟩
  refine (scaled_at q k hq hk b h s l).trans ?_
  rw [← EReal.coe_mul]

/-- The shifted exponential of a score. -/
theorem power_at (hq : Finite q) (hk : Finite k) (b : Fin 8) (h : Fin 16) (s : Fin 8192) (l : Fin 8448) :
    val_main_v18 (F := Ideal) q k (ix5 b (kv h) (grp h) s l)
      = Ideal.exp ((dot q k b h s l : EReal) * ((Real.log 2 : ℝ) : EReal) - val_main_v14 (F := Ideal) q k (ix4 b (kv h) (grp h) s)) := by
  rw [val_main_v18_apply, val_main_v17_apply, scaled_at q k hq hk, val_main_v16_apply, val_main_v15_apply]
  generalize val_main_v14 (F := Ideal) q k = y
  refine congrArg Ideal.exp (congrArg (_ - y ·) (funext fun a => Fin.ext ?_))
  fin_cases a <;> rfl

/-- The weight of a score among its row's. -/
theorem weight_at (hq : Finite q) (hk : Finite k) (b : Fin 8) (h : Fin 16) (s : Fin 8192) (l : Fin 8448) :
    val_main_v22 (F := Ideal) q k (ix5 b (kv h) (grp h) s l)
      = Ideal.div (Ideal.exp ((dot q k b h s l : EReal) * ((Real.log 2 : ℝ) : EReal) - val_main_v14 (F := Ideal) q k (ix4 b (kv h) (grp h) s)))
          (0 + ∑ j, Ideal.exp ((dot q k b h s j : EReal) * ((Real.log 2 : ℝ) : EReal) - val_main_v14 (F := Ideal) q k (ix4 b (kv h) (grp h) s))) := by
  rw [val_main_v22_apply, power_at q k hq hk, val_main_v21_apply, val_main_v20_apply, val_main_v19_apply]
  refine congrArg (Ideal.div _) (congrArg₂ (· + ·) ?_ (Finset.sum_congr rfl fun j _ => ?_))
  · rw [val_main_cst_2_apply]
    exact Ideal.ofBits_zero_f32
  · rw [← power_at q k hq hk]
    refine congrArg (val_main_v18 (F := Ideal) q k) (funext fun a => Fin.ext ?_)
    fin_cases a <;> rfl

theorem value_at (b : Fin 8) (h : Fin 16) (l : Fin 8448) (d : Fin 128) :
    val_main_v5 (F := Ideal) v (ix4 b l (kv h) d) = keyAt v b l h d := by
  rw [val_main_v5_apply, val_main_v4_apply]
  have hb := b.isLt
  have hh := h.isLt
  have hl := l.isLt
  have hd := d.isLt
  refine congrArg v (funext fun a => Fin.ext ?_)
  fin_cases a
  · show (((b.val * 8448 + l.val) * 4 + h.val / 4) * 128 + d.val) / 4325376 = b.val
    omega
  · show (((b.val * 8448 + l.val) * 4 + h.val / 4) * 128 + d.val) / 512 % 8448 = l.val
    omega
  · show (((b.val * 8448 + l.val) * 4 + h.val / 4) * 128 + d.val) % 512 = h.val / 4 * 128 + d.val
    omega

/-- One entry of the attention before the gate. -/
theorem average_at (hq : Finite q) (hk : Finite k) (b : Fin 8) (h : Fin 16) (s : Fin 8192) (d : Fin 128) :
    val_main_v23 (F := Ideal) q k v (ix5 b (kv h) d (grp h) s)
      = average (fun l => ∑ e : Fin 128, queryAt q b s h e * keyAt k b l h e) (fun l => keyAt v b l h d) := by
  obtain ⟨M, hM⟩ := shift_real q k hq hk b h s
  simp only [← coe_dot q k hq hk]
  rw [Softmax.average_eq (dot q k b h s) M, val_main_v23_apply]
  refine Finset.sum_congr rfl fun l _ => congrArg₂ (· * ·) ?_ ?_
  · rw [← value_at]
    refine congrArg (val_main_v5 (F := Ideal) v) (funext fun a => Fin.ext ?_)
    fin_cases a <;> rfl
  · rw [← hM, ← weight_at q k hq hk]
    refine congrArg (val_main_v22 (F := Ideal) q k) (funext fun a => Fin.ext ?_)
    fin_cases a <;> rfl

/-- The reference's result is the kernel's, where every query and key is real. -/
theorem reference_eq (hq : Finite q) (hk : Finite k) : val_main_v28 (F := Ideal) q k v z = result q k v z := by
  funext i
  have h0 : (i 0).val < 8 := (i 0).isLt
  have h1 : (i 1).val < 8192 := (i 1).isLt
  have h2 : (i 2).val < 2048 := (i 2).isLt
  rw [val_main_v28_apply, val_main_v27_apply, val_main_v25_apply, val_main_v24_apply, val_main_v26_apply]
  refine congrArg₂ (fun x y : EReal => x * y) (Eq.trans (congrArg (val_main_v23 (F := Ideal) q k v) (funext fun a => Fin.ext ?_))
    (average_at q k v hq hk (i 0) ⟨(i 2).val / 128, by omega⟩ (i 1) ⟨(i 2).val % 128, Nat.mod_lt _ (by decide)⟩)) (congrArg z (funext fun a => Fin.ext ?_))
  · fin_cases a
    · show (((i 0).val * 8192 + (i 1).val) * 2048 + (i 2).val) / 16777216 = (i 0).val
      omega
    · show (((i 0).val * 8192 + (i 1).val) * 2048 + (i 2).val) / 512 % 4 = (i 2).val / 128 / 4
      omega
    · show (((i 0).val * 8192 + (i 1).val) * 2048 + (i 2).val) % 128 = (i 2).val % 128
      omega
    · show (((i 0).val * 8192 + (i 1).val) * 2048 + (i 2).val) / 128 % 4 = (i 2).val / 128 % 4
      omega
    · show (((i 0).val * 8192 + (i 1).val) * 2048 + (i 2).val) / 2048 % 8192 = (i 1).val
      omega
  · fin_cases a
    · rfl
    · rfl
    · show (i 2).val = (i 2).val / 128 * 128 + (i 2).val % 128
      omega

end Cert.ReferenceIdeal.Attn

end
-- ==== Proof.OnlineSum.lean ====
/-
  The sums kept under a running maximum, read entry by entry over the extended reals: after all chunks they are the plain sums, all scaled by one positive
  real factor, so that their quotient is the average.
-/
module
public import proofs.«01_k».proof.Proof.OnlineBody
public import proofs.«01_k».proof.Proof.RefAttn
public import Idealize.ShloMosaic.Lib.ValueLayoutCasts
@[expose] public section
set_option maxRecDepth 16384
noncomputable section
namespace Cert.Kernel6Ideal.Online
open Cert.Kernel6Ideal Cert.Kernel6Ideal.Gen Idealize.ShloMosaic.TcCoe Idealize.SL.Sem
open Idealize.ShloMosaic hiding ix2 ix3
open Idealize.ShloMosaic.ValueIdx (ix1 ix2 ix3 eq_ix3 shapeCast_a_a1_apply)
open Cert.KernelIdeal.Attn (chunk chunk_flat_apply row score average stacked Averages query_stacked score_stacked)
open Cert.ReferenceIdeal.Attn (minus_infinity fold_real)
open Cert.Softmax (coe_sum sum_mul_real)
open scoped BigOperators

variable (q : FVec Ideal S2048x128 .bf16) (k v : FVec Ideal S1x8448x128 .bf16)

theorem scores_apply (n : ℕ) (r : Fin 2048) (c : Fin 256) : scores (F := Ideal) q k n (ix2 r c) = score q k r (row n c) := by
  unfold scores k0_pay1
  rw [shapeCast_self]
  show FloatOps.matmul (DotDims.transposedRhs 2048 128 256) none q _ _ (ix2 r c) = _
  rw [Ideal.matmul_transposedRhs_apply,
    show (constant S2048x256 .f32 0x00000000#32 : FVec Ideal S2048x256 .f32) (ix2 r c) = 0 from Ideal.ofBits_zero_f32, zero_add]
  exact Finset.sum_congr rfl fun d _ => by rw [chunk_flat_apply]

/-- A column spread over many columns. -/
theorem spread (x : FVec Ideal S2048x1 .f32) (n : ℕ) (h : S2048x1.Broadcasts ⟨2, ![2048, n]⟩) (r : Fin 2048) (c : Fin n) :
    broadcastTo ⟨2, ![2048, n]⟩ x h (ix2 r c) = x (ix2 r 0) := by
  refine broadcastTo_apply x h (ix2 r c) (ix2 r 0) fun a => ?_
  fin_cases a
  · rfl
  · rfl

theorem top_apply (n : ℕ) (r : Fin 2048) : top (F := Ideal) q k (n + 1) (ix2 r 0)
    = max (top (F := Ideal) q k n (ix2 r 0)) ((Finset.univ : Finset (Fin 256)).fold max ⊥ (fun c => score q k r (row n c))) := by
  rw [top_succ]
  unfold k0_pay3
  refine congrArg (max (top (F := Ideal) q k n (ix2 r 0))) ?_
  refine (shapeCast_a_a1_apply _ _ r 0).trans ?_
  refine (multiReduction_maximumf_eq_fold _ _ _ _ _ _).trans ?_
  refine (Shape.Reduces.fold_fiber_r2_a1 _ _ _ _ _).trans ?_
  show (Finset.univ : Finset (Fin 256)).fold max (Ideal.ofBits .f32 0xFF800000#32) (fun c => scores (F := Ideal) q k n (ix2 r c)) = _
  rw [minus_infinity]
  simp only [scores_apply]

theorem powers_apply (n : ℕ) (r : Fin 2048) (c : Fin 256) : k0_pay4 (F := Ideal) (top q k n) (scores q k n) (ix2 r c)
    = Ideal.exp2 (score q k r (row n c) - top (F := Ideal) q k (n + 1) (ix2 r 0)) := by
  rw [top_succ]
  unfold k0_pay4
  refine congrArg Ideal.exp2 (congrArg₂ (fun a b : EReal => a - b) (scores_apply q k n r c) ?_)
  exact spread _ 256 _ r c

theorem weights_apply (n : ℕ) (r : Fin 2048) (c : Fin 256) : weights (F := Ideal) q k n (ix2 r c)
    = Ideal.exp2 (score q k r (row n c) - top (F := Ideal) q k (n + 1) (ix2 r 0)) := by
  rw [← powers_apply]
  unfold weights k0_pay7
  rw [shapeCast_self]
  rfl

theorem rescale_apply (n : ℕ) (r : Fin 2048) : rescale (F := Ideal) q k n (ix2 r 0)
    = Ideal.exp2 (top (F := Ideal) q k n (ix2 r 0) - top (F := Ideal) q k (n + 1) (ix2 r 0)) := by
  rw [top_succ]
  rfl

theorem total_apply (n : ℕ) (r : Fin 2048) : total (F := Ideal) q k (n + 1) (ix2 r 0)
    = rescale (F := Ideal) q k n (ix2 r 0) * total (F := Ideal) q k n (ix2 r 0)
      + ∑ c : Fin 256, Ideal.exp2 (score q k r (row n c) - top (F := Ideal) q k (n + 1) (ix2 r 0)) * 1 := by
  rw [total_succ]
  unfold k0_pay6
  refine congrArg (fun y : EReal => rescale (F := Ideal) q k n (ix2 r 0) * total (F := Ideal) q k n (ix2 r 0) + y) ?_
  refine (shapeCast_a_a1_apply _ _ r 0).trans ?_
  refine (Ideal.reduceAdd_r2_a1 _ _ _).trans ?_
  refine Finset.sum_congr rfl fun c _ => ?_
  rw [mul_one, ← powers_apply]
  rfl

theorem accum_apply (n : ℕ) (r : Fin 2048) (d : Fin 128) : accum (F := Ideal) q k v (n + 1) (ix2 r d)
    = rescale (F := Ideal) q k n (ix2 r 0) * accum (F := Ideal) q k v n (ix2 r d)
      + ∑ c : Fin 256, Ideal.exp2 (score q k r (row n c) - top (F := Ideal) q k (n + 1) (ix2 r 0)) * v (ix3 0 (row n c) d) := by
  rw [accum_succ]
  unfold k0_pay2
  refine congrArg₂ (fun x y : EReal => x * accum (F := Ideal) q k v n (ix2 r d) + y) (spread _ 128 _ r d) ?_
  show FloatOps.matmul (DotDims.plain 2048 256 128) none (weights (F := Ideal) q k n) _ _ (ix2 r d) = _
  rw [Ideal.matmul_plain_apply, show (constant S2048x128 .f32 0x00000000#32 : FVec Ideal S2048x128 .f32) (ix2 r d) = 0 from Ideal.ofBits_zero_f32, zero_add]
  exact Finset.sum_congr rfl fun c _ => by rw [weights_apply, chunk_flat_apply]

/-- The largest score so far is a real number once a chunk is read. -/
theorem top_real (r : Fin 2048) (hs : ∀ l, ∃ a : ℝ, score q k r l = (a : EReal)) (n : ℕ) :
    ∃ T : ℝ, top (F := Ideal) q k (n + 1) (ix2 r 0) = (T : EReal) := by
  have hM : ∀ n, ∃ M : ℝ, (Finset.univ : Finset (Fin 256)).fold max ⊥ (fun c => score q k r (row n c)) = (M : EReal) := fun n =>
    fold_real (n := 256) (by decide) (fun c => score q k r (row n c)) ⊥ rfl (fun c => hs _)
  induction n with
  | zero =>
    obtain ⟨M, hM⟩ := hM 0
    refine ⟨M, ?_⟩
    rw [top_apply, hM]
    show max (Ideal.ofBits .f32 0xFF800000#32) (M : EReal) = _
    rw [minus_infinity]
    exact bot_sup_eq _
  | succ n ih =>
    obtain ⟨M, hM⟩ := hM (n + 1)
    obtain ⟨T, hT⟩ := ih
    refine ⟨max T M, ?_⟩
    rw [top_apply, hM, hT]
    exact (EReal.coe_strictMono.monotone.map_max).symm

theorem power_nonneg (x : ℝ) : 0 ≤ Real.rpow 2 x := Real.rpow_nonneg two_pos.le x

/-- What a rescaled sum holds, whatever is summed: each term weighted below the largest score so far. -/
theorem running (a : ℕ → Fin 256 → ℝ) (T : ℕ → ℝ) (X w : ℕ → EReal) (u : ℕ → Fin 256 → EReal) (hw : ∀ n, w (n + 1) = (T n : EReal)) (h0 : X 0 = 0)
    (hX : ∀ n, X (n + 1) = Ideal.exp2 (w n - w (n + 1)) * X n + ∑ c, Ideal.exp2 ((a n c : EReal) - w (n + 1)) * u n c) (n : ℕ) :
    X (n + 1) = ∑ j ∈ Finset.range (n + 1), ∑ c, ((Real.rpow 2 (a j c - T n) : ℝ) : EReal) * u j c := by
  have term : ∀ n c, Ideal.exp2 ((a n c : EReal) - w (n + 1)) = ((Real.rpow 2 (a n c - T n) : ℝ) : EReal) := fun n c => by
    rw [hw, ← EReal.coe_sub, Ideal.exp2_coe]
  induction n with
  | zero =>
    rw [hX, h0, mul_zero, zero_add, Finset.sum_range_one]
    simp only [term]
  | succ n ih =>
    rw [hX, ih, Finset.sum_range_succ _ (n + 1)]
    simp only [term]
    refine congrArg (· + _) ?_
    rw [hw, hw, ← EReal.coe_sub, Ideal.exp2_coe, mul_comm, sum_mul_real _ _ (power_nonneg _)]
    refine Finset.sum_congr rfl fun j _ => ?_
    rw [sum_mul_real _ _ (power_nonneg _)]
    refine Finset.sum_congr rfl fun c _ => ?_
    rw [mul_right_comm, ← EReal.coe_mul]
    refine congrArg (fun y : ℝ => (y : EReal) * u j c) ?_
    show (2 : ℝ) ^ (a j c - T n) * (2 : ℝ) ^ (T n - T (n + 1)) = (2 : ℝ) ^ (a j c - T (n + 1))
    rw [← Real.rpow_add two_pos]
    congr 1
    ring

/-- After all 33 chunks: the sum over all keys, every term scaled by one factor. -/
theorem running_all (s : Fin 8448 → ℝ) (T : ℕ → ℝ) (X w : ℕ → EReal) (u : Fin 8448 → EReal) (hw : ∀ n, w (n + 1) = (T n : EReal)) (h0 : X 0 = 0)
    (hX : ∀ n, X (n + 1) = Ideal.exp2 (w n - w (n + 1)) * X n + ∑ c, Ideal.exp2 ((s (row n c) : EReal) - w (n + 1)) * u (row n c)) :
    X 33 = (∑ l, Ideal.exp2 (s l : EReal) * u l) * ((Real.rpow 2 (-T 32) : ℝ) : EReal) := by
  rw [running (fun n c => s (row n c)) T X w (fun n c => u (row n c)) hw h0 hX 32, Finset.sum_range,
    sum_mul_real _ _ (power_nonneg _)]
  refine Fin.sum_mul_add_congr (S := 33) (n := 256) (fun j c hl => ?_)
  have e : row j.val c = ⟨j.val * 256 + c.val, hl⟩ := Fin.ext (by
    show 256 * (j.val % 33) + c.val = j.val * 256 + c.val
    rw [Nat.mod_eq_of_lt j.isLt, Nat.mul_comm])
  rw [e, Ideal.exp2_coe, mul_right_comm, ← EReal.coe_mul]
  refine congrArg (fun y : ℝ => (y : EReal) * _) ?_
  generalize s _ = x
  show (2 : ℝ) ^ (x - T 32) = (2 : ℝ) ^ x * (2 : ℝ) ^ (-T 32)
  rw [← Real.rpow_add two_pos, sub_eq_add_neg]

theorem quotient_apply (x : FVec Ideal S2048x128 .f32) (y : FVec Ideal S2048x1 .f32) (r : Fin 2048) (d : Fin 128) :
    divf x (broadcastTo S2048x128 y broadcasts_S2048x1_S2048x128) (ix2 r d) = Ideal.div (x (ix2 r d)) (y (ix2 r 0)) :=
  congrArg (Ideal.div (x (ix2 r d))) (spread y 128 _ r d)

/-- The rows the block's quotient holds are the averages, where every score is real. -/
theorem rows_averages (x0 : FVec Ideal S1x512x512 .bf16) (x1 x2 : FVec Ideal S1x8448x128 .bf16)
    (hs : ∀ g t l, ∃ a : ℝ, Cert.KernelIdeal.Attn.scores x0 x1 g t l = (a : EReal)) : Averages (rows (F := Ideal) x0 x1 x2) x0 x1 x2 := by
  intro g t d
  have hq : k0_pay15 (F := Ideal) x0 = Cert.KernelIdeal.Gen.k0_pay2 (F := Ideal) x0 := rfl
  have hsc : ∀ l, ∃ a : ℝ, score (k0_pay15 (F := Ideal) x0) x1 (stacked g t) l = (a : EReal) := fun l => by
    rw [hq, score_stacked]
    exact hs g t l
  choose s hs' using hsc
  choose T hT using top_real (k0_pay15 (F := Ideal) x0) x1 (stacked g t) (fun l => ⟨s l, hs' l⟩)
  have hacc := running_all s T (fun n => accum (F := Ideal) (k0_pay15 x0) x1 x2 n (ix2 (stacked g t) d))
    (fun n => top (F := Ideal) (k0_pay15 x0) x1 n (ix2 (stacked g t) 0)) (fun l => x2 (ix3 0 l d)) hT Ideal.ofBits_zero_f32
    (fun n => by rw [accum_apply, rescale_apply]; simp only [hs'])
  have htot := running_all s T (fun n => total (F := Ideal) (k0_pay15 x0) x1 n (ix2 (stacked g t) 0))
    (fun n => top (F := Ideal) (k0_pay15 x0) x1 n (ix2 (stacked g t) 0)) (fun _ => 1) hT Ideal.ofBits_zero_f32
    (fun n => by rw [total_apply, rescale_apply]; simp only [hs'])
  have hsum : 0 < ∑ l, Real.rpow 2 (s l) := Softmax.sum_pos' (by decide) _ fun l => Real.rpow_pos_of_pos two_pos _
  have hfac : 0 < Real.rpow 2 (-T 32) := Real.rpow_pos_of_pos two_pos _
  have hrow : rows (F := Ideal) x0 x1 x2 (ix2 (stacked g t) d)
      = Ideal.div (accum (F := Ideal) (k0_pay15 x0) x1 x2 33 (ix2 (stacked g t) d)) (total (F := Ideal) (k0_pay15 x0) x1 33 (ix2 (stacked g t) 0)) := by
    unfold rows
    exact quotient_apply _ _ _ _
  beta_reduce at hacc htot
  rw [hrow, hacc, htot, ← score_stacked, ← hq]
  unfold average
  simp only [hs', Ideal.exp2_coe, mul_one]
  rw [← coe_sum, ← EReal.coe_mul, Ideal.div_coe (mul_pos hsum hfac).ne', Ideal.div_coe hsum.ne', mul_assoc, ← EReal.coe_mul]
  generalize (∑ l, Real.rpow 2 (s l)) = S at hsum ⊢
  generalize Real.rpow 2 (-T 32) = f at hfac ⊢
  refine congrArg (fun y : ℝ => _ * (y : EReal)) ?_
  field_simp
end Cert.Kernel6Ideal.Online
end
-- ==== Proof.OnlineFinal.lean ====
/-
  The array the general attention call leaves: the same result as the bounded call's, where every query and key is real.
-/
module
public import proofs.«01_k».proof.Proof.OnlineFrame
public import proofs.«01_k».proof.Proof.OnlineSum
public import Idealize.ShloMosaic.Lib.Pipeline.Value
@[expose] public section
set_option maxRecDepth 16384
noncomputable section
namespace Cert.Kernel6Ideal.Online
open Cert.Kernel6Ideal Cert.Kernel6Ideal.Gen Idealize.ShloMosaic.TcCoe Idealize.SL.Sem
open Idealize.ShloMosaic hiding ix2 ix3
open Idealize.ShloMosaic.Pipeline (Dat)
open Idealize.ShloMosaic.ValueIdx (ix2 ix3 eq_ix3)
open Cert.KernelIdeal.Attn (bOf rOf cOf dOf place0 place1 place2 place3 places4 block canon_block block_result result col)
open Cert.ReferenceIdeal.Attn (Finite)
open scoped BigOperators

section AnyNumbers
variable {F : FTy → Type} [FloatOps F]
variable (m : (ℓ : Loc nD τ sig) → Buf (Elt F) ℓ) (ρ : Dev nD → PrngReg)

/-- Every run ends with the result array as the launch's data say and the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)
end AnyNumbers

variable (m : (ℓ : Loc nD τ sig) → Buf (Elt Ideal) ℓ)

/-- What the points read, entry by entry: the blocks lie where the bounded call's do. -/
theorem read0 (c : Dev nD) (t : Fin cfg0.N) (r : Fin 512) (k : Fin 512) :
    iblk m c 0 t (ix3 0 r k) = m ((c : Thread nD τ).loc main_arg0) (ix3 (bOf t) (rOf t r) (cOf t k)) :=
  congrArg (m ((c : Thread nD τ).loc main_arg0)) (place0 t r k)
theorem read1 (c : Dev nD) (t : Fin cfg0.N) (l : Fin 8448) (d : Fin 128) :
    iblk m c 1 t (ix3 0 l d) = m ((c : Thread nD τ).loc main_arg1) (ix3 (bOf t) l (dOf t d)) :=
  congrArg (m ((c : Thread nD τ).loc main_arg1)) (place1 t l d)
theorem read2 (c : Dev nD) (t : Fin cfg0.N) (l : Fin 8448) (d : Fin 128) :
    iblk m c 2 t (ix3 0 l d) = m ((c : Thread nD τ).loc main_arg2) (ix3 (bOf t) l (dOf t d)) :=
  congrArg (m ((c : Thread nD τ).loc main_arg2)) (place2 t l d)
theorem read3 (c : Dev nD) (t : Fin cfg0.N) (r : Fin 512) (k : Fin 512) :
    iblk m c 3 t (ix3 0 r k) = m ((c : Thread nD τ).loc main_arg3) (ix3 (bOf t) (rOf t r) (cOf t k)) :=
  congrArg (m ((c : Thread nD τ).loc main_arg3)) (place3 t r k)

/-- Every score of a point is real, where every query and key is. -/
theorem scores_real (c : Dev nD) (t : Fin cfg0.N) (hq : Finite (m ((c : Thread nD τ).loc main_arg0))) (hk : Finite (m ((c : Thread nD τ).loc main_arg1)))
    (g : Fin 4) (r : Fin 512) (l : Fin 8448) : ∃ a : ℝ, Cert.KernelIdeal.Attn.scores (iblk m c 0 t) (iblk m c 1 t) g r l = (a : EReal) := by
  refine ⟨∑ e : Fin 128, (m ((c : Thread nD τ).loc main_arg0) (ix3 (bOf t) (rOf t r) (cOf t (col g e)))).toReal
    * (m ((c : Thread nD τ).loc main_arg1) (ix3 (bOf t) l (dOf t e))).toReal, ?_⟩
  rw [Softmax.coe_sum]
  unfold Cert.KernelIdeal.Attn.scores
  refine Finset.sum_congr rfl fun e _ => ?_
  rw [read0, read1, EReal.coe_mul, ← hq, ← hk]

theorem after_block (c : Dev nD) (t : Fin cfg0.N) (hq : Finite (m ((c : Thread nD τ).loc main_arg0))) (hk : Finite (m ((c : Thread nD τ).loc main_arg1))) :
    (dats m 0 c).after 4 t = block (iblk m c 0 t) (iblk m c 1 t) (iblk m c 2 t) (iblk m c 3 t) := by
  rw [after0_4]
  exact canon_block _ _ _ _ _ (rows_averages _ _ _ (scores_real m c t hq hk))

/-- The result array after the run. -/
theorem final (c : Dev nD) (hq : Finite (m ((c : Thread nD τ).loc main_arg0))) (hk : Finite (m ((c : Thread nD τ).loc main_arg1))) :
    (dats m 0 c).arrAt 4 cfg0.N
    = result (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨h0, h1, h2⟩ := places4 t
  rw [after_block m c t hq hk]
  have y0 : (y 0).val < 1 := (y 0).isLt
  refine block_result _ _ _ _ _ _ _ _ t (read0 m c t) (read1 m c t) (read2 m c t) (read3 m c t) y _ ?_ ?_ ?_
  · refine (Pipeline.Window.rect_emb_val win0_4 t y 0).trans ?_
    show Cert.KernelIdeal.win0_4.index t 0 * 1 + (y 0).val = _
    omega
  · refine (Pipeline.Window.rect_emb_val win0_4 t y 1).trans ?_
    show Cert.KernelIdeal.win0_4.index t 1 * 512 + (y 1).val = _
    omega
  · refine (Pipeline.Window.rect_emb_val win0_4 t y 2).trans ?_
    show Cert.KernelIdeal.win0_4.index t 2 * 512 + (y 2).val = _
    omega
end Cert.Kernel6Ideal.Online
end
-- ==== Proof.Rows.lean ====
/-
  The arithmetic of one row that the layers share: its root mean square norm, the modulated row, the norm of the heads, and the row the second layer leaves.
-/
module
public import Idealize.ShloMosaic.Lib.Pointwise
@[expose] public section
noncomputable section
namespace Cert.Rows
open Idealize.ShloMosaic
open scoped BigOperators

/-- The constant added below the root of every norm. -/
abbrev eps : EReal := Ideal.ofBits FTy.f32 897988541#32

/-- The length of a row of the model, 1024, as a float. -/
abbrev width : EReal := Ideal.ofBits FTy.f32 1149239296#32

/-- One over the root of the mean square of a row, whose length is the constant `len`. -/
def scale {n : ℕ} (len : EReal) (x : Fin n → EReal) : EReal := Ideal.rsqrt (Ideal.div (∑ i, x i * x i) len + eps)

/-- The row with the attention's row `y`, projected by `w` and gated, added to it. -/
def projected {n : ℕ} (y : Fin n → EReal) (x gate : Fin 1024 → EReal) (w : Fin n → Fin 1024 → EReal) (j : Fin 1024) : EReal :=
  x j + gate j * ∑ k, y k * w k j

/-- That row normed, with the gains `fg`. -/
def outRow {n : ℕ} (y : Fin n → EReal) (x gate : Fin 1024 → EReal) (w : Fin n → Fin 1024 → EReal) (fg : Fin 1024 → EReal) (j : Fin 1024) : EReal :=
  projected y x gate w j * scale width (projected y x gate w) * fg j

/-- The length of a head, 128, as a float. -/
abbrev headWidth : EReal := Ideal.ofBits FTy.f32 1124073472#32

/-- A row normed with the gains `g`, scaled by one more than `sc` and shifted by `sh`. -/
def modulated (x g sh sc : Fin 1024 → EReal) (j : Fin 1024) : EReal := x j * scale width x * (g j * (1 + sc j)) + sh j

/-- The order in which the scaling is done does not matter. -/
theorem modulated_assoc (x g sh sc : Fin 1024 → EReal) (j : Fin 1024) : x j * scale width x * g j * (1 + sc j) + sh j = modulated x g sh sc j := by
  unfold modulated
  rw [mul_assoc (x j * scale width x)]

/-- A row times a column of weights. -/
def dot (h w : Fin 1024 → EReal) : EReal := ∑ k, h k * w k

/-- A head normed with the gains `g`. -/
def headNormed (y g : Fin 128 → EReal) (j : Fin 128) : EReal := y j * scale headWidth y * g j

/-- A row of heads, every head normed. -/
def normedHeads {W : ℕ} (hW : W % 128 = 0) (y : Fin W → EReal) (g : Fin 128 → EReal) (c : Fin W) : EReal :=
  y c * scale headWidth (fun i : Fin 128 => y ⟨c.val / 128 * 128 + i.val, by have := c.isLt; have := i.isLt; omega⟩) * g ⟨c.val % 128, Nat.mod_lt _ (by decide)⟩

/-- The columns of the head that starts at `off`. -/
theorem normedHeads_at {W off : ℕ} (hW : W % 128 = 0) (y : Fin W → EReal) (g : Fin 128 → EReal) (ho : off % 128 = 0) (hl : off + 128 ≤ W) (j : Fin 128) :
    normedHeads hW y g ⟨off + j.val, by have := j.isLt; omega⟩ = headNormed (fun i => y ⟨off + i.val, by have := i.isLt; omega⟩) g j := by
  have hj := j.isLt
  unfold normedHeads headNormed
  have e : ∀ i : Fin 128, (off + j.val) / 128 * 128 + i.val = off + i.val := fun i => by omega
  have e' : (⟨(off + j.val) % 128, Nat.mod_lt _ (by decide)⟩ : Fin 128) = j := Fin.ext (by show (off + j.val) % 128 = j.val; omega)
  simp only [e, e']

/-- The gate of a column: the column times its logistic. -/
def gated (z : EReal) : EReal := z * Ideal.div 1 (1 + Ideal.exp (0 - z))

end Cert.Rows
end
-- ==== Proof.OutProj.lean ====
/-
  The array the projection of the attention's output leaves, with the final norm: every row is the gated projection added to the layer's row, normed.
-/
module
public import proofs.«01_k».proof.Proof.Gen.Kernel2Ideal.Value
public import proofs.«01_k».proof.Proof.Rows
public import Idealize.ShloMosaic.Lib.Pointwise
public import Idealize.ShloMosaic.Lib.Pipeline.ValueKit
public import Idealize.ShloMosaic.Lib.MatmulPlain
@[expose] public section
set_option maxRecDepth 16384
noncomputable section
namespace Cert.Kernel2Ideal.Out
open Cert.Kernel2Ideal Cert.Kernel2Ideal.Gen Idealize.ShloMosaic.TcCoe Idealize.SL.Sem
open Idealize.ShloMosaic
open Idealize.ShloMosaic.Pipeline (Dat)
open scoped BigOperators
variable (m : (ℓ : Loc nD τ sig) → Buf (Elt Ideal) ℓ)

/-- The block a point stores, entry by entry. -/
theorem pay_apply (gate : Vec Ideal S1x1x1024 .f32) (x : Vec Ideal S1x512x1024 .f32) (y : Vec Ideal S1x512x2048 .bf16) (w : Vec Ideal S2048x1024 .bf16)
    (fg : Vec Ideal S1x1024 .f32) (r : Fin 512) (j : Fin 1024) :
    k0_pay1 (F := Ideal) gate x y w fg (ix3 0 r j)
      = Rows.outRow (fun k : Fin 2048 => y (ix3 0 r k)) (fun i => x (ix3 0 r i)) (fun i => gate (ix3 0 0 i)) (fun k i => w (ix2 k i)) (fun i => fg (ix2 0 i)) j := by
  pointwise [k0_pay1]
  rfl

/-- The arrays the host prepares are the arguments, reshaped. -/
theorem host0 (c : Dev nD) : V m c main_v0 = shapeCast S16x1x3072 (m ((c : Thread nD τ).loc main_arg2)) shapeCasts_S16x3072_S16x1x3072 := by
  unfold V hostOps0
  after_results_simp
  rfl
theorem host1 (c : Dev nD) : V m c main_v1 = truncf (F := Ideal) .bf16 (m ((c : Thread nD τ).loc main_arg3)) bitsLt_bf16_f32 := by
  unfold V hostOps0
  after_results_simp
theorem host2 (c : Dev nD) : V m c main_v2 = shapeCast S1x1024 (m ((c : Thread nD τ).loc main_arg4)) shapeCasts_S1024_S1x1024 := by
  unfold V hostOps0
  after_results_simp
  rfl
theorem mod_apply (c : Dev nD) (r : Fin 16) (j : Fin 3072) : V m c main_v0 (ix3 r 0 j) = m ((c : Thread nD τ).loc main_arg2) (ix2 r j) := by
  rw [host0]
  pointwise []
theorem weight_apply (c : Dev nD) (k : Fin 2048) (j : Fin 1024) : V m c main_v1 (ix2 k j) = m ((c : Thread nD τ).loc main_arg3) (ix2 k j) := by
  rw [host1]
  pointwise []
theorem gain_apply (c : Dev nD) (j : Fin 1024) : V m c main_v2 (ix2 0 j) = m ((c : Thread nD τ).loc main_arg4) (ix1 j) := by
  rw [host2]
  pointwise []

/-- Where the blocks lie: the point's batch and its rows. -/
theorem places0 : ∀ t : Fin grid0.N, win0_0.index t 0 = t.val / 16 ∧ win0_0.index t 1 = t.val % 16 ∧ win0_0.index t 2 = 0 := by decide +kernel
theorem places1 : ∀ t : Fin grid0.N, win0_1.index t 0 = t.val / 16 ∧ win0_1.index t 1 = t.val % 16 ∧ win0_1.index t 2 = 0 := by decide +kernel
theorem places2 : ∀ t : Fin grid0.N, win0_2.index t 0 = t.val / 16 ∧ win0_2.index t 1 = 0 ∧ win0_2.index t 2 = 0 := by decide +kernel
theorem places3 : ∀ t : Fin grid0.N, win0_3.index t 0 = 0 ∧ win0_3.index t 1 = 0 := by decide +kernel
theorem places4 : ∀ t : Fin grid0.N, win0_4.index t 0 = 0 ∧ win0_4.index t 1 = 0 := by decide +kernel
theorem places5 : ∀ t : Fin grid0.N, win0_5.index t 0 = t.val / 16 ∧ win0_5.index t 1 = t.val % 16 ∧ win0_5.index t 2 = 0 := by decide +kernel

theorem point_lt (t : Fin cfg0.N) : t.val < 128 := lt_of_lt_of_eq t.isLt Gen.N_0

/-- The batch of a point. -/
abbrev bOf (t : Fin cfg0.N) : Fin 8 := ⟨t.val / 16, by have := point_lt t; omega⟩
/-- Row `r` of the point's block, among all rows. -/
abbrev rOf (t : Fin cfg0.N) (r : Fin 512) : Fin 8192 := ⟨t.val % 16 * 512 + r.val, by have := r.isLt; omega⟩
/-- The row of the modulation that belongs to a batch. -/
abbrev condOf (b : Fin 8) : Fin 16 := ⟨b.val, by have := b.isLt; omega⟩

set_option backward.isDefEq.respectTransparency false in
theorem block0 (c : Dev nD) (t : Fin cfg0.N) (r : Fin 512) (k : Fin 2048) :
    iblk m c 0 t (ix3 0 r k) = m ((c : Thread nD τ).loc main_arg0) (ix3 (bOf t) (rOf t r) k) := by
  obtain ⟨h0, h1, h2⟩ := places0 t
  show m ((c : Thread nD τ).loc main_arg0) ((win0_0.rect t).emb (ix3 0 r k)) = _
  refine congrArg _ (funext fun a => Fin.ext ?_)
  refine (Pipeline.Window.rect_emb_val win0_0 t _ a).trans ?_
  fin_cases a
  · show win0_0.index t 0 * 1 + 0 = t.val / 16
    omega
  · show win0_0.index t 1 * 512 + r.val = t.val % 16 * 512 + r.val
    omega
  · show win0_0.index t 2 * 2048 + k.val = k.val
    omega

set_option backward.isDefEq.respectTransparency false in
theorem block1 (c : Dev nD) (t : Fin cfg0.N) (r : Fin 512) (k : Fin 1024) :
    iblk m c 1 t (ix3 0 r k) = m ((c : Thread nD τ).loc main_arg1) (ix3 (bOf t) (rOf t r) k) := by
  obtain ⟨h0, h1, h2⟩ := places1 t
  show m ((c : Thread nD τ).loc main_arg1) ((win0_1.rect t).emb (ix3 0 r k)) = _
  refine congrArg _ (funext fun a => Fin.ext ?_)
  refine (Pipeline.Window.rect_emb_val win0_1 t _ a).trans ?_
  fin_cases a
  · show win0_1.index t 0 * 1 + 0 = t.val / 16
    omega
  · show win0_1.index t 1 * 512 + r.val = t.val % 16 * 512 + r.val
    omega
  · show win0_1.index t 2 * 1024 + k.val = k.val
    omega

set_option backward.isDefEq.respectTransparency false in
theorem block2 (c : Dev nD) (t : Fin cfg0.N) (j : Fin 3072) :
    iblk m c 2 t (ix3 0 0 j) = m ((c : Thread nD τ).loc main_arg2) (ix2 (condOf (bOf t)) j) := by
  obtain ⟨h0, h1, h2⟩ := places2 t
  rw [← mod_apply m]
  show V m c main_v0 ((win0_2.rect t).emb (ix3 0 0 j)) = _
  refine congrArg _ (funext fun a => Fin.ext ?_)
  refine (Pipeline.Window.rect_emb_val win0_2 t _ a).trans ?_
  fin_cases a
  · show win0_2.index t 0 * 1 + 0 = t.val / 16
    omega
  · show win0_2.index t 1 * 1 + 0 = 0
    omega
  · show win0_2.index t 2 * 3072 + j.val = j.val
    omega

set_option backward.isDefEq.respectTransparency false in
theorem block3 (c : Dev nD) (t : Fin cfg0.N) (k : Fin 2048) (j : Fin 1024) :
    iblk m c 3 t (ix2 k j) = m ((c : Thread nD τ).loc main_arg3) (ix2 k j) := by
  obtain ⟨h0, h1⟩ := places3 t
  rw [← weight_apply m]
  show V m c main_v1 ((win0_3.rect t).emb (ix2 k j)) = _
  refine congrArg _ (funext fun a => Fin.ext ?_)
  refine (Pipeline.Window.rect_emb_val win0_3 t _ a).trans ?_
  fin_cases a
  · show win0_3.index t 0 * 2048 + k.val = k.val
    omega
  · show win0_3.index t 1 * 1024 + j.val = j.val
    omega

set_option backward.isDefEq.respectTransparency false in
theorem block4 (c : Dev nD) (t : Fin cfg0.N) (j : Fin 1024) :
    iblk m c 4 t (ix2 0 j) = m ((c : Thread nD τ).loc main_arg4) (ix1 j) := by
  obtain ⟨h0, h1⟩ := places4 t
  rw [← gain_apply m]
  show V m c main_v2 ((win0_4.rect t).emb (ix2 0 j)) = _
  refine congrArg _ (funext fun a => Fin.ext ?_)
  refine (Pipeline.Window.rect_emb_val win0_4 t _ a).trans ?_
  fin_cases a
  · show win0_4.index t 0 * 1 + 0 = 0
    omega
  · show win0_4.index t 1 * 1024 + j.val = j.val
    omega

/-- Column `j` of the gate lies 2048 columns into the modulation. -/
abbrev gateCol (j : Fin 1024) : Fin 3072 := ⟨2048 + j.val, by have := j.isLt; omega⟩

/-- The whole result, from the five arrays. -/
def result (y : FVec Ideal S8x8192x2048 .bf16) (x : FVec Ideal S8x8192x1024 .f32) (mod : FVec Ideal S16x3072 .f32) (w : FVec Ideal S2048x1024 .f32)
    (fg : FVec Ideal S1024 .f32) : FVec Ideal S8x8192x1024 .f32 :=
  fun i => Rows.outRow (fun k : Fin 2048 => y (ix3 (i 0) (i 1) k)) (fun j => x (ix3 (i 0) (i 1) j)) (fun j => mod (ix2 (condOf (i 0)) (gateCol j)))
    (fun k j => w (ix2 k j)) (fun j => fg (ix1 j)) (i 2)

/-- The block a point leaves. -/
def stored (c : Dev nD) (t : Fin cfg0.N) : FVec Ideal S1x512x1024 .f32 :=
  out0_5 (F := Ideal) (iblk m c 0 t) (iblk m c 1 t) (iblk m c 2 t) (iblk m c 3 t) (iblk m c 4 t)

theorem after_stored (c : Dev nD) (t : Fin cfg0.N) : (dats m 0 c).after 5 t = stored m c t := after0_5 m c t

theorem block_row (c : Dev nD) (t : Fin cfg0.N) (r : Fin 512) (j : Fin 1024) :
    stored m c t (ix3 0 r j)
      = result (m ((c : Thread nD τ).loc main_arg0)) (m ((c : Thread nD τ).loc main_arg1)) (m ((c : Thread nD τ).loc main_arg2)) (m ((c : Thread nD τ).loc main_arg3))
          (m ((c : Thread nD τ).loc main_arg4)) (ix3 (bOf t) (rOf t r) j) := by
  unfold stored out0_5
  rw [View.canon_cons_unit_lit _ _ _ (by decide), View.ld_unit_lit _ _ (by decide), View.ld_unit_lit _ _ (by decide), View.ld_unit_lit _ _ (by decide),
    View.ld_unit_lit _ _ (by decide), pay_apply]
  show _ = Rows.outRow _ _ _ _ _ j
  congr 1
  · funext k
    exact block0 m c t r k
  · funext k
    exact block1 m c t r k
  · funext k
    refine (View.ld_unit_apply_of (Val := Elt Ideal) (iblk m c 2 t) _ _ _ _ (ix3 0 0 (gateCol k)) ?_).trans (block2 m c t _)
    intro a
    fin_cases a <;> rfl
  · funext k i
    exact block3 m c t k i
  · funext k
    exact block4 m c t k

theorem block_result (c : Dev nD) (t : Fin cfg0.N) (y : S1x512x1024.Idx) (i : S8x8192x1024.Idx) (v0 : (i 0).val = t.val / 16)
    (v1 : (i 1).val = t.val % 16 * 512 + (y 1).val) (v2 : (i 2).val = (y 2).val) :
    stored m c t y
      = result (m ((c : Thread nD τ).loc main_arg0)) (m ((c : Thread nD τ).loc main_arg1)) (m ((c : Thread nD τ).loc main_arg2)) (m ((c : Thread nD τ).loc main_arg3))
          (m ((c : Thread nD τ).loc main_arg4)) i := by
  have hy : y = ix3 0 (y 1) (y 2) := by
    refine (eq_ix3 (n0 := 1) (n1 := 512) (n2 := 1024) y).trans ?_
    rw [Subsingleton.elim (α := Fin 1) (y 0) 0]
    rfl
  have hi : i = ix3 (bOf t) (rOf t (y 1)) (y 2) := by
    refine (eq_ix3 (n0 := 8) (n1 := 8192) (n2 := 1024) i).trans ?_
    congr 1
    · exact Fin.ext v0
    · exact Fin.ext v1
    · exact Fin.ext v2
  rw [hi]
  generalize y 1 = r at hy
  generalize y 2 = j at hy
  rw [hy]
  exact block_row m c t r j

/-- The result array after the run. -/
theorem final (c : Dev nD) : (dats m 0 c).arrAt 5 cfg0.N
    = result (m ((c : Thread nD τ).loc main_arg0)) (m ((c : Thread nD τ).loc main_arg1)) (m ((c : Thread nD τ).loc main_arg2)) (m ((c : Thread nD τ).loc main_arg3))
        (m ((c : Thread nD τ).loc main_arg4)) := by
  refine (dats m 0 c).arrAt_eq_of_covers 5 _ (by decide +kernel) fun t hf y => ?_
  obtain ⟨h0, h1, h2⟩ := places5 t
  rw [after_stored]
  have y0 : (y 0).val < 1 := (y 0).isLt
  refine (cast_eq _ _).trans ?_
  refine block_result m c t _ _ ?_ ?_ ?_
  · refine (Pipeline.Window.rect_emb_val win0_5 t y 0).trans ?_
    show win0_5.index t 0 * 1 + (y 0).val = _
    omega
  · refine (Pipeline.Window.rect_emb_val win0_5 t y 1).trans ?_
    show win0_5.index t 1 * 512 + (y 1).val = t.val % 16 * 512 + (y 1).val
    omega
  · refine (Pipeline.Window.rect_emb_val win0_5 t y 2).trans ?_
    show win0_5.index t 2 * 1024 + (y 2).val = (y 2).val
    omega
end Cert.Kernel2Ideal.Out
end
-- ==== Proof.RefOut.lean ====
/-
  The reference's projection of the attention's output with the final norm, entry by entry.
-/
module
public import proofs.«01_k».proof.Proof.Gen.Reference2Ideal.Read
public import proofs.«01_k».proof.Proof.Rows
public import Idealize.ShloMosaic.Lib.Pointwise
@[expose] public section
set_option maxRecDepth 16384
noncomputable section
namespace Cert.Reference2Ideal.Out
open Cert.Reference2Ideal Cert.Reference2Ideal.Read Idealize.ShloMosaic.TcCoe Idealize.SL.Sem
open Idealize.ShloMosaic
open scoped BigOperators

/-- Every entry of the reference's result, from the five arrays. -/
theorem entry (y : FVec Ideal S8x8192x2048 .bf16) (x : FVec Ideal S8x8192x1024 .f32) (mod : FVec Ideal S16x3072 .f32) (w : FVec Ideal S2048x1024 .f32)
    (fg : FVec Ideal S1024 .f32) (b : Fin 8) (s : Fin 8192) (j : Fin 1024) :
    val_main_v22 (F := Ideal) y x mod w fg (ix3 b s j)
      = Rows.outRow (fun k : Fin 2048 => y (ix3 b s k)) (fun i => x (ix3 b s i)) (fun i => mod (ix2 ⟨b.val, by have := b.isLt; omega⟩ ⟨2048 + i.val, by have := i.isLt; omega⟩))
          (fun k i => w (ix2 k i)) (fun i => fg (ix1 i)) j := by
  pointwise [val_main_v0, val_main_v1, val_main_v2, val_main_v3, val_main_v4, val_main_v5, val_main_v6, val_main_v7, val_main_v8, val_main_v9, val_main_v10, val_main_cst,
    val_main_v11, val_main_v12, val_main_cst_0, val_main_v13, val_main_v14, val_main_cst_1, val_main_v15, val_main_v16, val_main_v17, val_main_v18, val_main_v19,
    val_main_v20, val_main_v21, val_main_v22]
  rfl
end Cert.Reference2Ideal.Out
end
-- ==== Proof.Tiles.lean ====
/-
  A block stored in pieces, each piece some whole columns of it.
-/
module
public import Idealize.ShloMosaic.Lib.Pointwise
public import Idealize.ShloMosaic.Lib.Pipeline.ValueKit
@[expose] public section
noncomputable section
namespace Cert.Tiles
open Idealize.ShloMosaic

/-- An index of a block with one plane, by its row and its column. -/
theorem eq_plane {R n : ℕ} (x : (⟨3, ![1, R, n]⟩ : Shape).Idx) : x = ix3 0 (x 1) (x 2) := by
  refine (eq_ix3 (n0 := 1) (n1 := R) (n2 := n) x).trans ?_
  rw [Subsingleton.elim (α := Fin 1) (x 0) 0]
  rfl

/-- A piece that holds the columns from `off` on agrees with a block `G` when its entries are those of `G`. -/
theorem piece_cols {R W n off : ℕ} (inb : ∀ a, (![0, 0, off] : Fin 3 → ℕ) a + (![1, R, n] : Fin 3 → ℕ) a ≤ (⟨3, ![1, R, W]⟩ : Shape).size a) (hn : off + n ≤ W)
    (P : (⟨3, ![1, R, n]⟩ : Shape).Idx → EReal) (G : Fin R → Fin W → EReal)
    (hP : ∀ (r : Fin R) (j : Fin n), P (ix3 0 r j) = G r ⟨off + j.val, by have := j.isLt; omega⟩) (x : (⟨3, ![1, R, n]⟩ : Shape).Idx) :
    P x = (fun y : (⟨3, ![1, R, W]⟩ : Shape).Idx => G (y 1) (y 2)) ((Rect.unit (s := ⟨3, ![1, R, W]⟩) ![0, 0, off] ![1, R, n] inb).emb x) := by
  refine (congrArg P (eq_plane x)).trans ((hP (x 1) (x 2)).trans ?_)
  show _ = G (((Rect.unit (s := ⟨3, ![1, R, W]⟩) ![0, 0, off] ![1, R, n] inb).emb x) 1) (((Rect.unit (s := ⟨3, ![1, R, W]⟩) ![0, 0, off] ![1, R, n] inb).emb x) 2)
  congr 1
  · refine Fin.ext ?_
    show (x 1).val = 0 + 1 * (x 1).val
    omega
  · refine Fin.ext ?_
    show off + (x 2).val = off + 1 * (x 2).val
    omega

end Cert.Tiles
end
-- ==== Proof.Lat.lean ====
/-
  The blocks the latents' input projection leaves: the queries and keys, normed head by head and turned by their position, the values and the gates.
-/
module
public import proofs.«01_k».proof.Proof.Gen.Kernel3Ideal.Value
public import proofs.«01_k».proof.Proof.Rows
public import proofs.«01_k».proof.Proof.Tiles
public import Idealize.ShloMosaic.Lib.Pointwise
public import Idealize.ShloMosaic.Lib.Pipeline.ValueKit
public import Idealize.ShloMosaic.Lib.MatmulPlain
@[expose] public section
set_option maxRecDepth 16384
noncomputable section
namespace Cert.Kernel3Ideal.Lat
open Cert.Kernel3Ideal Cert.Kernel3Ideal.Gen Idealize.ShloMosaic.TcCoe Idealize.SL.Sem
open Idealize.ShloMosaic
open Idealize.ShloMosaic.Pipeline (Dat)
open scoped BigOperators

/-- The kernel's test whether a lane lies in the first half of its axis. -/
def lane (j : Fin 128) : BitVec 1 :=
  IntOp.cmpi CmpIPredicate.slt
    (Scalar.select
      (IntOp.andi
        (IntOp.xori
          (IntOp.cmpi CmpIPredicate.slt (IntOp.remsi ArithUnit.vector (BitVec.ofNat 32 j.val) (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne (IntOp.remsi ArithUnit.vector (BitVec.ofNat 32 j.val) (Scalar.select (Scalar.cmpi CmpIPredicate.eq 64#32 0#32) 1#32 64#32)) 0#32))
      (IntOp.addi (IntOp.remsi ArithUnit.vector (BitVec.ofNat 32 j.val) (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 j.val) (Scalar.select (Scalar.cmpi CmpIPredicate.eq 64#32 0#32) 1#32 64#32)))
    32#32

theorem lane_eq : ∀ j : Fin 128, lane j = if j.val % 64 < 32 then 1#1 else 0#1 := by decide +kernel

/-- A head turned by the cosines and the signed sines: the partner of a lane lies 32 lanes further on or back. -/
def turned (y cs sn : Fin 128 → EReal) (j : Fin 128) : EReal :=
  y j * cs j + Scalar.select (lane j) (y ⟨(j.val + 128 - 96) % 128, Nat.mod_lt _ (by decide)⟩) (y ⟨(j.val + 128 - 32) % 128, Nat.mod_lt _ (by decide)⟩) * sn j

/-- A row of heads, every head normed and turned. -/
def turnedHeads {W : ℕ} (hW : W % 128 = 0) (y : Fin W → EReal) (g cs sn : Fin 128 → EReal) (c : Fin W) : EReal :=
  turned (Rows.headNormed (fun i => y ⟨c.val / 128 * 128 + i.val, by have := c.isLt; have := i.isLt; omega⟩) g) cs sn ⟨c.val % 128, Nat.mod_lt _ (by decide)⟩

/-- The columns of the head that starts at `off`. -/
theorem turnedHeads_at {W off : ℕ} (hW : W % 128 = 0) (y : Fin W → EReal) (g cs sn : Fin 128 → EReal) (ho : off % 128 = 0) (hl : off + 128 ≤ W) (j : Fin 128)
    (h : off + j.val < W) :
    turnedHeads hW y g cs sn ⟨off + j.val, h⟩ = turned (Rows.headNormed (fun i => y ⟨off + i.val, by have := i.isLt; omega⟩) g) cs sn j := by
  have hj := j.isLt
  unfold turnedHeads
  have e : ∀ i : Fin 128, (off + j.val) / 128 * 128 + i.val = off + i.val := fun i => by omega
  have e' : (⟨(off + j.val) % 128, Nat.mod_lt _ (by decide)⟩ : Fin 128) = j := Fin.ext (by show (off + j.val) % 128 = j.val; omega)
  simp only [e, e']

section Block

variable (x0 : Vec Ideal S1x512x1024 .f32) (x1 : Vec Ideal S1x1x3072 .f32) (x2 : Vec Ideal S1x1024 .f32) (x3 : Vec Ideal S1024x5120 .bf16) (x4 x5 : Vec Ideal S1x128 .f32)
  (x6 x7 : Vec Ideal S512x128 .f32)

/-- Row `r` of a block, normed, scaled and shifted. -/
def hrow (r : Fin 512) : Fin 1024 → EReal :=
  Rows.modulated (fun k => x0 (ix3 0 r k)) (fun k => x2 (ix2 0 k)) (fun k => x1 (ix3 0 0 ⟨k.val, by have := k.isLt; omega⟩))
    (fun k => x1 (ix3 0 0 ⟨1024 + k.val, by have := k.isLt; omega⟩))

/-- The queries of a block. -/
def queries (r : Fin 512) (c : Fin 2048) : EReal :=
  turnedHeads (by decide) (fun c : Fin 2048 => Rows.dot (hrow x0 x1 x2 r) fun k => x3 (ix2 k ⟨c.val, by have := c.isLt; omega⟩)) (fun i => x4 (ix2 0 i))
    (fun i => x6 (ix2 r i)) (fun i => x7 (ix2 r i)) c

/-- The keys of a block. -/
def keys (r : Fin 512) (c : Fin 512) : EReal :=
  turnedHeads (by decide) (fun c : Fin 512 => Rows.dot (hrow x0 x1 x2 r) fun k => x3 (ix2 k ⟨2048 + c.val, by have := c.isLt; omega⟩)) (fun i => x5 (ix2 0 i))
    (fun i => x6 (ix2 r i)) (fun i => x7 (ix2 r i)) c

/-- The values of a block. -/
def values (r : Fin 512) (c : Fin 512) : EReal :=
  Rows.dot (hrow x0 x1 x2 r) fun k => x3 (ix2 k ⟨2560 + c.val, by have := c.isLt; omega⟩)

/-- The gates of a block. -/
def gates (r : Fin 512) (c : Fin 2048) : EReal :=
  Rows.gated (Rows.dot (hrow x0 x1 x2 r) fun k => x3 (ix2 k ⟨3072 + c.val, by have := c.isLt; omega⟩))

theorem out_queries : out0_8 (F := Ideal) x0 x1 x2 x3 x4 x5 x6 x7 = fun y => queries x0 x1 x2 x3 x4 x6 x7 (y 1) (y 2) := by
  funext y
  unfold out0_8
  refine View.canon_apply_of_pieces (Val := Elt Ideal) (S := S1x512x2048) (e := .bf16) (fun y => queries x0 x1 x2 x3 x4 x6 x7 (y 1) (y 2)) _ (fun p hp => ?_) y
    (cover0_8 _ _ _ _ _ _ _ _ _ _ _ _ _ _ _ _ y)
  simp only [List.mem_cons, List.not_mem_nil, or_false] at hp
  rcases hp with rfl | rfl | rfl | rfl | rfl | rfl | rfl | rfl | rfl | rfl | rfl | rfl | rfl | rfl | rfl | rfl
  all_goals
    refine Tiles.piece_cols (by decide) (by decide) _ (queries x0 x1 x2 x3 x4 x6 x7) fun r j => ?_
    refine Eq.trans ?_ (turnedHeads_at _ _ _ _ _ (by decide) (by decide) j _).symm
    pointwise [k0_pay1, k0_pay2, k0_pay3, k0_pay4, k0_pay5, k0_pay6, k0_pay7, k0_pay8, k0_pay9, k0_pay10, k0_pay11, k0_pay12, k0_pay13, k0_pay14, k0_pay15,
      k0_pay16, k0_pay17, k0_pay18, k0_pay19, k0_pay20, k0_pay21, k0_pay22, k0_pay23, k0_pay24, k0_pay25, k0_pay26, k0_pay27, k0_pay28, k0_pay29,
      k0_pay30, k0_pay31, k0_pay32, k0_pay33, k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53, k0_pay54, k0_pay55, k0_pay56, k0_pay57,
      k0_pay58, k0_pay59, k0_pay60, k0_pay61, k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81, k0_pay82, k0_pay83, k0_pay84, k0_pay85,
      k0_pay86, k0_pay87, k0_pay88, k0_pay89, k0_pay90, k0_pay91, k0_pay92, k0_pay93, k0_pay94]
    try simp only [Nat.zero_add]
    try simp only [← Nat.add_assoc]
    rfl

theorem out_keys : out0_9 (F := Ideal) x0 x1 x2 x3 x4 x5 x6 x7 = fun y => keys x0 x1 x2 x3 x5 x6 x7 (y 1) (y 2) := by
  funext y
  unfold out0_9
  refine View.canon_apply_of_pieces (Val := Elt Ideal) (S := S1x512x512) (e := .bf16) (fun y => keys x0 x1 x2 x3 x5 x6 x7 (y 1) (y 2)) _ (fun p hp => ?_) y
    (cover0_9 _ _ _ _ y)
  simp only [List.mem_cons, List.not_mem_nil, or_false] at hp
  rcases hp with rfl | rfl | rfl | rfl
  all_goals
    refine Tiles.piece_cols (by decide) (by decide) _ (keys x0 x1 x2 x3 x5 x6 x7) fun r j => ?_
    refine Eq.trans ?_ (turnedHeads_at _ _ _ _ _ (by decide) (by decide) j _).symm
    pointwise [k0_pay1, k0_pay2, k0_pay3, k0_pay4, k0_pay5, k0_pay6, k0_pay7, k0_pay8, k0_pay9, k0_pay10, k0_pay11, k0_pay12, k0_pay13, k0_pay14, k0_pay15,
      k0_pay16, k0_pay17, k0_pay18, k0_pay19, k0_pay20, k0_pay21, k0_pay22, k0_pay23, k0_pay24, k0_pay25, k0_pay26, k0_pay27, k0_pay28, k0_pay29,
      k0_pay30, k0_pay31, k0_pay32, k0_pay33, k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53, k0_pay54, k0_pay55, k0_pay56, k0_pay57,
      k0_pay58, k0_pay59, k0_pay60, k0_pay61, k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81, k0_pay82, k0_pay83, k0_pay84, k0_pay85,
      k0_pay86, k0_pay87, k0_pay88, k0_pay89, k0_pay90, k0_pay91, k0_pay92, k0_pay93, k0_pay94]
    try simp only [Nat.zero_add]
    rfl

theorem out_values : out0_10 (F := Ideal) x0 x1 x2 x3 x4 x5 x6 x7 = fun y => values x0 x1 x2 x3 (y 1) (y 2) := by
  funext y
  unfold out0_10
  rw [View.canon_cons_unit_lit _ _ _ (by decide)]
  refine (congrArg _ (Tiles.eq_plane (R := 512) (n := 512) y)).trans ?_
  generalize y 1 = r
  generalize y 2 = j
  pointwise [k0_pay1, k0_pay2, k0_pay3, k0_pay4, k0_pay5, k0_pay6, k0_pay7, k0_pay8, k0_pay9, k0_pay10, k0_pay11, k0_pay12, k0_pay13, k0_pay14, k0_pay15,
      k0_pay16, k0_pay17, k0_pay18, k0_pay19, k0_pay20, k0_pay21, k0_pay22, k0_pay23, k0_pay24, k0_pay25, k0_pay26, k0_pay27, k0_pay28, k0_pay29,
      k0_pay30, k0_pay31, k0_pay32, k0_pay33, k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53, k0_pay54, k0_pay55, k0_pay56, k0_pay57,
      k0_pay58, k0_pay59, k0_pay60, k0_pay61, k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81, k0_pay82, k0_pay83, k0_pay84, k0_pay85,
      k0_pay86, k0_pay87, k0_pay88, k0_pay89, k0_pay90, k0_pay91, k0_pay92, k0_pay93, k0_pay94]
  rfl

theorem out_gates : out0_11 (F := Ideal) x0 x1 x2 x3 x4 x5 x6 x7 = fun y => gates x0 x1 x2 x3 (y 1) (y 2) := by
  funext y
  unfold out0_11
  refine View.canon_apply_of_pieces (Val := Elt Ideal) (S := S1x512x2048) (e := .bf16) (fun y => gates x0 x1 x2 x3 (y 1) (y 2)) _ (fun p hp => ?_) y
    (cover0_11 _ _ _ _ y)
  simp only [List.mem_cons, List.not_mem_nil, or_false] at hp
  rcases hp with rfl | rfl | rfl | rfl
  all_goals
    refine Tiles.piece_cols (by decide) (by decide) _ (gates x0 x1 x2 x3) fun r j => ?_
    unfold gates
    pointwise [k0_pay1, k0_pay2, k0_pay3, k0_pay4, k0_pay5, k0_pay6, k0_pay7, k0_pay8, k0_pay9, k0_pay10, k0_pay11, k0_pay12, k0_pay13, k0_pay14, k0_pay15,
      k0_pay16, k0_pay17, k0_pay18, k0_pay19, k0_pay20, k0_pay21, k0_pay22, k0_pay23, k0_pay24, k0_pay25, k0_pay26, k0_pay27, k0_pay28, k0_pay29,
      k0_pay30, k0_pay31, k0_pay32, k0_pay33, k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53, k0_pay54, k0_pay55, k0_pay56, k0_pay57,
      k0_pay58, k0_pay59, k0_pay60, k0_pay61, k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81, k0_pay82, k0_pay83, k0_pay84, k0_pay85,
      k0_pay86, k0_pay87, k0_pay88, k0_pay89, k0_pay90, k0_pay91, k0_pay92, k0_pay93, k0_pay94]
    try simp only [Nat.zero_add]
    try simp only [← Nat.add_assoc]
    rfl

end Block
end Cert.Kernel3Ideal.Lat
end
-- ==== Proof.Turn.lean ====
/-
  Turning a head by the position of its row on the grid of 64 columns, and that a finite gain may be taken before or after the turn.
-/
module
public import proofs.«01_k».proof.Proof.Rows
@[expose] public section
noncomputable section
namespace Cert.Rows
open Idealize.ShloMosaic

/-- The angle of frequency `f` at the position `pos`. -/
def angle (pos f : ℕ) : EReal :=
  FloatOps.sitofp (F := Ideal) FTy.f32 (BitVec.ofNat 32 pos) *
    Ideal.pow (Ideal.ofBits FTy.f32 1176256512#32)
      (Ideal.div (-(Ideal.ofBits FTy.f32 1073741824#32 * FloatOps.sitofp (F := Ideal) FTy.f32 (BitVec.ofNat 32 f))) (Ideal.ofBits FTy.f32 1115684864#32))

/-- The place of row `t` on axis `a` of the grid: its line, then its column. -/
def place (t a : ℕ) : ℕ := if a < 1 then t / 64 else t % 64

/-- The angle that turns lane `j` of a head in row `t`. -/
def laneAngle (t j : ℕ) : EReal := angle (place t (j / 64)) (j % 32)

/-- The head `y` of row `t`, turned: a lane of the first half of an axis pairs with the lane 32 further on. -/
def rope (y : Fin 128 → EReal) (t : ℕ) (j : Fin 128) : EReal :=
  if j.val / 32 % 2 < 1 then
    y ⟨j.val / 64 * 64 + j.val % 32, by have := j.isLt; omega⟩ * Ideal.cos (laneAngle t j.val)
      - y ⟨j.val / 64 * 64 + 32 + j.val % 32, by have := j.isLt; omega⟩ * Ideal.sin (laneAngle t j.val)
  else
    y ⟨j.val / 64 * 64 + j.val % 32, by have := j.isLt; omega⟩ * Ideal.sin (laneAngle t j.val)
      + y ⟨j.val / 64 * 64 + 32 + j.val % 32, by have := j.isLt; omega⟩ * Ideal.cos (laneAngle t j.val)

/-- The gain of the queries. -/
abbrev queryGain : EReal := Ideal.ofBits FTy.f32 1040356334#32

theorem queryGain_real : ∃ q : ℝ, 0 ≤ q ∧ queryGain = (q : EReal) := by
  refine ⟨_, ?_, by simp [queryGain, Ideal.ofBits, Ideal.ieee, -EReal.coe_mul]; rfl⟩
  norm_num

theorem add_mul_gain (a b : EReal) : (a + b) * queryGain = a * queryGain + b * queryGain := by
  obtain ⟨q, h0, h⟩ := queryGain_real
  rw [h]
  exact EReal.right_distrib_of_nonneg_of_ne_top (by exact_mod_cast h0) (EReal.coe_ne_top q) a b

/-- A head whose gains carry the factor of the queries, turned, is the turned head times that factor. -/
theorem rope_gain (y g : Fin 128 → EReal) (t : ℕ) (j : Fin 128) :
    rope (headNormed y fun i => g i * queryGain) t j = rope (headNormed y g) t j * queryGain := by
  have e : ∀ i, headNormed y (fun i => g i * queryGain) i = headNormed y g i * queryGain := fun i => (mul_assoc _ _ _).symm
  unfold rope
  simp only [e]
  split
  · rw [sub_eq_add_neg, sub_eq_add_neg, add_mul_gain, ← neg_mul, ← neg_mul, mul_right_comm, mul_right_comm (-(headNormed _ _ _)), neg_mul, neg_mul]
  · rw [add_mul_gain, mul_right_comm, mul_right_comm (headNormed y g ⟨j.val / 64 * 64 + 32 + j.val % 32, _⟩)]

/-- A row of heads, every head normed and turned. -/
def ropedHeads {W : ℕ} (hW : W % 128 = 0) (y : Fin W → EReal) (g : Fin 128 → EReal) (t : ℕ) (c : Fin W) : EReal :=
  rope (headNormed (fun i => y ⟨c.val / 128 * 128 + i.val, by have := c.isLt; have := i.isLt; omega⟩) g) t ⟨c.val % 128, Nat.mod_lt _ (by decide)⟩

end Cert.Rows
end
-- ==== Proof.LatFinal.lean ====
/-
  The arrays the latents' input projection leaves: the queries, the keys, the values and the gates.
-/
module
public import proofs.«01_k».proof.Proof.Lat
public import proofs.«01_k».proof.Proof.Turn
@[expose] public section
set_option maxRecDepth 16384
noncomputable section
namespace Cert.Kernel3Ideal.Lat
open Cert.Kernel3Ideal Cert.Kernel3Ideal.Gen Idealize.ShloMosaic.TcCoe Idealize.SL.Sem
open Idealize.ShloMosaic
open Idealize.ShloMosaic.Pipeline (Dat)
open scoped BigOperators

variable (m : (ℓ : Loc nD τ sig) → Buf (Elt Ideal) ℓ)

/-- The arrays the host prepares are the arguments, reshaped. -/
theorem host_mod (c : Dev nD) : V m c main_v44 = shapeCast S16x1x3072 (m ((c : Thread nD τ).loc main_arg1)) shapeCasts_S16x3072_S16x1x3072 := by
  unfold V hostOps0
  after_results_simp
  rfl
theorem host_norm (c : Dev nD) : V m c main_v45 = shapeCast S1x1024 (m ((c : Thread nD τ).loc main_arg2)) shapeCasts_S1024_S1x1024 := by
  unfold V hostOps0
  after_results_simp
  rfl
theorem host_weight (c : Dev nD) : V m c main_v46 = truncf (F := Ideal) .bf16 (m ((c : Thread nD τ).loc main_arg3)) bitsLt_bf16_f32 := by
  unfold V hostOps0
  after_results_simp
theorem host_gain (c : Dev nD) : V m c main_v3 = shapeCast S1x128 (m ((c : Thread nD τ).loc main_arg5)) shapeCasts_S128_S1x128 := by
  unfold V hostOps0
  after_results_simp
  rfl
theorem mod_apply (c : Dev nD) (r : Fin 16) (j : Fin 3072) : V m c main_v44 (ix3 r 0 j) = m ((c : Thread nD τ).loc main_arg1) (ix2 r j) := by
  rw [host_mod]
  pointwise []
theorem norm_apply (c : Dev nD) (j : Fin 1024) : V m c main_v45 (ix2 0 j) = m ((c : Thread nD τ).loc main_arg2) (ix1 j) := by
  rw [host_norm]
  pointwise []
theorem weight_apply (c : Dev nD) (k : Fin 1024) (j : Fin 5120) : V m c main_v46 (ix2 k j) = m ((c : Thread nD τ).loc main_arg3) (ix2 k j) := by
  rw [host_weight]
  pointwise []
theorem gain_apply (c : Dev nD) (j : Fin 128) : V m c main_v3 (ix2 0 j) = m ((c : Thread nD τ).loc main_arg5) (ix1 j) := by
  rw [host_gain]
  pointwise []
/-- The gains of the queries carry the factor of the scores. -/
theorem query_gain_apply (c : Dev nD) (j : Fin 128) : V m c main_v2 (ix2 0 j) = (show EReal from m ((c : Thread nD τ).loc main_arg4) (ix1 j)) * Rows.queryGain := by
  unfold V hostOps0
  after_results_simp
  pointwise []

/-- The cosine of a lane's angle in row `t`. -/
def cosOf (t : ℕ) (j : Fin 128) : EReal := Ideal.cos (Rows.laneAngle t j.val)

/-- Its sine, negated for the first half of an axis. -/
def sinOf (t : ℕ) (j : Fin 128) : EReal := if j.val % 64 < 32 then -Ideal.sin (Rows.laneAngle t j.val) else Ideal.sin (Rows.laneAngle t j.val)

theorem laneAngle_line {t j f : ℕ} (h : j < 64) (hf : j % 32 = f) : Rows.laneAngle t j = Rows.angle (t / 64) f := by
  have h0 : j / 64 = 0 := by omega
  unfold Rows.laneAngle
  rw [h0, hf]
  rfl

theorem laneAngle_column {t j f : ℕ} (h : 64 ≤ j) (hf : j % 32 = f) : Rows.laneAngle t j = Rows.angle (t % 64) f := by
  have h0 : ¬ j / 64 < 1 := by omega
  unfold Rows.laneAngle Rows.place
  rw [if_neg h0, hf]

theorem cos_apply (c : Dev nD) (t : Fin 8192) (j : Fin 128) : V m c main_v36 (ix2 t j) = cosOf t.val j := by
  have hj := j.isLt
  unfold V hostOps0
  after_results_simp
  pointwise []
  after_results_simp
  pointwise []
  unfold cosOf
  split
  · rw [laneAngle_line (f := j.val) (by omega) (by omega)]
    rfl
  · split
    · rw [laneAngle_line (f := j.val - 32) (by omega) (by omega)]
      rfl
    · split
      · rw [laneAngle_column (f := j.val - 32 - 32) (by omega) (by omega)]
        rfl
      · rw [laneAngle_column (f := j.val - 32 - 32 - 32) (by omega) (by omega)]
        rfl

theorem sin_apply (c : Dev nD) (t : Fin 8192) (j : Fin 128) : V m c main_v43 (ix2 t j) = sinOf t.val j := by
  have hj := j.isLt
  unfold V hostOps0
  after_results_simp
  pointwise []
  after_results_simp
  pointwise []
  unfold sinOf
  split
  · rw [if_pos (by omega), laneAngle_line (f := j.val) (by omega) (by omega)]
    rfl
  · split
    · rw [if_neg (by omega), laneAngle_line (f := j.val - 32) (by omega) (by omega)]
      rfl
    · split
      · rw [if_pos (by omega), laneAngle_column (f := j.val - 32 - 32) (by omega) (by omega)]
        rfl
      · rw [if_neg (by omega), laneAngle_column (f := j.val - 32 - 32 - 32) (by omega) (by omega)]
        rfl

/-- Rolling the head by 32 lanes either way and signing the sines is the turn. -/
theorem turned_eq (y : Fin 128 → EReal) (t : ℕ) (j : Fin 128) : turned y (cosOf t) (sinOf t) j = Rows.rope y t j := by
  have hj := j.isLt
  unfold turned Rows.rope cosOf sinOf
  rw [lane_eq]
  by_cases h : j.val % 64 < 32
  · rw [if_pos h, if_pos h, if_pos (by omega), mul_neg, ← sub_eq_add_neg]
    refine congrArg₂ _ ?_ ?_
    · refine congrArg₂ _ (congrArg y (Fin.ext ?_)) rfl
      show j.val = j.val / 64 * 64 + j.val % 32
      omega
    · refine congrArg₂ _ (congrArg y (Fin.ext ?_)) rfl
      show (j.val + 128 - 96) % 128 = j.val / 64 * 64 + 32 + j.val % 32
      omega
  · rw [if_neg h, if_neg h, if_neg (by omega), add_comm]
    refine congrArg₂ _ ?_ ?_
    · refine congrArg₂ _ (congrArg y (Fin.ext ?_)) rfl
      show (j.val + 128 - 32) % 128 = j.val / 64 * 64 + j.val % 32
      omega
    · refine congrArg₂ _ (congrArg y (Fin.ext ?_)) rfl
      show j.val = j.val / 64 * 64 + 32 + j.val % 32
      omega

/-- Where the blocks lie: a point is a batch and a stretch of 512 rows. -/
theorem places0 : ∀ t : Fin grid0.N, win0_0.index t 0 = t.val / 16 ∧ win0_0.index t 1 = t.val % 16 ∧ win0_0.index t 2 = 0 := by decide +kernel
theorem places1 : ∀ t : Fin grid0.N, win0_1.index t 0 = t.val / 16 ∧ win0_1.index t 1 = 0 ∧ win0_1.index t 2 = 0 := by decide +kernel
theorem places2 : ∀ t : Fin grid0.N, win0_2.index t 0 = 0 ∧ win0_2.index t 1 = 0 := by decide +kernel
theorem places3 : ∀ t : Fin grid0.N, win0_3.index t 0 = 0 ∧ win0_3.index t 1 = 0 := by decide +kernel
theorem places4 : ∀ t : Fin grid0.N, win0_4.index t 0 = 0 ∧ win0_4.index t 1 = 0 := by decide +kernel
theorem places5 : ∀ t : Fin grid0.N, win0_5.index t 0 = 0 ∧ win0_5.index t 1 = 0 := by decide +kernel
theorem places6 : ∀ t : Fin grid0.N, win0_6.index t 0 = t.val % 16 ∧ win0_6.index t 1 = 0 := by decide +kernel
theorem places7 : ∀ t : Fin grid0.N, win0_7.index t 0 = t.val % 16 ∧ win0_7.index t 1 = 0 := by decide +kernel
theorem places8 : ∀ t : Fin grid0.N, win0_8.index t 0 = t.val / 16 ∧ win0_8.index t 1 = t.val % 16 ∧ win0_8.index t 2 = 0 := by decide +kernel
theorem places9 : ∀ t : Fin grid0.N, win0_9.index t 0 = t.val / 16 ∧ win0_9.index t 1 = t.val % 16 ∧ win0_9.index t 2 = 0 := by decide +kernel
theorem places10 : ∀ t : Fin grid0.N, win0_10.index t 0 = t.val / 16 ∧ win0_10.index t 1 = t.val % 16 ∧ win0_10.index t 2 = 0 := by decide +kernel
theorem places11 : ∀ t : Fin grid0.N, win0_11.index t 0 = t.val / 16 ∧ win0_11.index t 1 = t.val % 16 ∧ win0_11.index t 2 = 0 := by decide +kernel

theorem point_lt (t : Fin cfg0.N) : t.val < 128 := lt_of_lt_of_eq t.isLt Gen.N_0

/-- The batch of a point. -/
abbrev bOf (t : Fin cfg0.N) : Fin 8 := ⟨t.val / 16, by have := point_lt t; omega⟩

/-- Row `r` of a point's block, in the whole array. -/
abbrev sOf (t : Fin cfg0.N) (r : Fin 512) : Fin 8192 := ⟨t.val % 16 * 512 + r.val, by have := point_lt t; have := r.isLt; omega⟩

set_option backward.isDefEq.respectTransparency false in
theorem block0 (c : Dev nD) (t : Fin cfg0.N) (r : Fin 512) (k : Fin 1024) :
    iblk m c 0 t (ix3 0 r k) = m ((c : Thread nD τ).loc main_arg0) (ix3 (bOf t) (sOf t r) k) := by
  obtain ⟨h0, h1, h2⟩ := places0 t
  show m ((c : Thread nD τ).loc main_arg0) ((win0_0.rect t).emb (ix3 0 r k)) = _
  refine congrArg _ (funext fun a => Fin.ext ?_)
  refine (Pipeline.Window.rect_emb_val win0_0 t _ a).trans ?_
  fin_cases a
  · show win0_0.index t 0 * 1 + 0 = t.val / 16
    omega
  · show win0_0.index t 1 * 512 + r.val = t.val % 16 * 512 + r.val
    omega
  · show win0_0.index t 2 * 1024 + k.val = k.val
    omega

set_option backward.isDefEq.respectTransparency false in
theorem block1 (c : Dev nD) (t : Fin cfg0.N) (j : Fin 3072) :
    iblk m c 1 t (ix3 0 0 j) = m ((c : Thread nD τ).loc main_arg1) (ix2 ⟨(bOf t).val, by have := (bOf t).isLt; omega⟩ j) := by
  obtain ⟨h0, h1, h2⟩ := places1 t
  rw [← mod_apply m]
  show V m c main_v44 ((win0_1.rect t).emb (ix3 0 0 j)) = _
  refine congrArg _ (funext fun a => Fin.ext ?_)
  refine (Pipeline.Window.rect_emb_val win0_1 t _ a).trans ?_
  fin_cases a
  · show win0_1.index t 0 * 1 + 0 = t.val / 16
    omega
  · show win0_1.index t 1 * 1 + 0 = 0
    omega
  · show win0_1.index t 2 * 3072 + j.val = j.val
    omega

set_option backward.isDefEq.respectTransparency false in
theorem block2 (c : Dev nD) (t : Fin cfg0.N) (j : Fin 1024) :
    iblk m c 2 t (ix2 0 j) = m ((c : Thread nD τ).loc main_arg2) (ix1 j) := by
  obtain ⟨h0, h1⟩ := places2 t
  rw [← norm_apply m]
  show V m c main_v45 ((win0_2.rect t).emb (ix2 0 j)) = _
  refine congrArg _ (funext fun a => Fin.ext ?_)
  refine (Pipeline.Window.rect_emb_val win0_2 t _ a).trans ?_
  fin_cases a
  · show win0_2.index t 0 * 1 + 0 = 0
    omega
  · show win0_2.index t 1 * 1024 + j.val = j.val
    omega

set_option backward.isDefEq.respectTransparency false in
theorem block3 (c : Dev nD) (t : Fin cfg0.N) (k : Fin 1024) (j : Fin 5120) :
    iblk m c 3 t (ix2 k j) = m ((c : Thread nD τ).loc main_arg3) (ix2 k j) := by
  obtain ⟨h0, h1⟩ := places3 t
  rw [← weight_apply m]
  show V m c main_v46 ((win0_3.rect t).emb (ix2 k j)) = _
  refine congrArg _ (funext fun a => Fin.ext ?_)
  refine (Pipeline.Window.rect_emb_val win0_3 t _ a).trans ?_
  fin_cases a
  · show win0_3.index t 0 * 1024 + k.val = k.val
    omega
  · show win0_3.index t 1 * 5120 + j.val = j.val
    omega

set_option backward.isDefEq.respectTransparency false in
theorem block4 (c : Dev nD) (t : Fin cfg0.N) (j : Fin 128) :
    iblk m c 4 t (ix2 0 j) = (show EReal from m ((c : Thread nD τ).loc main_arg4) (ix1 j)) * Rows.queryGain := by
  obtain ⟨h0, h1⟩ := places4 t
  rw [← query_gain_apply m]
  show V m c main_v2 ((win0_4.rect t).emb (ix2 0 j)) = _
  refine congrArg _ (funext fun a => Fin.ext ?_)
  refine (Pipeline.Window.rect_emb_val win0_4 t _ a).trans ?_
  fin_cases a
  · show win0_4.index t 0 * 1 + 0 = 0
    omega
  · show win0_4.index t 1 * 128 + j.val = j.val
    omega

set_option backward.isDefEq.respectTransparency false in
theorem block5 (c : Dev nD) (t : Fin cfg0.N) (j : Fin 128) :
    iblk m c 5 t (ix2 0 j) = m ((c : Thread nD τ).loc main_arg5) (ix1 j) := by
  obtain ⟨h0, h1⟩ := places5 t
  rw [← gain_apply m]
  show V m c main_v3 ((win0_5.rect t).emb (ix2 0 j)) = _
  refine congrArg _ (funext fun a => Fin.ext ?_)
  refine (Pipeline.Window.rect_emb_val win0_5 t _ a).trans ?_
  fin_cases a
  · show win0_5.index t 0 * 1 + 0 = 0
    omega
  · show win0_5.index t 1 * 128 + j.val = j.val
    omega

set_option backward.isDefEq.respectTransparency false in
theorem block6 (c : Dev nD) (t : Fin cfg0.N) (r : Fin 512) (j : Fin 128) :
    iblk m c 6 t (ix2 r j) = cosOf (sOf t r).val j := by
  obtain ⟨h0, h1⟩ := places6 t
  rw [← cos_apply m c]
  show V m c main_v36 ((win0_6.rect t).emb (ix2 r j)) = _
  refine congrArg _ (funext fun a => Fin.ext ?_)
  refine (Pipeline.Window.rect_emb_val win0_6 t _ a).trans ?_
  fin_cases a
  · show win0_6.index t 0 * 512 + r.val = t.val % 16 * 512 + r.val
    omega
  · show win0_6.index t 1 * 128 + j.val = j.val
    omega

set_option backward.isDefEq.respectTransparency false in
theorem block7 (c : Dev nD) (t : Fin cfg0.N) (r : Fin 512) (j : Fin 128) :
    iblk m c 7 t (ix2 r j) = sinOf (sOf t r).val j := by
  obtain ⟨h0, h1⟩ := places7 t
  rw [← sin_apply m c]
  show V m c main_v43 ((win0_7.rect t).emb (ix2 r j)) = _
  refine congrArg _ (funext fun a => Fin.ext ?_)
  refine (Pipeline.Window.rect_emb_val win0_7 t _ a).trans ?_
  fin_cases a
  · show win0_7.index t 0 * 512 + r.val = t.val % 16 * 512 + r.val
    omega
  · show win0_7.index t 1 * 128 + j.val = j.val
    omega

section Result

variable (x : FVec Ideal S8x8192x1024 .f32) (mod : FVec Ideal S16x3072 .f32) (g : FVec Ideal S1024 .f32) (w : FVec Ideal S1024x5120 .f32) (qg kg : FVec Ideal S128 .f32)

/-- Row `s` of batch `b` of the latents, normed, scaled and shifted. -/
def rowOf (b : Fin 8) (s : Fin 8192) : Fin 1024 → EReal :=
  Rows.modulated (fun k => x (ix3 b s k)) (fun k => g (ix1 k)) (fun k => mod (ix2 ⟨b.val, by have := b.isLt; omega⟩ ⟨k.val, by have := k.isLt; omega⟩))
    (fun k => mod (ix2 ⟨b.val, by have := b.isLt; omega⟩ ⟨1024 + k.val, by have := k.isLt; omega⟩))

/-- All queries of the latents. -/
def resultQueries : FVec Ideal S8x8192x2048 .bf16 := fun i =>
  Rows.ropedHeads (by decide) (fun c : Fin 2048 => Rows.dot (rowOf x mod g (i 0) (i 1)) fun k => w (ix2 k ⟨c.val, by have := c.isLt; omega⟩)) (fun l => qg (ix1 l))
    (i 1).val (i 2) * Rows.queryGain

/-- All keys of the latents. -/
def resultKeys : FVec Ideal S8x8192x512 .bf16 := fun i =>
  Rows.ropedHeads (by decide) (fun c : Fin 512 => Rows.dot (rowOf x mod g (i 0) (i 1)) fun k => w (ix2 k ⟨2048 + c.val, by have := c.isLt; omega⟩)) (fun l => kg (ix1 l))
    (i 1).val (i 2)

/-- All values of the latents. -/
def resultValues : FVec Ideal S8x8192x512 .bf16 := fun i =>
  Rows.dot (rowOf x mod g (i 0) (i 1)) fun k => w (ix2 k ⟨2560 + (i 2).val, by have : (i 2).val < 512 := (i 2).isLt; omega⟩)

/-- All gates of the latents. -/
def resultGates : FVec Ideal S8x8192x2048 .bf16 := fun i =>
  Rows.gated (Rows.dot (rowOf x mod g (i 0) (i 1)) fun k => w (ix2 k ⟨3072 + (i 2).val, by have : (i 2).val < 2048 := (i 2).isLt; omega⟩))

end Result

theorem hrow_block (c : Dev nD) (t : Fin cfg0.N) (r : Fin 512) :
    hrow (iblk m c 0 t) (iblk m c 1 t) (iblk m c 2 t) r
      = rowOf (m ((c : Thread nD τ).loc main_arg0)) (m ((c : Thread nD τ).loc main_arg1)) (m ((c : Thread nD τ).loc main_arg2)) (bOf t) (sOf t r) := by
  unfold hrow rowOf
  congr 1
  · funext k
    exact block0 m c t r k
  · funext k
    exact block2 m c t k
  · funext k
    exact block1 m c t _
  · funext k
    exact block1 m c t _

theorem tables_block (c : Dev nD) (t : Fin cfg0.N) (r : Fin 512) :
    (fun i : Fin 128 => iblk m c 6 t (ix2 r i)) = cosOf (sOf t r).val ∧ (fun i : Fin 128 => iblk m c 7 t (ix2 r i)) = sinOf (sOf t r).val :=
  ⟨funext fun i => block6 m c t r i, funext fun i => block7 m c t r i⟩

theorem queries_block (c : Dev nD) (t : Fin cfg0.N) (r : Fin 512) (j : Fin 2048) :
    queries (iblk m c 0 t) (iblk m c 1 t) (iblk m c 2 t) (iblk m c 3 t) (iblk m c 4 t) (iblk m c 6 t) (iblk m c 7 t) r j
      = resultQueries (m ((c : Thread nD τ).loc main_arg0)) (m ((c : Thread nD τ).loc main_arg1)) (m ((c : Thread nD τ).loc main_arg2)) (m ((c : Thread nD τ).loc main_arg3)) (m ((c : Thread nD τ).loc main_arg4)) (ix3 (bOf t) (sOf t r) j) := by
  have hw : ∀ (k : Fin 1024) (j : Fin 5120), iblk m c 3 t (ix2 k j) = _ := block3 m c t
  have hg : (fun i : Fin 128 => iblk m c 4 t (ix2 0 i)) = fun i => (show EReal from m ((c : Thread nD τ).loc main_arg4) (ix1 i)) * Rows.queryGain := funext fun i => block4 m c t i
  unfold queries turnedHeads
  rw [hrow_block, (tables_block m c t r).1, (tables_block m c t r).2, turned_eq, hg, Rows.rope_gain]
  simp only [hw]
  rfl

theorem keys_block (c : Dev nD) (t : Fin cfg0.N) (r : Fin 512) (j : Fin 512) :
    keys (iblk m c 0 t) (iblk m c 1 t) (iblk m c 2 t) (iblk m c 3 t) (iblk m c 5 t) (iblk m c 6 t) (iblk m c 7 t) r j
      = resultKeys (m ((c : Thread nD τ).loc main_arg0)) (m ((c : Thread nD τ).loc main_arg1)) (m ((c : Thread nD τ).loc main_arg2)) (m ((c : Thread nD τ).loc main_arg3)) (m ((c : Thread nD τ).loc main_arg5)) (ix3 (bOf t) (sOf t r) j) := by
  have hw : ∀ (k : Fin 1024) (j : Fin 5120), iblk m c 3 t (ix2 k j) = _ := block3 m c t
  have hg : (fun i : Fin 128 => iblk m c 5 t (ix2 0 i)) = fun i => m ((c : Thread nD τ).loc main_arg5) (ix1 i) := funext fun i => block5 m c t i
  unfold keys turnedHeads
  rw [hrow_block, (tables_block m c t r).1, (tables_block m c t r).2, turned_eq, hg]
  simp only [hw]
  rfl

theorem values_block (c : Dev nD) (t : Fin cfg0.N) (r : Fin 512) (j : Fin 512) :
    values (iblk m c 0 t) (iblk m c 1 t) (iblk m c 2 t) (iblk m c 3 t) r j = resultValues (m ((c : Thread nD τ).loc main_arg0)) (m ((c : Thread nD τ).loc main_arg1)) (m ((c : Thread nD τ).loc main_arg2)) (m ((c : Thread nD τ).loc main_arg3)) (ix3 (bOf t) (sOf t r) j) := by
  unfold values
  rw [hrow_block]
  refine congrArg (Rows.dot _) (funext fun k => ?_)
  exact block3 m c t k _

theorem gates_block (c : Dev nD) (t : Fin cfg0.N) (r : Fin 512) (j : Fin 2048) :
    gates (iblk m c 0 t) (iblk m c 1 t) (iblk m c 2 t) (iblk m c 3 t) r j = resultGates (m ((c : Thread nD τ).loc main_arg0)) (m ((c : Thread nD τ).loc main_arg1)) (m ((c : Thread nD τ).loc main_arg2)) (m ((c : Thread nD τ).loc main_arg3)) (ix3 (bOf t) (sOf t r) j) := by
  unfold gates
  rw [hrow_block]
  refine congrArg Rows.gated (congrArg (Rows.dot _) (funext fun k => ?_))
  exact block3 m c t k _

/-- The queries a point leaves, in the whole array. -/
theorem queries_result (c : Dev nD) (t : Fin cfg0.N) (y : S1x512x2048.Idx) (i : S8x8192x2048.Idx) (v0 : (i 0).val = t.val / 16) (v1 : (i 1).val = t.val % 16 * 512 + (y 1).val)
    (v2 : (i 2).val = (y 2).val) :
    out0_8 (F := Ideal) (iblk m c 0 t) (iblk m c 1 t) (iblk m c 2 t) (iblk m c 3 t) (iblk m c 4 t) (iblk m c 5 t) (iblk m c 6 t) (iblk m c 7 t) y = resultQueries (m ((c : Thread nD τ).loc main_arg0)) (m ((c : Thread nD τ).loc main_arg1)) (m ((c : Thread nD τ).loc main_arg2)) (m ((c : Thread nD τ).loc main_arg3)) (m ((c : Thread nD τ).loc main_arg4)) i := by
  rw [out_queries]
  refine (queries_block m c t (y 1) (y 2)).trans (congrArg (resultQueries _ _ _ _ _) (Eq.symm ?_))
  refine (eq_ix3 (n0 := 8) (n1 := 8192) (n2 := 2048) i).trans ?_
  congr 1
  · exact Fin.ext v0
  · exact Fin.ext v1
  · exact Fin.ext v2

/-- The queries after the run. -/
theorem final_queries (c : Dev nD) : (dats m 0 c).arrAt 8 cfg0.N = resultQueries (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  obtain ⟨h0, h1, h2⟩ := places8 t
  rw [after0_8]
  have y0 : (y 0).val < 1 := (y 0).isLt
  refine (cast_eq _ _).trans ?_
  refine queries_result m c t _ _ ?_ ?_ ?_
  · refine (Pipeline.Window.rect_emb_val win0_8 t y 0).trans ?_
    show win0_8.index t 0 * 1 + (y 0).val = t.val / 16
    omega
  · refine (Pipeline.Window.rect_emb_val win0_8 t y 1).trans ?_
    show win0_8.index t 1 * 512 + (y 1).val = t.val % 16 * 512 + (y 1).val
    omega
  · refine (Pipeline.Window.rect_emb_val win0_8 t y 2).trans ?_
    show win0_8.index t 2 * 2048 + (y 2).val = (y 2).val
    omega

/-- The keys a point leaves, in the whole array. -/
theorem keys_result (c : Dev nD) (t : Fin cfg0.N) (y : S1x512x512.Idx) (i : S8x8192x512.Idx) (v0 : (i 0).val = t.val / 16) (v1 : (i 1).val = t.val % 16 * 512 + (y 1).val)
    (v2 : (i 2).val = (y 2).val) :
    out0_9 (F := Ideal) (iblk m c 0 t) (iblk m c 1 t) (iblk m c 2 t) (iblk m c 3 t) (iblk m c 4 t) (iblk m c 5 t) (iblk m c 6 t) (iblk m c 7 t) y = resultKeys (m ((c : Thread nD τ).loc main_arg0)) (m ((c : Thread nD τ).loc main_arg1)) (m ((c : Thread nD τ).loc main_arg2)) (m ((c : Thread nD τ).loc main_arg3)) (m ((c : Thread nD τ).loc main_arg5)) i := by
  rw [out_keys]
  refine (keys_block m c t (y 1) (y 2)).trans (congrArg (resultKeys _ _ _ _ _) (Eq.symm ?_))
  refine (eq_ix3 (n0 := 8) (n1 := 8192) (n2 := 512) i).trans ?_
  congr 1
  · exact Fin.ext v0
  · exact Fin.ext v1
  · exact Fin.ext v2

/-- The keys after the run. -/
theorem final_keys (c : Dev nD) : (dats m 0 c).arrAt 9 cfg0.N = resultKeys (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 9 _ (by decide +kernel) fun t hf y => ?_
  obtain ⟨h0, h1, h2⟩ := places9 t
  rw [after0_9]
  have y0 : (y 0).val < 1 := (y 0).isLt
  refine (cast_eq _ _).trans ?_
  refine keys_result m c t _ _ ?_ ?_ ?_
  · refine (Pipeline.Window.rect_emb_val win0_9 t y 0).trans ?_
    show win0_9.index t 0 * 1 + (y 0).val = t.val / 16
    omega
  · refine (Pipeline.Window.rect_emb_val win0_9 t y 1).trans ?_
    show win0_9.index t 1 * 512 + (y 1).val = t.val % 16 * 512 + (y 1).val
    omega
  · refine (Pipeline.Window.rect_emb_val win0_9 t y 2).trans ?_
    show win0_9.index t 2 * 512 + (y 2).val = (y 2).val
    omega

/-- The values a point leaves, in the whole array. -/
theorem values_result (c : Dev nD) (t : Fin cfg0.N) (y : S1x512x512.Idx) (i : S8x8192x512.Idx) (v0 : (i 0).val = t.val / 16) (v1 : (i 1).val = t.val % 16 * 512 + (y 1).val)
    (v2 : (i 2).val = (y 2).val) :
    out0_10 (F := Ideal) (iblk m c 0 t) (iblk m c 1 t) (iblk m c 2 t) (iblk m c 3 t) (iblk m c 4 t) (iblk m c 5 t) (iblk m c 6 t) (iblk m c 7 t) y = resultValues (m ((c : Thread nD τ).loc main_arg0)) (m ((c : Thread nD τ).loc main_arg1)) (m ((c : Thread nD τ).loc main_arg2)) (m ((c : Thread nD τ).loc main_arg3)) i := by
  rw [out_values]
  refine (values_block m c t (y 1) (y 2)).trans (congrArg (resultValues _ _ _ _) (Eq.symm ?_))
  refine (eq_ix3 (n0 := 8) (n1 := 8192) (n2 := 512) i).trans ?_
  congr 1
  · exact Fin.ext v0
  · exact Fin.ext v1
  · exact Fin.ext v2

/-- The values after the run. -/
theorem final_values (c : Dev nD) : (dats m 0 c).arrAt 10 cfg0.N = resultValues (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t hf y => ?_
  obtain ⟨h0, h1, h2⟩ := places10 t
  rw [after0_10]
  have y0 : (y 0).val < 1 := (y 0).isLt
  refine (cast_eq _ _).trans ?_
  refine values_result m c t _ _ ?_ ?_ ?_
  · refine (Pipeline.Window.rect_emb_val win0_10 t y 0).trans ?_
    show win0_10.index t 0 * 1 + (y 0).val = t.val / 16
    omega
  · refine (Pipeline.Window.rect_emb_val win0_10 t y 1).trans ?_
    show win0_10.index t 1 * 512 + (y 1).val = t.val % 16 * 512 + (y 1).val
    omega
  · refine (Pipeline.Window.rect_emb_val win0_10 t y 2).trans ?_
    show win0_10.index t 2 * 512 + (y 2).val = (y 2).val
    omega

/-- The gates a point leaves, in the whole array. -/
theorem gates_result (c : Dev nD) (t : Fin cfg0.N) (y : S1x512x2048.Idx) (i : S8x8192x2048.Idx) (v0 : (i 0).val = t.val / 16) (v1 : (i 1).val = t.val % 16 * 512 + (y 1).val)
    (v2 : (i 2).val = (y 2).val) :
    out0_11 (F := Ideal) (iblk m c 0 t) (iblk m c 1 t) (iblk m c 2 t) (iblk m c 3 t) (iblk m c 4 t) (iblk m c 5 t) (iblk m c 6 t) (iblk m c 7 t) y = resultGates (m ((c : Thread nD τ).loc main_arg0)) (m ((c : Thread nD τ).loc main_arg1)) (m ((c : Thread nD τ).loc main_arg2)) (m ((c : Thread nD τ).loc main_arg3)) i := by
  rw [out_gates]
  refine (gates_block m c t (y 1) (y 2)).trans (congrArg (resultGates _ _ _ _) (Eq.symm ?_))
  refine (eq_ix3 (n0 := 8) (n1 := 8192) (n2 := 2048) i).trans ?_
  congr 1
  · exact Fin.ext v0
  · exact Fin.ext v1
  · exact Fin.ext v2

/-- The gates after the run. -/
theorem final_gates (c : Dev nD) : (dats m 0 c).arrAt 11 cfg0.N = resultGates (m ((c : Thread nD τ).loc main_arg0)) (m ((c : Thread nD τ).loc main_arg1)) (m ((c : Thread nD τ).loc main_arg2)) (m ((c : Thread nD τ).loc main_arg3)) := by
  refine (dats m 0 c).arrAt_eq_of_covers 11 _ (by decide +kernel) fun t hf y => ?_
  obtain ⟨h0, h1, h2⟩ := places11 t
  rw [after0_11]
  have y0 : (y 0).val < 1 := (y 0).isLt
  refine (cast_eq _ _).trans ?_
  refine gates_result m c t _ _ ?_ ?_ ?_
  · refine (Pipeline.Window.rect_emb_val win0_11 t y 0).trans ?_
    show win0_11.index t 0 * 1 + (y 0).val = t.val / 16
    omega
  · refine (Pipeline.Window.rect_emb_val win0_11 t y 1).trans ?_
    show win0_11.index t 1 * 512 + (y 1).val = t.val % 16 * 512 + (y 1).val
    omega
  · refine (Pipeline.Window.rect_emb_val win0_11 t y 2).trans ?_
    show win0_11.index t 2 * 2048 + (y 2).val = (y 2).val
    omega
end Cert.Kernel3Ideal.Lat
end
-- ==== Proof.RefLat.lean ====
/-
  The reference's queries, keys, values and gates of the latents, entry by entry.
-/
module
public import proofs.«01_k».proof.Proof.Gen.Reference3Ideal.Read
public import proofs.«01_k».proof.Proof.Turn
public import Idealize.ShloMosaic.Lib.Pointwise
@[expose] public section
set_option maxRecDepth 16384
noncomputable section
namespace Cert.Reference3Ideal.Lat
open Cert.Reference3Ideal Cert.Reference3Ideal.Read Idealize.ShloMosaic.TcCoe Idealize.SL.Sem
open Idealize.ShloMosaic
open scoped BigOperators
variable (x : FVec Ideal S8x8192x1024 .f32) (mod : FVec Ideal S16x3072 .f32) (g : FVec Ideal S1024 .f32) (w : FVec Ideal S1024x5120 .f32) (qg kg : FVec Ideal S128 .f32)

/-- Row `s` of batch `b` of the latents, normed, scaled and shifted. -/
def rowOf (b : Fin 8) (s : Fin 8192) : Fin 1024 → EReal :=
  Rows.modulated (fun k => x (ix3 b s k)) (fun k => g (ix1 k)) (fun k => mod (ix2 ⟨b.val, by have := b.isLt; omega⟩ ⟨k.val, by have := k.isLt; omega⟩))
    (fun k => mod (ix2 ⟨b.val, by have := b.isLt; omega⟩ ⟨1024 + k.val, by have := k.isLt; omega⟩))

/-- The projected row. -/
theorem row_apply (b : Fin 8) (s : Fin 8192) (c : Fin 5120) : val_main_v24 (F := Ideal) x mod g w (ix3 b s c) = Rows.dot (rowOf x mod g b s) fun k => w (ix2 k c) := by
  simp only [Rows.dot, rowOf, ← Rows.modulated_assoc]
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0, val_main_cst_1, val_main_cst_2]
  rfl

/-- A row's line on the grid. -/
theorem line_apply : ∀ t : Fin 8192, val_main_v30 (F := Ideal) (ix1 t) = BitVec.ofNat 32 (t.val / 64) := by decide +kernel

/-- A row's column on the grid. -/
theorem column_apply : ∀ t : Fin 8192, val_main_v31 (F := Ideal) (ix1 t) = BitVec.ofNat 32 (t.val % 64) := by decide +kernel

theorem cos_apply (s : Fin 8192) (a : Fin 2) (f : Fin 32) : val_main_v51 (F := Ideal) (ix3 s a f) = Ideal.cos (Rows.angle (Rows.place s.val a.val) f.val) := by
  pointwise [val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_cst_4, val_main_cst_5, val_main_cst_6, val_main_cst_7]
  rw [line_apply, column_apply]
  unfold Rows.angle Rows.place
  split <;> rfl

theorem sin_apply (s : Fin 8192) (a : Fin 2) (f : Fin 32) : val_main_v52 (F := Ideal) (ix3 s a f) = Ideal.sin (Rows.angle (Rows.place s.val a.val) f.val) := by
  pointwise [val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_cst_4, val_main_cst_5, val_main_cst_6, val_main_cst_7]
  rw [line_apply, column_apply]
  unfold Rows.angle Rows.place
  split <;> rfl

/-- A head of the queries, normed. -/
theorem query_head (b : Fin 8) (s : Fin 8192) (h : Fin 16) (j : Fin 128) : val_main_v66 (F := Ideal) x mod g w qg (ix4 b s h j)
    = Rows.headNormed (fun i => val_main_v24 (F := Ideal) x mod g w (ix3 b s ⟨h.val * 128 + i.val, by have := h.isLt; have := i.isLt; omega⟩)) (fun i => qg (ix1 i)) j := by
  pointwise [val_main_v53, val_main_v54, val_main_v55, val_main_v56, val_main_v57, val_main_v58, val_main_v59, val_main_v60, val_main_v61, val_main_v62, val_main_v63, val_main_v64, val_main_v65, val_main_v66, val_main_v25, val_main_cst_8, val_main_cst_9, val_main_cst_10]
  rfl

/-- A head of the keys, normed. -/
theorem key_head (b : Fin 8) (s : Fin 8192) (h : Fin 4) (j : Fin 128) : val_main_v107 (F := Ideal) x mod g w kg (ix4 b s h j)
    = Rows.headNormed (fun i => val_main_v24 (F := Ideal) x mod g w (ix3 b s ⟨2048 + (h.val * 128 + i.val), by have := h.isLt; have := i.isLt; omega⟩)) (fun i => kg (ix1 i)) j := by
  pointwise [val_main_v94, val_main_v95, val_main_v96, val_main_v97, val_main_v98, val_main_v99, val_main_v100, val_main_v101, val_main_v102, val_main_v103, val_main_v104, val_main_v105, val_main_v106, val_main_v107, val_main_v26, val_main_cst_12, val_main_cst_13, val_main_cst_14]
  rfl

/-- A head of the queries, turned. -/
theorem query_turned (b : Fin 8) (s : Fin 8192) (h : Fin 16) (j : Fin 128) : val_main_v91 (F := Ideal) x mod g w qg (ix4 b s h j)
    = Rows.rope (fun i => val_main_v66 (F := Ideal) x mod g w qg (ix4 b s h i)) s.val j := by
  pointwise [val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91]
  simp only [cos_apply, sin_apply]
  unfold Rows.rope Rows.laneAngle
  generalize val_main_v66 (F := Ideal) x mod g w qg = y
  split <;> rfl

/-- A head of the keys, turned. -/
theorem key_turned (b : Fin 8) (s : Fin 8192) (h : Fin 4) (j : Fin 128) : val_main_v132 (F := Ideal) x mod g w kg (ix4 b s h j)
    = Rows.rope (fun i => val_main_v107 (F := Ideal) x mod g w kg (ix4 b s h i)) s.val j := by
  pointwise [val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132]
  simp only [cos_apply, sin_apply]
  unfold Rows.rope Rows.laneAngle
  generalize val_main_v107 (F := Ideal) x mod g w kg = y
  split <;> rfl

/-- A normed head of the query, from the projected row. -/
theorem query_heads (b : Fin 8) (s : Fin 8192) (h : Fin 16) : (fun i => val_main_v66 (F := Ideal) x mod g w qg (ix4 b s h i))
    = Rows.headNormed (fun i => Rows.dot (rowOf x mod g b s) fun k => w (ix2 k ⟨h.val * 128 + i.val, by have := h.isLt; have := i.isLt; omega⟩)) (fun i => qg (ix1 i)) := by
  funext j
  rw [query_head]
  refine congrArg (fun y => Rows.headNormed y _ j) (funext fun i => ?_)
  exact row_apply x mod g w b s _

/-- A normed head of the key, from the projected row. -/
theorem key_heads (b : Fin 8) (s : Fin 8192) (h : Fin 4) : (fun i => val_main_v107 (F := Ideal) x mod g w kg (ix4 b s h i))
    = Rows.headNormed (fun i => Rows.dot (rowOf x mod g b s) fun k => w (ix2 k ⟨2048 + (h.val * 128 + i.val), by have := h.isLt; have := i.isLt; omega⟩)) (fun i => kg (ix1 i)) := by
  funext j
  rw [key_head]
  refine congrArg (fun y => Rows.headNormed y _ j) (funext fun i => ?_)
  exact row_apply x mod g w b s _

/-- An entry of the queries is a lane of a head. -/
theorem queries_at (b : Fin 8) (s : Fin 8192) (c : Fin 2048) : val_main_v134 (F := Ideal) x mod g w qg (ix3 b s c)
    = val_main_v91 (F := Ideal) x mod g w qg (ix4 b s ⟨c.val / 128, by have := c.isLt; omega⟩ ⟨c.val % 128, Nat.mod_lt _ (by decide)⟩) * Rows.queryGain := by
  rw [val_main_v134_apply, val_main_v133_apply, val_main_v93_apply, val_main_v92_apply]
  generalize val_main_v91 (F := Ideal) x mod g w qg = y
  refine congrArg (fun a : EReal => a * Rows.queryGain) (congrArg y (funext fun a => Fin.ext ?_))
  have hb := b.isLt
  have hs := s.isLt
  have hc := c.isLt
  fin_cases a
  · show ((b.val * 8192 + s.val) * 2048 + c.val) / 16777216 = b.val
    omega
  · show ((b.val * 8192 + s.val) * 2048 + c.val) / 2048 % 8192 = s.val
    omega
  · show ((b.val * 8192 + s.val) * 2048 + c.val) / 128 % 16 = c.val / 128
    omega
  · show ((b.val * 8192 + s.val) * 2048 + c.val) % 128 = c.val % 128
    omega

/-- An entry of the keys is a lane of a head. -/
theorem keys_at (b : Fin 8) (s : Fin 8192) (c : Fin 512) : val_main_v136 (F := Ideal) x mod g w kg (ix3 b s c)
    = val_main_v132 (F := Ideal) x mod g w kg (ix4 b s ⟨c.val / 128, by have := c.isLt; omega⟩ ⟨c.val % 128, Nat.mod_lt _ (by decide)⟩) := by
  rw [val_main_v136_apply, val_main_v135_apply]
  generalize val_main_v132 (F := Ideal) x mod g w kg = y
  refine congrArg y (funext fun a => Fin.ext ?_)
  have hb := b.isLt
  have hs := s.isLt
  have hc := c.isLt
  fin_cases a
  · show ((b.val * 8192 + s.val) * 512 + c.val) / 4194304 = b.val
    omega
  · show ((b.val * 8192 + s.val) * 512 + c.val) / 512 % 8192 = s.val
    omega
  · show ((b.val * 8192 + s.val) * 512 + c.val) / 128 % 4 = c.val / 128
    omega
  · show ((b.val * 8192 + s.val) * 512 + c.val) % 128 = c.val % 128
    omega

/-- Every entry of the queries. -/
theorem queries_apply (b : Fin 8) (s : Fin 8192) (c : Fin 2048) : val_main_v134 (F := Ideal) x mod g w qg (ix3 b s c)
    = Rows.ropedHeads (by decide) (fun c : Fin 2048 => Rows.dot (rowOf x mod g b s) fun k => w (ix2 k ⟨c.val, by have := c.isLt; omega⟩)) (fun i => qg (ix1 i)) s.val c
        * Rows.queryGain := by
  rw [queries_at, query_turned, query_heads]
  rfl

/-- Every entry of the keys. -/
theorem keys_apply (b : Fin 8) (s : Fin 8192) (c : Fin 512) : val_main_v136 (F := Ideal) x mod g w kg (ix3 b s c)
    = Rows.ropedHeads (by decide) (fun c : Fin 512 => Rows.dot (rowOf x mod g b s) fun k => w (ix2 k ⟨2048 + c.val, by have := c.isLt; omega⟩)) (fun i => kg (ix1 i)) s.val c := by
  rw [keys_at, key_turned, key_heads]
  rfl

/-- Every entry of the values. -/
theorem values_apply (b : Fin 8) (s : Fin 8192) (c : Fin 512) : val_main_v137 (F := Ideal) x mod g w (ix3 b s c)
    = Rows.dot (rowOf x mod g b s) fun k => w (ix2 k ⟨2560 + c.val, by have := c.isLt; omega⟩) := by
  pointwise [val_main_v27, val_main_v137]
  rw [row_apply]

/-- Every entry of the gates. -/
theorem gates_apply (b : Fin 8) (s : Fin 8192) (c : Fin 2048) : val_main_v139 (F := Ideal) x mod g w (ix3 b s c)
    = Rows.gated (Rows.dot (rowOf x mod g b s) fun k => w (ix2 k ⟨3072 + c.val, by have := c.isLt; omega⟩)) := by
  unfold Rows.gated
  rw [← row_apply, zero_sub]
  pointwise [val_main_v28, val_main_v138, val_main_v139, val_main_call2_cst, val_main_call2_cst_0, val_main_call2_v0, val_main_call2_v1, val_main_call2_v2, val_main_call2_v3, val_main_call2_v4, val_main_call2_v5]

end Cert.Reference3Ideal.Lat
end
-- ==== Proof.Ctx.lean ====
/-
  The arrays the context's input projection leaves: the keys, normed head by head, and the values.
-/
module
public import proofs.«01_k».proof.Proof.Gen.Kernel4Ideal.Value
public import proofs.«01_k».proof.Proof.Rows
public import proofs.«01_k».proof.Proof.Tiles
public import Idealize.ShloMosaic.Lib.Pointwise
public import Idealize.ShloMosaic.Lib.Pipeline.ValueKit
public import Idealize.ShloMosaic.Lib.MatmulPlain
@[expose] public section
set_option maxRecDepth 16384
noncomputable section
namespace Cert.Kernel4Ideal.Ctx
open Cert.Kernel4Ideal Cert.Kernel4Ideal.Gen Idealize.ShloMosaic.TcCoe Idealize.SL.Sem
open Idealize.ShloMosaic
open Idealize.ShloMosaic.Pipeline (Dat)
open scoped BigOperators

section Block

variable (x0 : Vec Ideal S1x256x1024 .f32) (x1 : Vec Ideal S1x1x3072 .f32) (x2 : Vec Ideal S1x1024 .f32) (x3 : Vec Ideal S1024x5120 .bf16) (x4 : Vec Ideal S1x128 .f32)

/-- Row `r` of a block, normed, scaled and shifted. -/
def hrow (r : Fin 256) : Fin 1024 → EReal :=
  Rows.modulated (fun k => x0 (ix3 0 r k)) (fun k => x2 (ix2 0 k)) (fun k => x1 (ix3 0 0 ⟨k.val, by have := k.isLt; omega⟩))
    (fun k => x1 (ix3 0 0 ⟨1024 + k.val, by have := k.isLt; omega⟩))

/-- The keys of a block. -/
def keys (r : Fin 256) (c : Fin 512) : EReal :=
  Rows.normedHeads (by decide) (fun c : Fin 512 => Rows.dot (hrow x0 x1 x2 r) fun k => x3 (ix2 k ⟨2048 + c.val, by have := c.isLt; omega⟩)) (fun i => x4 (ix2 0 i)) c

/-- The values of a block. -/
def values (r : Fin 256) (c : Fin 512) : EReal :=
  Rows.dot (hrow x0 x1 x2 r) fun k => x3 (ix2 k ⟨2560 + c.val, by have := c.isLt; omega⟩)

theorem keys_at {off : ℕ} (ho : off % 128 = 0) (hl : off + 128 ≤ 512) (r : Fin 256) (j : Fin 128) (h : off + j.val < 512) :
    keys x0 x1 x2 x3 x4 r ⟨off + j.val, h⟩
      = Rows.headNormed (fun i => Rows.dot (hrow x0 x1 x2 r) fun k => x3 (ix2 k ⟨2048 + (off + i.val), by have := i.isLt; omega⟩)) (fun i => x4 (ix2 0 i)) j :=
  Rows.normedHeads_at _ _ _ ho hl j

theorem out_keys : out0_5 (F := Ideal) x0 x1 x2 x3 x4 = fun y => keys x0 x1 x2 x3 x4 (y 1) (y 2) := by
  funext y
  unfold out0_5
  refine View.canon_apply_of_pieces (Val := Elt Ideal) (S := S1x256x512) (e := .bf16) (fun y => keys x0 x1 x2 x3 x4 (y 1) (y 2)) _ (fun p hp => ?_) y (cover0_5 _ _ _ _ y)
  simp only [List.mem_cons, List.not_mem_nil, or_false] at hp
  rcases hp with rfl | rfl | rfl | rfl
  all_goals
    refine Tiles.piece_cols (by decide) (by decide) _ (keys x0 x1 x2 x3 x4) fun r j => ?_
    refine Eq.trans ?_ (keys_at x0 x1 x2 x3 x4 (by decide) (by decide) r j _).symm
    pointwise [k0_pay1, k0_pay2, k0_pay3, k0_pay4, k0_pay5, k0_pay6, k0_pay7, k0_pay8, k0_pay9, k0_pay10, k0_pay11, k0_pay12, k0_pay13, k0_pay14]
    try simp only [Nat.zero_add]
    rfl

theorem out_values : out0_6 (F := Ideal) x0 x1 x2 x3 x4 = fun y => values x0 x1 x2 x3 (y 1) (y 2) := by
  funext y
  unfold out0_6
  rw [View.canon_cons_unit_lit _ _ _ (by decide)]
  refine (congrArg _ (Tiles.eq_plane (R := 256) (n := 512) y)).trans ?_
  generalize y 1 = r
  generalize y 2 = j
  pointwise [k0_pay3, k0_pay4]
  rfl

end Block

variable (m : (ℓ : Loc nD τ sig) → Buf (Elt Ideal) ℓ)

/-- The arrays the host prepares are the arguments, reshaped. -/
theorem host0 (c : Dev nD) : V m c main_v0 = shapeCast S16x1x3072 (m ((c : Thread nD τ).loc main_arg1)) shapeCasts_S16x3072_S16x1x3072 := by
  unfold V hostOps0
  after_results_simp
  rfl
theorem host1 (c : Dev nD) : V m c main_v1 = shapeCast S1x1024 (m ((c : Thread nD τ).loc main_arg2)) shapeCasts_S1024_S1x1024 := by
  unfold V hostOps0
  after_results_simp
  rfl
theorem host2 (c : Dev nD) : V m c main_v2 = truncf (F := Ideal) .bf16 (m ((c : Thread nD τ).loc main_arg3)) bitsLt_bf16_f32 := by
  unfold V hostOps0
  after_results_simp
theorem host3 (c : Dev nD) : V m c main_v3 = shapeCast S1x128 (m ((c : Thread nD τ).loc main_arg4)) shapeCasts_S128_S1x128 := by
  unfold V hostOps0
  after_results_simp
  rfl
theorem mod_apply (c : Dev nD) (r : Fin 16) (j : Fin 3072) : V m c main_v0 (ix3 r 0 j) = m ((c : Thread nD τ).loc main_arg1) (ix2 r j) := by
  rw [host0]
  pointwise []
theorem norm_apply (c : Dev nD) (j : Fin 1024) : V m c main_v1 (ix2 0 j) = m ((c : Thread nD τ).loc main_arg2) (ix1 j) := by
  rw [host1]
  pointwise []
theorem weight_apply (c : Dev nD) (k : Fin 1024) (j : Fin 5120) : V m c main_v2 (ix2 k j) = m ((c : Thread nD τ).loc main_arg3) (ix2 k j) := by
  rw [host2]
  pointwise []
theorem gain_apply (c : Dev nD) (j : Fin 128) : V m c main_v3 (ix2 0 j) = m ((c : Thread nD τ).loc main_arg4) (ix1 j) := by
  rw [host3]
  pointwise []

/-- Where the blocks lie: a point is a batch. -/
theorem places0 : ∀ t : Fin grid0.N, win0_0.index t 0 = t.val ∧ win0_0.index t 1 = 0 ∧ win0_0.index t 2 = 0 := by decide +kernel
theorem places1 : ∀ t : Fin grid0.N, win0_1.index t 0 = 8 ∧ win0_1.index t 1 = 0 ∧ win0_1.index t 2 = 0 := by decide +kernel
theorem places2 : ∀ t : Fin grid0.N, win0_2.index t 0 = 0 ∧ win0_2.index t 1 = 0 := by decide +kernel
theorem places3 : ∀ t : Fin grid0.N, win0_3.index t 0 = 0 ∧ win0_3.index t 1 = 0 := by decide +kernel
theorem places4 : ∀ t : Fin grid0.N, win0_4.index t 0 = 0 ∧ win0_4.index t 1 = 0 := by decide +kernel
theorem places5 : ∀ t : Fin grid0.N, win0_5.index t 0 = t.val ∧ win0_5.index t 1 = 0 ∧ win0_5.index t 2 = 0 := by decide +kernel
theorem places6 : ∀ t : Fin grid0.N, win0_6.index t 0 = t.val ∧ win0_6.index t 1 = 0 ∧ win0_6.index t 2 = 0 := by decide +kernel

theorem point_lt (t : Fin cfg0.N) : t.val < 8 := lt_of_lt_of_eq t.isLt Gen.N_0

/-- The batch of a point. -/
abbrev bOf (t : Fin cfg0.N) : Fin 8 := ⟨t.val, point_lt t⟩

set_option backward.isDefEq.respectTransparency false in
theorem block0 (c : Dev nD) (t : Fin cfg0.N) (r : Fin 256) (k : Fin 1024) :
    iblk m c 0 t (ix3 0 r k) = m ((c : Thread nD τ).loc main_arg0) (ix3 (bOf t) r k) := by
  obtain ⟨h0, h1, h2⟩ := places0 t
  show m ((c : Thread nD τ).loc main_arg0) ((win0_0.rect t).emb (ix3 0 r k)) = _
  refine congrArg _ (funext fun a => Fin.ext ?_)
  refine (Pipeline.Window.rect_emb_val win0_0 t _ a).trans ?_
  fin_cases a
  · show win0_0.index t 0 * 1 + 0 = t.val
    omega
  · show win0_0.index t 1 * 256 + r.val = r.val
    omega
  · show win0_0.index t 2 * 1024 + k.val = k.val
    omega

set_option backward.isDefEq.respectTransparency false in
theorem block1 (c : Dev nD) (t : Fin cfg0.N) (j : Fin 3072) :
    iblk m c 1 t (ix3 0 0 j) = m ((c : Thread nD τ).loc main_arg1) (ix2 8 j) := by
  obtain ⟨h0, h1, h2⟩ := places1 t
  rw [← mod_apply m]
  show V m c main_v0 ((win0_1.rect t).emb (ix3 0 0 j)) = _
  refine congrArg _ (funext fun a => Fin.ext ?_)
  refine (Pipeline.Window.rect_emb_val win0_1 t _ a).trans ?_
  fin_cases a
  · show win0_1.index t 0 * 1 + 0 = 8
    omega
  · show win0_1.index t 1 * 1 + 0 = 0
    omega
  · show win0_1.index t 2 * 3072 + j.val = j.val
    omega

set_option backward.isDefEq.respectTransparency false in
theorem block2 (c : Dev nD) (t : Fin cfg0.N) (j : Fin 1024) :
    iblk m c 2 t (ix2 0 j) = m ((c : Thread nD τ).loc main_arg2) (ix1 j) := by
  obtain ⟨h0, h1⟩ := places2 t
  rw [← norm_apply m]
  show V m c main_v1 ((win0_2.rect t).emb (ix2 0 j)) = _
  refine congrArg _ (funext fun a => Fin.ext ?_)
  refine (Pipeline.Window.rect_emb_val win0_2 t _ a).trans ?_
  fin_cases a
  · show win0_2.index t 0 * 1 + 0 = 0
    omega
  · show win0_2.index t 1 * 1024 + j.val = j.val
    omega

set_option backward.isDefEq.respectTransparency false in
theorem block3 (c : Dev nD) (t : Fin cfg0.N) (k : Fin 1024) (j : Fin 5120) :
    iblk m c 3 t (ix2 k j) = m ((c : Thread nD τ).loc main_arg3) (ix2 k j) := by
  obtain ⟨h0, h1⟩ := places3 t
  rw [← weight_apply m]
  show V m c main_v2 ((win0_3.rect t).emb (ix2 k j)) = _
  refine congrArg _ (funext fun a => Fin.ext ?_)
  refine (Pipeline.Window.rect_emb_val win0_3 t _ a).trans ?_
  fin_cases a
  · show win0_3.index t 0 * 1024 + k.val = k.val
    omega
  · show win0_3.index t 1 * 5120 + j.val = j.val
    omega

set_option backward.isDefEq.respectTransparency false in
theorem block4 (c : Dev nD) (t : Fin cfg0.N) (j : Fin 128) :
    iblk m c 4 t (ix2 0 j) = m ((c : Thread nD τ).loc main_arg4) (ix1 j) := by
  obtain ⟨h0, h1⟩ := places4 t
  rw [← gain_apply m]
  show V m c main_v3 ((win0_4.rect t).emb (ix2 0 j)) = _
  refine congrArg _ (funext fun a => Fin.ext ?_)
  refine (Pipeline.Window.rect_emb_val win0_4 t _ a).trans ?_
  fin_cases a
  · show win0_4.index t 0 * 1 + 0 = 0
    omega
  · show win0_4.index t 1 * 128 + j.val = j.val
    omega

section Result

variable (x : FVec Ideal S8x256x1024 .f32) (mod : FVec Ideal S16x3072 .f32) (g : FVec Ideal S1024 .f32) (w : FVec Ideal S1024x5120 .f32) (kg : FVec Ideal S128 .f32)

/-- Row `s` of batch `b` of the context, normed, scaled and shifted. -/
def rowOf (b : Fin 8) (s : Fin 256) : Fin 1024 → EReal :=
  Rows.modulated (fun k => x (ix3 b s k)) (fun k => g (ix1 k)) (fun k => mod (ix2 8 ⟨k.val, by have := k.isLt; omega⟩))
    (fun k => mod (ix2 8 ⟨1024 + k.val, by have := k.isLt; omega⟩))

/-- All keys of the context. -/
def resultKeys : FVec Ideal S8x256x512 .bf16 := fun i =>
  Rows.normedHeads (by decide) (fun c : Fin 512 => Rows.dot (rowOf x mod g (i 0) (i 1)) fun k => w (ix2 k ⟨2048 + c.val, by have := c.isLt; omega⟩)) (fun l => kg (ix1 l)) (i 2)

/-- All values of the context. -/
def resultValues : FVec Ideal S8x256x512 .bf16 := fun i =>
  Rows.dot (rowOf x mod g (i 0) (i 1)) fun k => w (ix2 k ⟨2560 + (i 2).val, by have : (i 2).val < 512 := (i 2).isLt; omega⟩)

end Result

theorem hrow_block (c : Dev nD) (t : Fin cfg0.N) (r : Fin 256) :
    hrow (iblk m c 0 t) (iblk m c 1 t) (iblk m c 2 t) r
      = rowOf (m ((c : Thread nD τ).loc main_arg0)) (m ((c : Thread nD τ).loc main_arg1)) (m ((c : Thread nD τ).loc main_arg2)) (bOf t) r := by
  unfold hrow rowOf
  congr 1
  · funext k
    exact block0 m c t r k
  · funext k
    exact block2 m c t k
  · funext k
    exact block1 m c t _
  · funext k
    exact block1 m c t _

theorem keys_block (c : Dev nD) (t : Fin cfg0.N) (r : Fin 256) (j : Fin 512) :
    keys (iblk m c 0 t) (iblk m c 1 t) (iblk m c 2 t) (iblk m c 3 t) (iblk m c 4 t) r j
      = resultKeys (m ((c : Thread nD τ).loc main_arg0)) (m ((c : Thread nD τ).loc main_arg1)) (m ((c : Thread nD τ).loc main_arg2)) (m ((c : Thread nD τ).loc main_arg3))
          (m ((c : Thread nD τ).loc main_arg4)) (ix3 (bOf t) r j) := by
  unfold keys
  rw [hrow_block]
  show _ = Rows.normedHeads _ _ _ j
  congr 1
  · funext l
    refine congrArg (Rows.dot _) (funext fun k => ?_)
    exact block3 m c t k _
  · funext l
    exact block4 m c t l

theorem values_block (c : Dev nD) (t : Fin cfg0.N) (r : Fin 256) (j : Fin 512) :
    values (iblk m c 0 t) (iblk m c 1 t) (iblk m c 2 t) (iblk m c 3 t) r j
      = resultValues (m ((c : Thread nD τ).loc main_arg0)) (m ((c : Thread nD τ).loc main_arg1)) (m ((c : Thread nD τ).loc main_arg2)) (m ((c : Thread nD τ).loc main_arg3))
          (ix3 (bOf t) r j) := by
  unfold values
  rw [hrow_block]
  refine congrArg (Rows.dot _) (funext fun k => ?_)
  exact block3 m c t k _

/-- The keys a point leaves, in the whole array. -/
theorem keys_result (c : Dev nD) (t : Fin cfg0.N) (y : S1x256x512.Idx) (i : S8x256x512.Idx) (v0 : (i 0).val = t.val) (v1 : (i 1).val = (y 1).val) (v2 : (i 2).val = (y 2).val) :
    out0_5 (F := Ideal) (iblk m c 0 t) (iblk m c 1 t) (iblk m c 2 t) (iblk m c 3 t) (iblk m c 4 t) y
      = resultKeys (m ((c : Thread nD τ).loc main_arg0)) (m ((c : Thread nD τ).loc main_arg1)) (m ((c : Thread nD τ).loc main_arg2)) (m ((c : Thread nD τ).loc main_arg3))
          (m ((c : Thread nD τ).loc main_arg4)) i := by
  rw [out_keys]
  refine (keys_block m c t (y 1) (y 2)).trans (congrArg (resultKeys _ _ _ _ _) (Eq.symm ?_))
  refine (eq_ix3 (n0 := 8) (n1 := 256) (n2 := 512) i).trans ?_
  congr 1
  · exact Fin.ext v0
  · exact Fin.ext v1
  · exact Fin.ext v2

/-- The values a point leaves, in the whole array. -/
theorem values_result (c : Dev nD) (t : Fin cfg0.N) (y : S1x256x512.Idx) (i : S8x256x512.Idx) (v0 : (i 0).val = t.val) (v1 : (i 1).val = (y 1).val) (v2 : (i 2).val = (y 2).val) :
    out0_6 (F := Ideal) (iblk m c 0 t) (iblk m c 1 t) (iblk m c 2 t) (iblk m c 3 t) (iblk m c 4 t) y
      = resultValues (m ((c : Thread nD τ).loc main_arg0)) (m ((c : Thread nD τ).loc main_arg1)) (m ((c : Thread nD τ).loc main_arg2)) (m ((c : Thread nD τ).loc main_arg3)) i := by
  rw [out_values]
  refine (values_block m c t (y 1) (y 2)).trans (congrArg (resultValues _ _ _ _) (Eq.symm ?_))
  refine (eq_ix3 (n0 := 8) (n1 := 256) (n2 := 512) i).trans ?_
  congr 1
  · exact Fin.ext v0
  · exact Fin.ext v1
  · exact Fin.ext v2

/-- The keys after the run. -/
theorem final_keys (c : Dev nD) : (dats m 0 c).arrAt 5 cfg0.N
    = resultKeys (m ((c : Thread nD τ).loc main_arg0)) (m ((c : Thread nD τ).loc main_arg1)) (m ((c : Thread nD τ).loc main_arg2)) (m ((c : Thread nD τ).loc main_arg3))
        (m ((c : Thread nD τ).loc main_arg4)) := by
  refine (dats m 0 c).arrAt_eq_of_covers 5 _ (by decide +kernel) fun t hf y => ?_
  obtain ⟨h0, h1, h2⟩ := places5 t
  rw [after0_5]
  have y0 : (y 0).val < 1 := (y 0).isLt
  refine (cast_eq _ _).trans ?_
  refine keys_result m c t _ _ ?_ ?_ ?_
  · refine (Pipeline.Window.rect_emb_val win0_5 t y 0).trans ?_
    show win0_5.index t 0 * 1 + (y 0).val = _
    omega
  · refine (Pipeline.Window.rect_emb_val win0_5 t y 1).trans ?_
    show win0_5.index t 1 * 256 + (y 1).val = (y 1).val
    omega
  · refine (Pipeline.Window.rect_emb_val win0_5 t y 2).trans ?_
    show win0_5.index t 2 * 512 + (y 2).val = (y 2).val
    omega

/-- The values after the run. -/
theorem final_values (c : Dev nD) : (dats m 0 c).arrAt 6 cfg0.N
    = resultValues (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  obtain ⟨h0, h1, h2⟩ := places6 t
  rw [after0_6]
  have y0 : (y 0).val < 1 := (y 0).isLt
  refine (cast_eq _ _).trans ?_
  refine values_result m c t _ _ ?_ ?_ ?_
  · refine (Pipeline.Window.rect_emb_val win0_6 t y 0).trans ?_
    show win0_6.index t 0 * 1 + (y 0).val = _
    omega
  · refine (Pipeline.Window.rect_emb_val win0_6 t y 1).trans ?_
    show win0_6.index t 1 * 256 + (y 1).val = (y 1).val
    omega
  · refine (Pipeline.Window.rect_emb_val win0_6 t y 2).trans ?_
    show win0_6.index t 2 * 512 + (y 2).val = (y 2).val
    omega
end Cert.Kernel4Ideal.Ctx
end
-- ==== Proof.RefCtx.lean ====
/-
  The reference's keys and values of the context, entry by entry.
-/
module
public import proofs.«01_k».proof.Proof.Gen.Reference4Ideal.Read
public import proofs.«01_k».proof.Proof.Rows
public import Idealize.ShloMosaic.Lib.Pointwise
@[expose] public section
set_option maxRecDepth 16384
noncomputable section
namespace Cert.Reference4Ideal.Ctx
open Cert.Reference4Ideal Cert.Reference4Ideal.Read Idealize.ShloMosaic.TcCoe Idealize.SL.Sem
open Idealize.ShloMosaic
open scoped BigOperators

variable (x : FVec Ideal S8x256x1024 .f32) (mod : FVec Ideal S16x3072 .f32) (g : FVec Ideal S1024 .f32) (w : FVec Ideal S1024x5120 .f32) (kg : FVec Ideal S128 .f32)

/-- Row `s` of batch `b` of the context, normed, scaled and shifted. -/
def rowOf (b : Fin 8) (s : Fin 256) : Fin 1024 → EReal :=
  Rows.modulated (fun k => x (ix3 b s k)) (fun k => g (ix1 k)) (fun k => mod (ix2 8 ⟨k.val, by have := k.isLt; omega⟩))
    (fun k => mod (ix2 8 ⟨1024 + k.val, by have := k.isLt; omega⟩))

/-- Every entry of the keys. -/
theorem keys_apply (b : Fin 8) (s : Fin 256) (j : Fin 512) : val_main_v43 (F := Ideal) x mod g w kg (ix3 b s j)
    = Rows.normedHeads (by decide) (fun c : Fin 512 => Rows.dot (rowOf x mod g b s) fun k => w (ix2 k ⟨2048 + c.val, by have := c.isLt; omega⟩)) (fun l => kg (ix1 l)) j := by
  simp only [Rows.dot, rowOf, ← Rows.modulated_assoc]
  pointwise [val_main_v0, val_main_v1, val_main_v2, val_main_v3, val_main_v4, val_main_cst, val_main_v5, val_main_v6, val_main_cst_0, val_main_v7,
    val_main_v8, val_main_cst_1, val_main_v9, val_main_v10, val_main_v11, val_main_v12, val_main_v13, val_main_v14, val_main_v15, val_main_v16,
    val_main_cst_2, val_main_v17, val_main_v18, val_main_v19, val_main_v20, val_main_v21, val_main_v22, val_main_v23, val_main_v24, val_main_v25,
    val_main_v26, val_main_v27, val_main_v28, val_main_v29, val_main_cst_3, val_main_v30, val_main_v31, val_main_cst_4, val_main_v32, val_main_v33,
    val_main_cst_5, val_main_v34, val_main_v35, val_main_v36, val_main_v37, val_main_v38, val_main_v39, val_main_v40, val_main_v41, val_main_v42,
    val_main_v43, val_main_v44, val_main_v45]
  rfl

/-- Every entry of the values. -/
theorem values_apply (b : Fin 8) (s : Fin 256) (j : Fin 512) : val_main_v45 (F := Ideal) x mod g w (ix3 b s j)
    = Rows.dot (rowOf x mod g b s) fun k => w (ix2 k ⟨2560 + j.val, by have := j.isLt; omega⟩) := by
  have e : ∀ k : Fin 1024, w (ix2 k ⟨2560 + j.val, by have := j.isLt; omega⟩) = w (ix2 k ⟨2048 + (512 + j.val), by have := j.isLt; omega⟩) := fun k =>
    congrArg w (congrArg (ix2 k) (Fin.ext (by show 2560 + j.val = 2048 + (512 + j.val); omega)))
  simp only [Rows.dot, rowOf, ← Rows.modulated_assoc, e]
  pointwise [val_main_v0, val_main_v1, val_main_v2, val_main_v3, val_main_v4, val_main_cst, val_main_v5, val_main_v6, val_main_cst_0, val_main_v7,
    val_main_v8, val_main_cst_1, val_main_v9, val_main_v10, val_main_v11, val_main_v12, val_main_v13, val_main_v14, val_main_v15, val_main_v16,
    val_main_cst_2, val_main_v17, val_main_v18, val_main_v19, val_main_v20, val_main_v21, val_main_v22, val_main_v23, val_main_v24, val_main_v25,
    val_main_v26, val_main_v27, val_main_v28, val_main_v29, val_main_cst_3, val_main_v30, val_main_v31, val_main_cst_4, val_main_v32, val_main_v33,
    val_main_cst_5, val_main_v34, val_main_v35, val_main_v36, val_main_v37, val_main_v38, val_main_v39, val_main_v40, val_main_v41, val_main_v42,
    val_main_v43, val_main_v44, val_main_v45]
  rfl
end Cert.Reference4Ideal.Ctx
end
-- ==== Proof.Ada.lean ====
/-
  The modulations of both layers from the conditions: the arrays the kernel leaves, and the reference's.
-/
module
public import proofs.«01_k».proof.Proof.Gen.Kernel5Ideal.Value
public import proofs.«01_k».proof.Proof.Gen.Reference5Ideal.Read
public import proofs.«01_k».proof.Proof.Rows
public import Idealize.ShloMosaic.Lib.Pointwise
public import Idealize.ShloMosaic.Lib.Pipeline.ValueKit
public import Idealize.ShloMosaic.Lib.MatmulPlain
@[expose] public section
set_option maxRecDepth 16384
noncomputable section
namespace Cert.Kernel5Ideal.Ada
open Cert.Kernel5Ideal Cert.Kernel5Ideal.Gen Idealize.ShloMosaic.TcCoe Idealize.SL.Sem
open Idealize.ShloMosaic
open Idealize.ShloMosaic.Pipeline (Dat)
open scoped BigOperators

/-- All modulations of a layer: every gated condition times the weights, and the bias. -/
def result (cond : FVec Ideal S16x1024 .f32) (w : FVec Ideal S1024x3072 .f32) (b : FVec Ideal S3072 .f32) : FVec Ideal S16x3072 .f32 := fun i =>
  Rows.dot (fun k => Rows.gated (cond (ix2 (i 0) k))) (fun k => w (ix2 k (i 1))) + b (ix1 (i 1))

/-- The modulations of a block of columns. -/
def block (x0 : Vec Ideal S16x1024 .f32) (x1 : Vec Ideal S1024x1024 .f32) (x2 : Vec Ideal S1x1024 .f32) (r : Fin 16) (j : Fin 1024) : EReal :=
  Rows.dot (fun k => Rows.gated (x0 (ix2 r k))) (fun k => x1 (ix2 k j)) + x2 (ix2 0 j)

section Block

variable (x0 : Vec Ideal S16x1024 .f32) (x1 : Vec Ideal S1024x1024 .f32) (x2 : Vec Ideal S1x1024 .f32) (x3 : Vec Ideal S1024x1024 .f32) (x4 : Vec Ideal S1x1024 .f32)

theorem out_first : out0_5 (F := Ideal) x0 x1 x2 x3 x4 = fun y => block x0 x1 x2 (y 0) (y 1) := by
  funext y
  unfold out0_5
  rw [View.canon_cons_unit_lit _ _ _ (by decide)]
  refine (congrArg _ (eq_ix2 (n0 := 16) (n1 := 1024) y)).trans ?_
  generalize y 0 = r
  generalize y 1 = j
  pointwise [k0_pay1, k0_pay2]
  rfl

theorem out_second : out0_6 (F := Ideal) x0 x1 x2 x3 x4 = fun y => block x0 x3 x4 (y 0) (y 1) := by
  funext y
  unfold out0_6
  rw [View.canon_cons_unit_lit _ _ _ (by decide)]
  refine (congrArg _ (eq_ix2 (n0 := 16) (n1 := 1024) y)).trans ?_
  generalize y 0 = r
  generalize y 1 = j
  pointwise [k0_pay1, k0_pay3]
  rfl

end Block

variable (m : (ℓ : Loc nD τ sig) → Buf (Elt Ideal) ℓ)

/-- The biases the host prepares are the arguments, reshaped. -/
theorem host_first (c : Dev nD) : V m c main_v0 = shapeCast S1x3072 (m ((c : Thread nD τ).loc main_arg2)) shapeCasts_S3072_S1x3072 := by
  unfold V hostOps0
  after_results_simp
  rfl
theorem host_second (c : Dev nD) : V m c main_v1 = shapeCast S1x3072 (m ((c : Thread nD τ).loc main_arg4)) shapeCasts_S3072_S1x3072 := by
  unfold V hostOps0
  after_results_simp
  rfl
theorem first_bias (c : Dev nD) (j : Fin 3072) : V m c main_v0 (ix2 0 j) = m ((c : Thread nD τ).loc main_arg2) (ix1 j) := by
  rw [host_first]
  pointwise []
theorem second_bias (c : Dev nD) (j : Fin 3072) : V m c main_v1 (ix2 0 j) = m ((c : Thread nD τ).loc main_arg4) (ix1 j) := by
  rw [host_second]
  pointwise []

/-- Where the blocks lie: a point is a third of the columns. -/
theorem places0 : ∀ t : Fin grid0.N, win0_0.index t 0 = 0 ∧ win0_0.index t 1 = 0 := by decide +kernel
theorem places1 : ∀ t : Fin grid0.N, win0_1.index t 0 = 0 ∧ win0_1.index t 1 = t.val := by decide +kernel
theorem places2 : ∀ t : Fin grid0.N, win0_2.index t 0 = 0 ∧ win0_2.index t 1 = t.val := by decide +kernel
theorem places3 : ∀ t : Fin grid0.N, win0_3.index t 0 = 0 ∧ win0_3.index t 1 = t.val := by decide +kernel
theorem places4 : ∀ t : Fin grid0.N, win0_4.index t 0 = 0 ∧ win0_4.index t 1 = t.val := by decide +kernel
theorem places5 : ∀ t : Fin grid0.N, win0_5.index t 0 = 0 ∧ win0_5.index t 1 = t.val := by decide +kernel
theorem places6 : ∀ t : Fin grid0.N, win0_6.index t 0 = 0 ∧ win0_6.index t 1 = t.val := by decide +kernel

theorem point_lt (t : Fin cfg0.N) : t.val < 3 := lt_of_lt_of_eq t.isLt Gen.N_0

/-- Column `j` of a point's block, in the whole array. -/
abbrev colOf (t : Fin cfg0.N) (j : Fin 1024) : Fin 3072 := ⟨t.val * 1024 + j.val, by have := point_lt t; have := j.isLt; omega⟩

set_option backward.isDefEq.respectTransparency false in
theorem block0 (c : Dev nD) (t : Fin cfg0.N) (r : Fin 16) (k : Fin 1024) :
    iblk m c 0 t (ix2 r k) = m ((c : Thread nD τ).loc main_arg0) (ix2 r k) := by
  obtain ⟨h0, h1⟩ := places0 t
  show m ((c : Thread nD τ).loc main_arg0) ((win0_0.rect t).emb (ix2 r k)) = _
  refine congrArg _ (funext fun a => Fin.ext ?_)
  refine (Pipeline.Window.rect_emb_val win0_0 t _ a).trans ?_
  fin_cases a
  · show win0_0.index t 0 * 16 + r.val = r.val
    omega
  · show win0_0.index t 1 * 1024 + k.val = k.val
    omega

set_option backward.isDefEq.respectTransparency false in
theorem block1 (c : Dev nD) (t : Fin cfg0.N) (k j : Fin 1024) :
    iblk m c 1 t (ix2 k j) = m ((c : Thread nD τ).loc main_arg1) (ix2 k (colOf t j)) := by
  obtain ⟨h0, h1⟩ := places1 t
  show m ((c : Thread nD τ).loc main_arg1) ((win0_1.rect t).emb (ix2 k j)) = _
  refine congrArg _ (funext fun a => Fin.ext ?_)
  refine (Pipeline.Window.rect_emb_val win0_1 t _ a).trans ?_
  fin_cases a
  · show win0_1.index t 0 * 1024 + k.val = k.val
    omega
  · show win0_1.index t 1 * 1024 + j.val = t.val * 1024 + j.val
    omega

set_option backward.isDefEq.respectTransparency false in
theorem block3 (c : Dev nD) (t : Fin cfg0.N) (k j : Fin 1024) :
    iblk m c 3 t (ix2 k j) = m ((c : Thread nD τ).loc main_arg3) (ix2 k (colOf t j)) := by
  obtain ⟨h0, h1⟩ := places3 t
  show m ((c : Thread nD τ).loc main_arg3) ((win0_3.rect t).emb (ix2 k j)) = _
  refine congrArg _ (funext fun a => Fin.ext ?_)
  refine (Pipeline.Window.rect_emb_val win0_3 t _ a).trans ?_
  fin_cases a
  · show win0_3.index t 0 * 1024 + k.val = k.val
    omega
  · show win0_3.index t 1 * 1024 + j.val = t.val * 1024 + j.val
    omega

set_option backward.isDefEq.respectTransparency false in
theorem block2 (c : Dev nD) (t : Fin cfg0.N) (j : Fin 1024) :
    iblk m c 2 t (ix2 0 j) = m ((c : Thread nD τ).loc main_arg2) (ix1 (colOf t j)) := by
  obtain ⟨h0, h1⟩ := places2 t
  rw [← first_bias m]
  show V m c main_v0 ((win0_2.rect t).emb (ix2 0 j)) = _
  refine congrArg _ (funext fun a => Fin.ext ?_)
  refine (Pipeline.Window.rect_emb_val win0_2 t _ a).trans ?_
  fin_cases a
  · show win0_2.index t 0 * 1 + 0 = 0
    omega
  · show win0_2.index t 1 * 1024 + j.val = t.val * 1024 + j.val
    omega

set_option backward.isDefEq.respectTransparency false in
theorem block4 (c : Dev nD) (t : Fin cfg0.N) (j : Fin 1024) :
    iblk m c 4 t (ix2 0 j) = m ((c : Thread nD τ).loc main_arg4) (ix1 (colOf t j)) := by
  obtain ⟨h0, h1⟩ := places4 t
  rw [← second_bias m]
  show V m c main_v1 ((win0_4.rect t).emb (ix2 0 j)) = _
  refine congrArg _ (funext fun a => Fin.ext ?_)
  refine (Pipeline.Window.rect_emb_val win0_4 t _ a).trans ?_
  fin_cases a
  · show win0_4.index t 0 * 1 + 0 = 0
    omega
  · show win0_4.index t 1 * 1024 + j.val = t.val * 1024 + j.val
    omega

/-- The modulations of the first layer a point leaves, in the whole array. -/
theorem first_result (c : Dev nD) (t : Fin cfg0.N) (y : S16x1024.Idx) (i : S16x3072.Idx) (v0 : (i 0).val = (y 0).val) (v1 : (i 1).val = t.val * 1024 + (y 1).val) :
    out0_5 (F := Ideal) (iblk m c 0 t) (iblk m c 1 t) (iblk m c 2 t) (iblk m c 3 t) (iblk m c 4 t) y = result (m ((c : Thread nD τ).loc main_arg0)) (m ((c : Thread nD τ).loc main_arg1)) (m ((c : Thread nD τ).loc main_arg2)) i := by
  rw [out_first]
  have e0 : i 0 = y 0 := Fin.ext v0
  have e1 : i 1 = colOf t (y 1) := Fin.ext v1
  unfold block result
  rw [e0, e1]
  refine congrArg₂ (· + ·) (congrArg₂ Rows.dot (funext fun k => ?_) (funext fun k => ?_)) ?_
  · exact congrArg Rows.gated (block0 m c t (y 0) k)
  · exact block1 m c t k (y 1)
  · exact block2 m c t (y 1)

/-- The modulations of the first layer after the run. -/
theorem final_first (c : Dev nD) : (dats m 0 c).arrAt 5 cfg0.N = result (m ((c : Thread nD τ).loc main_arg0)) (m ((c : Thread nD τ).loc main_arg1)) (m ((c : Thread nD τ).loc main_arg2)) := by
  refine (dats m 0 c).arrAt_eq_of_covers 5 _ (by decide +kernel) fun t hf y => ?_
  obtain ⟨h0, h1⟩ := places5 t
  rw [after0_5]
  refine (cast_eq _ _).trans ?_
  refine first_result m c t _ _ ?_ ?_
  · refine (Pipeline.Window.rect_emb_val win0_5 t y 0).trans ?_
    show win0_5.index t 0 * 16 + (y 0).val = (y 0).val
    omega
  · refine (Pipeline.Window.rect_emb_val win0_5 t y 1).trans ?_
    show win0_5.index t 1 * 1024 + (y 1).val = t.val * 1024 + (y 1).val
    omega

/-- The modulations of the second layer a point leaves, in the whole array. -/
theorem second_result (c : Dev nD) (t : Fin cfg0.N) (y : S16x1024.Idx) (i : S16x3072.Idx) (v0 : (i 0).val = (y 0).val) (v1 : (i 1).val = t.val * 1024 + (y 1).val) :
    out0_6 (F := Ideal) (iblk m c 0 t) (iblk m c 1 t) (iblk m c 2 t) (iblk m c 3 t) (iblk m c 4 t) y = result (m ((c : Thread nD τ).loc main_arg0)) (m ((c : Thread nD τ).loc main_arg3)) (m ((c : Thread nD τ).loc main_arg4)) i := by
  rw [out_second]
  have e0 : i 0 = y 0 := Fin.ext v0
  have e1 : i 1 = colOf t (y 1) := Fin.ext v1
  unfold block result
  rw [e0, e1]
  refine congrArg₂ (· + ·) (congrArg₂ Rows.dot (funext fun k => ?_) (funext fun k => ?_)) ?_
  · exact congrArg Rows.gated (block0 m c t (y 0) k)
  · exact block3 m c t k (y 1)
  · exact block4 m c t (y 1)

/-- The modulations of the second layer after the run. -/
theorem final_second (c : Dev nD) : (dats m 0 c).arrAt 6 cfg0.N = result (m ((c : Thread nD τ).loc main_arg0)) (m ((c : Thread nD τ).loc main_arg3)) (m ((c : Thread nD τ).loc main_arg4)) := by
  refine (dats m 0 c).arrAt_eq_of_covers 6 _ (by decide +kernel) fun t hf y => ?_
  obtain ⟨h0, h1⟩ := places6 t
  rw [after0_6]
  refine (cast_eq _ _).trans ?_
  refine second_result m c t _ _ ?_ ?_
  · refine (Pipeline.Window.rect_emb_val win0_6 t y 0).trans ?_
    show win0_6.index t 0 * 16 + (y 0).val = (y 0).val
    omega
  · refine (Pipeline.Window.rect_emb_val win0_6 t y 1).trans ?_
    show win0_6.index t 1 * 1024 + (y 1).val = t.val * 1024 + (y 1).val
    omega

end Cert.Kernel5Ideal.Ada
end
-- ==== Proof.RefAda.lean ====
/-
  The reference's modulations, entry by entry.
-/
module
public import proofs.«01_k».proof.Proof.Gen.Reference5Ideal.Read
public import proofs.«01_k».proof.Proof.Rows
public import Idealize.ShloMosaic.Lib.Pointwise
@[expose] public section
set_option maxRecDepth 16384
noncomputable section
namespace Cert.Reference5Ideal.Ada
open Cert.Reference5Ideal Cert.Reference5Ideal.Read Idealize.ShloMosaic.TcCoe Idealize.SL.Sem
open Idealize.ShloMosaic
open scoped BigOperators

variable (cond : FVec Ideal S16x1024 .f32) (w : FVec Ideal S1024x3072 .f32) (b : FVec Ideal S3072 .f32)

/-- Every condition times its logistic. -/
theorem gated_apply (r : Fin 16) (k : Fin 1024) : val_main_v0 (F := Ideal) cond (ix2 r k) = Rows.gated (cond (ix2 r k)) := by
  unfold Rows.gated
  rw [zero_sub]
  pointwise [val_main_call0_v0, val_main_call0_v1, val_main_call0_cst, val_main_call0_v2, val_main_call0_v3, val_main_call0_cst_0,
    val_main_call0_v4, val_main_call0_v5, val_main_v0]

/-- Every modulation of the first layer. -/
theorem first_apply (r : Fin 16) (j : Fin 3072) : val_main_v4 (F := Ideal) cond w b (ix2 r j)
    = Rows.dot (fun k => Rows.gated (cond (ix2 r k))) (fun k => w (ix2 k j)) + b (ix1 j) := by
  simp only [← gated_apply, Rows.dot]
  pointwise [val_main_v1, val_main_v2, val_main_v3, val_main_v4]

/-- Every modulation of the second layer. -/
theorem second_apply (r : Fin 16) (j : Fin 3072) : val_main_v8 (F := Ideal) cond w b (ix2 r j)
    = Rows.dot (fun k => Rows.gated (cond (ix2 r k))) (fun k => w (ix2 k j)) + b (ix1 j) := by
  simp only [← gated_apply, Rows.dot]
  pointwise [val_main_v5, val_main_v6, val_main_v7, val_main_v8]

end Cert.Reference5Ideal.Ada
end
-- ==== Proof.Layers.lean ====
/-
  The layers around the attention: each kernel and its reference leave the same arrays.
-/
module
public import proofs.«01_k».proof.Defs
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.OutProj
public import proofs.«01_k».proof.Proof.RefOut
public import proofs.«01_k».proof.Proof.LatFinal
public import proofs.«01_k».proof.Proof.RefLat
public import proofs.«01_k».proof.Proof.Ctx
public import proofs.«01_k».proof.Proof.RefCtx
public import proofs.«01_k».proof.Proof.Gen.Kernel5Ideal.Value
public import proofs.«01_k».proof.Proof.Gen.Reference5Ideal.Run
public import proofs.«01_k».proof.Proof.Ada
public import proofs.«01_k».proof.Proof.RefAda
public import Idealize.ShloMosaic.Adequacy
@[expose] public section
noncomputable section
namespace Cert.Layers
open Idealize.ShloMosaic Idealize.SL.Sem
open Idealize.ShloMosaic.TcCoe

/-- The row after the second layer, normed. -/
theorem array2_22 (y : FVec Ideal Cert.Reference2Ideal.S8x8192x2048 .bf16) (x : FVec Ideal Cert.Reference2Ideal.S8x8192x1024 .f32) (mod : FVec Ideal Cert.Reference2Ideal.S16x3072 .f32) (w : FVec Ideal Cert.Reference2Ideal.S2048x1024 .f32) (fg : FVec Ideal Cert.Reference2Ideal.S1024 .f32) :
    Cert.Reference2Ideal.Read.val_main_v22 (F := Ideal) y x mod w fg = Cert.Kernel2Ideal.Out.result y x mod w fg := by
  funext i
  refine (congrArg (Cert.Reference2Ideal.Read.val_main_v22 (F := Ideal) y x mod w fg) (eq_ix3 (n0 := 8) (n1 := 8192) (n2 := 1024) i)).trans ?_
  exact Cert.Reference2Ideal.Out.entry y x mod w fg (i 0) (i 1) (i 2)

/-- The reference runs and leaves its arguments and counters as they were. -/
theorem frame2 : Cert.quiescent_Reference2Ideal := fun m g _ =>
  (θ_run (Cert.Reference2Ideal.defs (F := Ideal)) _ _).mono
    (fun r h => ⟨fun c => (h c).2, sem_eq_zero_of_no_sems (by decide) r.2⟩) (Cert.Reference2Ideal.Value.run (F := Ideal) m g)

/-- Both programs leave the same arrays. -/
theorem value2 : Cert.algebraic_Kernel2Ideal_Reference2Ideal := by
  intro m g m' g' _ hargs
  refine ⟨fun c => (Cert.Kernel2Ideal.Gen.dats m 0 c).arrAt 5 Cert.Kernel2Ideal.cfg0.N, Cert.Kernel2Ideal.Value.run_blocks m g, ?_⟩
  refine (θ_run (Cert.Reference2Ideal.defs (F := Ideal)) _ _).mono (fun r h c => ⟨?_, (h c).2⟩) (Cert.Reference2Ideal.Value.run (F := Ideal) m' g')
  obtain ⟨h0, h1, h2, h3, h4⟩ := hargs c
  refine ((h c).1.trans (Cert.Reference2Ideal.Read.val_main_v22_eq _ _ _ _ _)).trans ?_
  refine Eq.trans ?_ (Cert.Kernel2Ideal.Out.final m c).symm
  show Cert.Reference2Ideal.Read.val_main_v22 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) = _
  rw [h0, h1, h2, h3, h4]
  exact array2_22 _ _ _ _ _

/-- The queries of the latents. -/
theorem array3_134 (x : FVec Ideal Cert.Reference3Ideal.S8x8192x1024 .f32) (mod : FVec Ideal Cert.Reference3Ideal.S16x3072 .f32) (g : FVec Ideal Cert.Reference3Ideal.S1024 .f32) (w : FVec Ideal Cert.Reference3Ideal.S1024x5120 .f32) (qg : FVec Ideal Cert.Reference3Ideal.S128 .f32) :
    Cert.Reference3Ideal.Read.val_main_v134 (F := Ideal) x mod g w qg = Cert.Kernel3Ideal.Lat.resultQueries x mod g w qg := by
  funext i
  refine (congrArg (Cert.Reference3Ideal.Read.val_main_v134 (F := Ideal) x mod g w qg) (eq_ix3 (n0 := 8) (n1 := 8192) (n2 := 2048) i)).trans ?_
  exact Cert.Reference3Ideal.Lat.queries_apply x mod g w qg (i 0) (i 1) (i 2)

/-- The keys of the latents. -/
theorem array3_136 (x : FVec Ideal Cert.Reference3Ideal.S8x8192x1024 .f32) (mod : FVec Ideal Cert.Reference3Ideal.S16x3072 .f32) (g : FVec Ideal Cert.Reference3Ideal.S1024 .f32) (w : FVec Ideal Cert.Reference3Ideal.S1024x5120 .f32) (kg : FVec Ideal Cert.Reference3Ideal.S128 .f32) :
    Cert.Reference3Ideal.Read.val_main_v136 (F := Ideal) x mod g w kg = Cert.Kernel3Ideal.Lat.resultKeys x mod g w kg := by
  funext i
  refine (congrArg (Cert.Reference3Ideal.Read.val_main_v136 (F := Ideal) x mod g w kg) (eq_ix3 (n0 := 8) (n1 := 8192) (n2 := 512) i)).trans ?_
  exact Cert.Reference3Ideal.Lat.keys_apply x mod g w kg (i 0) (i 1) (i 2)

/-- The values of the latents. -/
theorem array3_137 (x : FVec Ideal Cert.Reference3Ideal.S8x8192x1024 .f32) (mod : FVec Ideal Cert.Reference3Ideal.S16x3072 .f32) (g : FVec Ideal Cert.Reference3Ideal.S1024 .f32) (w : FVec Ideal Cert.Reference3Ideal.S1024x5120 .f32) :
    Cert.Reference3Ideal.Read.val_main_v137 (F := Ideal) x mod g w = Cert.Kernel3Ideal.Lat.resultValues x mod g w := by
  funext i
  refine (congrArg (Cert.Reference3Ideal.Read.val_main_v137 (F := Ideal) x mod g w) (eq_ix3 (n0 := 8) (n1 := 8192) (n2 := 512) i)).trans ?_
  exact Cert.Reference3Ideal.Lat.values_apply x mod g w (i 0) (i 1) (i 2)

/-- The gates of the latents. -/
theorem array3_139 (x : FVec Ideal Cert.Reference3Ideal.S8x8192x1024 .f32) (mod : FVec Ideal Cert.Reference3Ideal.S16x3072 .f32) (g : FVec Ideal Cert.Reference3Ideal.S1024 .f32) (w : FVec Ideal Cert.Reference3Ideal.S1024x5120 .f32) :
    Cert.Reference3Ideal.Read.val_main_v139 (F := Ideal) x mod g w = Cert.Kernel3Ideal.Lat.resultGates x mod g w := by
  funext i
  refine (congrArg (Cert.Reference3Ideal.Read.val_main_v139 (F := Ideal) x mod g w) (eq_ix3 (n0 := 8) (n1 := 8192) (n2 := 2048) i)).trans ?_
  exact Cert.Reference3Ideal.Lat.gates_apply x mod g w (i 0) (i 1) (i 2)

/-- The reference runs and leaves its arguments and counters as they were. -/
theorem frame3 : Cert.quiescent_Reference3Ideal := fun m g _ =>
  (θ_run (Cert.Reference3Ideal.defs (F := Ideal)) _ _).mono
    (fun r h => ⟨fun c => (h c).2.2.2.2, sem_eq_zero_of_no_sems (by decide) r.2⟩) (Cert.Reference3Ideal.Value.run (F := Ideal) m g)

/-- Both programs leave the same arrays. -/
theorem value3 : Cert.algebraic_Kernel3Ideal_Reference3Ideal := by
  intro m g m' g' _ hargs
  refine ⟨fun c => (Cert.Kernel3Ideal.Gen.dats m 0 c).arrAt 8 Cert.Kernel3Ideal.cfg0.N, fun c => (Cert.Kernel3Ideal.Gen.dats m 0 c).arrAt 9 Cert.Kernel3Ideal.cfg0.N, fun c => (Cert.Kernel3Ideal.Gen.dats m 0 c).arrAt 10 Cert.Kernel3Ideal.cfg0.N, fun c => (Cert.Kernel3Ideal.Gen.dats m 0 c).arrAt 11 Cert.Kernel3Ideal.cfg0.N, Cert.Kernel3Ideal.Value.run_blocks m g, ?_⟩
  refine (θ_run (Cert.Reference3Ideal.defs (F := Ideal)) _ _).mono (fun r h c => ⟨?_, ?_, ?_, ?_, (h c).2.2.2.2⟩) (Cert.Reference3Ideal.Value.run (F := Ideal) m' g')
  · obtain ⟨h0, h1, h2, h3, h4, h5⟩ := hargs c
    refine ((h c).1.trans (Cert.Reference3Ideal.Read.val_main_v134_eq _)).trans ?_
    refine Eq.trans ?_ (Cert.Kernel3Ideal.Lat.final_queries m c).symm
    show Cert.Reference3Ideal.Read.val_main_v134 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) = _
    rw [h0, h1, h2, h3, h4]
    exact array3_134 _ _ _ _ _
  · obtain ⟨h0, h1, h2, h3, h4, h5⟩ := hargs c
    refine ((h c).2.1.trans (Cert.Reference3Ideal.Read.val_main_v136_eq _)).trans ?_
    refine Eq.trans ?_ (Cert.Kernel3Ideal.Lat.final_keys m c).symm
    show Cert.Reference3Ideal.Read.val_main_v136 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg5)) = _
    rw [h0, h1, h2, h3, h5]
    exact array3_136 _ _ _ _ _
  · obtain ⟨h0, h1, h2, h3, h4, h5⟩ := hargs c
    refine ((h c).2.2.1.trans (Cert.Reference3Ideal.Read.val_main_v137_eq _)).trans ?_
    refine Eq.trans ?_ (Cert.Kernel3Ideal.Lat.final_values m c).symm
    show Cert.Reference3Ideal.Read.val_main_v137 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) = _
    rw [h0, h1, h2, h3]
    exact array3_137 _ _ _ _
  · obtain ⟨h0, h1, h2, h3, h4, h5⟩ := hargs c
    refine ((h c).2.2.2.1.trans (Cert.Reference3Ideal.Read.val_main_v139_eq _)).trans ?_
    refine Eq.trans ?_ (Cert.Kernel3Ideal.Lat.final_gates m c).symm
    show Cert.Reference3Ideal.Read.val_main_v139 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) = _
    rw [h0, h1, h2, h3]
    exact array3_139 _ _ _ _

/-- The keys of the context. -/
theorem array4_43 (x : FVec Ideal Cert.Reference4Ideal.S8x256x1024 .f32) (mod : FVec Ideal Cert.Reference4Ideal.S16x3072 .f32) (g : FVec Ideal Cert.Reference4Ideal.S1024 .f32) (w : FVec Ideal Cert.Reference4Ideal.S1024x5120 .f32) (kg : FVec Ideal Cert.Reference4Ideal.S128 .f32) :
    Cert.Reference4Ideal.Read.val_main_v43 (F := Ideal) x mod g w kg = Cert.Kernel4Ideal.Ctx.resultKeys x mod g w kg := by
  funext i
  refine (congrArg (Cert.Reference4Ideal.Read.val_main_v43 (F := Ideal) x mod g w kg) (eq_ix3 (n0 := 8) (n1 := 256) (n2 := 512) i)).trans ?_
  exact Cert.Reference4Ideal.Ctx.keys_apply x mod g w kg (i 0) (i 1) (i 2)

/-- The values of the context. -/
theorem array4_45 (x : FVec Ideal Cert.Reference4Ideal.S8x256x1024 .f32) (mod : FVec Ideal Cert.Reference4Ideal.S16x3072 .f32) (g : FVec Ideal Cert.Reference4Ideal.S1024 .f32) (w : FVec Ideal Cert.Reference4Ideal.S1024x5120 .f32) :
    Cert.Reference4Ideal.Read.val_main_v45 (F := Ideal) x mod g w = Cert.Kernel4Ideal.Ctx.resultValues x mod g w := by
  funext i
  refine (congrArg (Cert.Reference4Ideal.Read.val_main_v45 (F := Ideal) x mod g w) (eq_ix3 (n0 := 8) (n1 := 256) (n2 := 512) i)).trans ?_
  exact Cert.Reference4Ideal.Ctx.values_apply x mod g w (i 0) (i 1) (i 2)

/-- The reference runs and leaves its arguments and counters as they were. -/
theorem frame4 : Cert.quiescent_Reference4Ideal := fun m g _ =>
  (θ_run (Cert.Reference4Ideal.defs (F := Ideal)) _ _).mono
    (fun r h => ⟨fun c => (h c).2.2, sem_eq_zero_of_no_sems (by decide) r.2⟩) (Cert.Reference4Ideal.Value.run (F := Ideal) m g)

/-- Both programs leave the same arrays. -/
theorem value4 : Cert.algebraic_Kernel4Ideal_Reference4Ideal := by
  intro m g m' g' _ hargs
  refine ⟨fun c => (Cert.Kernel4Ideal.Gen.dats m 0 c).arrAt 5 Cert.Kernel4Ideal.cfg0.N, fun c => (Cert.Kernel4Ideal.Gen.dats m 0 c).arrAt 6 Cert.Kernel4Ideal.cfg0.N, Cert.Kernel4Ideal.Value.run_blocks m g, ?_⟩
  refine (θ_run (Cert.Reference4Ideal.defs (F := Ideal)) _ _).mono (fun r h c => ⟨?_, ?_, (h c).2.2⟩) (Cert.Reference4Ideal.Value.run (F := Ideal) m' g')
  · obtain ⟨h0, h1, h2, h3, h4⟩ := hargs c
    refine ((h c).1.trans (Cert.Reference4Ideal.Read.val_main_v43_eq _ _)).trans ?_
    refine Eq.trans ?_ (Cert.Kernel4Ideal.Ctx.final_keys m c).symm
    show Cert.Reference4Ideal.Read.val_main_v43 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) = _
    rw [h0, h1, h2, h3, h4]
    exact array4_43 _ _ _ _ _
  · obtain ⟨h0, h1, h2, h3, h4⟩ := hargs c
    refine ((h c).2.1.trans (Cert.Reference4Ideal.Read.val_main_v45_eq _ _ _ _)).trans ?_
    refine Eq.trans ?_ (Cert.Kernel4Ideal.Ctx.final_values m c).symm
    show Cert.Reference4Ideal.Read.val_main_v45 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) = _
    rw [h0, h1, h2, h3]
    exact array4_45 _ _ _ _

/-- The modulations of the first layer. -/
theorem array5_4 (cond : FVec Ideal Cert.Reference5Ideal.S16x1024 .f32) (w : FVec Ideal Cert.Reference5Ideal.S1024x3072 .f32) (b : FVec Ideal Cert.Reference5Ideal.S3072 .f32) :
    Cert.Reference5Ideal.Read.val_main_v4 (F := Ideal) cond w b = Cert.Kernel5Ideal.Ada.result cond w b := by
  funext i
  refine (congrArg (Cert.Reference5Ideal.Read.val_main_v4 (F := Ideal) cond w b) (eq_ix2 (n0 := 16) (n1 := 3072) i)).trans ?_
  exact Cert.Reference5Ideal.Ada.first_apply cond w b (i 0) (i 1)

/-- The modulations of the second layer. -/
theorem array5_8 (cond : FVec Ideal Cert.Reference5Ideal.S16x1024 .f32) (w : FVec Ideal Cert.Reference5Ideal.S1024x3072 .f32) (b : FVec Ideal Cert.Reference5Ideal.S3072 .f32) :
    Cert.Reference5Ideal.Read.val_main_v8 (F := Ideal) cond w b = Cert.Kernel5Ideal.Ada.result cond w b := by
  funext i
  refine (congrArg (Cert.Reference5Ideal.Read.val_main_v8 (F := Ideal) cond w b) (eq_ix2 (n0 := 16) (n1 := 3072) i)).trans ?_
  exact Cert.Reference5Ideal.Ada.second_apply cond w b (i 0) (i 1)

/-- The reference runs and leaves its arguments and counters as they were. -/
theorem frame5 : Cert.quiescent_Reference5Ideal := fun m g _ =>
  (θ_run (Cert.Reference5Ideal.defs (F := Ideal)) _ _).mono
    (fun r h => ⟨fun c => (h c).2.2, sem_eq_zero_of_no_sems (by decide) r.2⟩) (Cert.Reference5Ideal.Value.run (F := Ideal) m g)

/-- Both programs leave the same arrays. -/
theorem value5 : Cert.algebraic_Kernel5Ideal_Reference5Ideal := by
  intro m g m' g' _ hargs
  refine ⟨fun c => (Cert.Kernel5Ideal.Gen.dats m 0 c).arrAt 5 Cert.Kernel5Ideal.cfg0.N, fun c => (Cert.Kernel5Ideal.Gen.dats m 0 c).arrAt 6 Cert.Kernel5Ideal.cfg0.N, Cert.Kernel5Ideal.Value.run_blocks m g, ?_⟩
  refine (θ_run (Cert.Reference5Ideal.defs (F := Ideal)) _ _).mono (fun r h c => ⟨?_, ?_, (h c).2.2⟩) (Cert.Reference5Ideal.Value.run (F := Ideal) m' g')
  · obtain ⟨h0, h1, h2, h3, h4⟩ := hargs c
    refine ((h c).1.trans (Cert.Reference5Ideal.Read.val_main_v4_eq _ _ _)).trans ?_
    refine Eq.trans ?_ (Cert.Kernel5Ideal.Ada.final_first m c).symm
    show Cert.Reference5Ideal.Read.val_main_v4 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) = _
    rw [h0, h1, h2]
    exact array5_4 _ _ _
  · obtain ⟨h0, h1, h2, h3, h4⟩ := hargs c
    refine ((h c).2.1.trans (Cert.Reference5Ideal.Read.val_main_v8_eq _ _ _)).trans ?_
    refine Eq.trans ?_ (Cert.Kernel5Ideal.Ada.final_second m c).symm
    show Cert.Reference5Ideal.Read.val_main_v8 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) = _
    rw [h0, h3, h4]
    exact array5_8 _ _ _

end Cert.Layers
end
-- ==== Proof.JoinRef.lean ====
/-
  The second layer's reference, part by part: it is the references of its four calls, one after another.
-/
module
public import proofs.«01_k».proof.Proof.Gen.Reference2Ideal.Read
public import proofs.«01_k».proof.Proof.Gen.Reference3Ideal.Read
public import proofs.«01_k».proof.Proof.Gen.Reference4Ideal.Read
public import proofs.«01_k».proof.Proof.Gen.ReferenceIdeal.Read
public import proofs.«01_k».proof.Proof.Gen.Reference5Ideal.Read
public import proofs.«01_k».proof.Proof.Gen.Reference7Ideal.Read
public import proofs.«01_k».proof.Proof.Rows
public import Idealize.ShloMosaic.Lib.Pointwise
@[expose] public section
set_option maxRecDepth 16384
noncomputable section
namespace Cert.Reference7Ideal.Layer
open Cert.Reference7Ideal Cert.Reference7Ideal.Gen Idealize.ShloMosaic.TcCoe Idealize.SL.Sem
open Idealize.ShloMosaic

variable (x : FVec Ideal S8x8192x1024 .f32) (v : FVec Ideal S8x1024 .f32) (ctx : FVec Ideal S8x256x1024 .f32) (u : FVec Ideal S1024 .f32)
  (g : FVec Ideal S1024 .f32) (aw : FVec Ideal S1024x3072 .f32) (ab : FVec Ideal S3072 .f32)
  (w : FVec Ideal S1024x5120 .f32) (qg kg : FVec Ideal S128 .f32) (wo : FVec Ideal S2048x1024 .f32) (fg : FVec Ideal S1024 .f32)

/-- The modulations, of the conditions. -/
theorem modulation_eq : Read.val_main_v7 (F := Ideal) v u aw ab = Cert.Reference5Ideal.Read.val_main_v8 (F := Ideal) (Read.val_main_v2 (F := Ideal) v u) aw ab := rfl
/-- The latents' queries. -/
theorem queries_eq : Read.val_main_v142 (F := Ideal) x v u g aw ab w qg = Cert.Reference3Ideal.Read.val_main_v134 (F := Ideal) x (Read.val_main_v7 (F := Ideal) v u aw ab) g w qg := rfl
/-- The latents' keys. -/
theorem keys_eq : Read.val_main_v144 (F := Ideal) x v u g aw ab w kg = Cert.Reference3Ideal.Read.val_main_v136 (F := Ideal) x (Read.val_main_v7 (F := Ideal) v u aw ab) g w kg := rfl
/-- The latents' values. -/
theorem values_eq : Read.val_main_v145 (F := Ideal) x v u g aw ab w = Cert.Reference3Ideal.Read.val_main_v137 (F := Ideal) x (Read.val_main_v7 (F := Ideal) v u aw ab) g w := rfl
/-- The latents' gates. -/
theorem gates_eq : Read.val_main_v147 (F := Ideal) x v u g aw ab w = Cert.Reference3Ideal.Read.val_main_v139 (F := Ideal) x (Read.val_main_v7 (F := Ideal) v u aw ab) g w := rfl
/-- The context's keys. -/
theorem ctx_keys_eq : Read.val_main_v191 (F := Ideal) v ctx u g aw ab w kg = Cert.Reference4Ideal.Read.val_main_v43 (F := Ideal) ctx (Read.val_main_v7 (F := Ideal) v u aw ab) g w kg := rfl
/-- The context's values. -/
theorem ctx_values_eq : Read.val_main_v193 (F := Ideal) v ctx u g aw ab w = Cert.Reference4Ideal.Read.val_main_v45 (F := Ideal) ctx (Read.val_main_v7 (F := Ideal) v u aw ab) g w := rfl
/-- The attention, of the queries, of all keys and values, and of the gates. -/
theorem attended_eq : Read.val_main_v224 (F := Ideal) x v ctx u g aw ab w qg kg
    = Cert.ReferenceIdeal.Read.val_main_v28 (F := Ideal) (Read.val_main_v142 (F := Ideal) x v u g aw ab w qg) (Read.val_main_v194 (F := Ideal) x v ctx u g aw ab w kg)
      (Read.val_main_v195 (F := Ideal) x v ctx u g aw ab w) (Read.val_main_v147 (F := Ideal) x v u g aw ab w) := rfl
/-- The layer's output, of what the attention leaves. -/
theorem layer_eq : Read.val_main_v247 (F := Ideal) x v ctx u g aw ab w qg kg wo fg
    = Cert.Reference2Ideal.Read.val_main_v22 (F := Ideal) (Read.val_main_v224 (F := Ideal) x v ctx u g aw ab w qg kg) x (Read.val_main_v7 (F := Ideal) v u aw ab) wo fg := rfl

/-- The conditions in sixteen rows: one of each batch, the context's, and rows of zeros. -/
def stacked (v : FVec Ideal S8x1024 .f32) (u : FVec Ideal S1024 .f32) : FVec Ideal S16x1024 .f32 := fun i =>
  if h : (i 0).val < 8 then v (ix2 ⟨(i 0).val, h⟩ (i 1)) else if (i 0).val = 8 then u (ix1 (i 1)) else 0

/-- The reference's rows of conditions are the stacked ones. -/
theorem conditions_eq : Read.val_main_v2 (F := Ideal) v u = stacked v u := by
  funext i
  obtain ⟨r, j, rfl⟩ : ∃ (r : Fin 16) (j : Fin 1024), i = ix2 r j := ⟨i 0, i 1, eq_ix2 (n0 := 16) (n1 := 1024) i⟩
  have hr := r.isLt
  show _ = if h : r.val < 8 then v (ix2 ⟨r.val, h⟩ j) else if r.val = 8 then u (ix1 j) else 0
  unfold Read.val_main_v2
  by_cases e : r.val < 8
  · rw [dif_pos e]
    refine concatenate_apply_piece (t := S16x1024) 0 _ _ _ 0 (by simp) S8x1024 v rfl rfl 0 rfl (ix2 ⟨r.val, e⟩ j) (fun b hb => ?_) ?_
    · match b with
      | ⟨0, _⟩ => exact absurd rfl hb
      | ⟨1, _⟩ => rfl
    · show 0 + r.val = r.val
      omega
  · rw [dif_neg e]
    by_cases e8 : r.val = 8
    · rw [if_pos e8]
      refine (concatenate_apply_piece (t := S16x1024) 0 _ _ _ 1 (by simp) S1x1024 (Read.val_main_v0 (F := Ideal) u) rfl rfl 8 rfl (ix2 0 j) (fun b hb => ?_) ?_).trans ?_
      · match b with
        | ⟨0, _⟩ => exact absurd rfl hb
        | ⟨1, _⟩ => rfl
      · show 8 + 0 = r.val
        omega
      · rw [Read.val_main_v0_apply]
        exact congrArg u (eq_ix1 (n0 := 1024) _)
    · rw [if_neg e8]
      refine (concatenate_apply_piece (t := S16x1024) 0 _ _ _ 2 (by simp) S7x1024 (Read.val_main_v1 (F := Ideal)) rfl rfl 9 rfl (ix2 ⟨r.val - 9, by omega⟩ j) (fun b hb => ?_) ?_).trans ?_
      · match b with
        | ⟨0, _⟩ => exact absurd rfl hb
        | ⟨1, _⟩ => rfl
      · show 9 + (r.val - 9) = r.val
        omega
      · rw [Read.val_main_v1_apply, Read.val_main_cst_apply]
        show Ideal.ofBits .f32 0x00000000#32 = 0
        simp [Ideal.ofBits, Ideal.ieee]

end Cert.Reference7Ideal.Layer
end
-- ==== Proof.JoinAda.lean ====
/-
  The modulations' call within the whole layer, of the conditions the host has set into sixteen rows.
-/
module
public import proofs.«01_k».proof.Proof.Ada
public import proofs.«01_k».proof.Proof.JoinRef
public import proofs.«01_k».proof.Proof.Gen.Kernel7Ideal.Frame
public import Idealize.ShloMosaic.Lib.Routing.OpsSet
@[expose] public section
set_option maxRecDepth 16384
noncomputable section
namespace Cert.Kernel7Ideal.Layer
open Cert.Kernel7Ideal Cert.Kernel7Ideal.Gen Idealize.ShloMosaic.TcCoe Idealize.SL.Sem
open Idealize.ShloMosaic
open Idealize.ShloMosaic.Pipeline (Dat)
open Cert.Reference7Ideal.Layer (stacked)

/-- The second layer's modulations, of the conditions of the batches and of the context. -/
def modulation (v : FVec Ideal S8x1024 .f32) (u : FVec Ideal S1024 .f32) (aw : FVec Ideal S1024x3072 .f32) (ab : FVec Ideal S3072 .f32) : FVec Ideal S16x3072 .f32 :=
  Cert.Kernel5Ideal.Ada.result (stacked v u) aw ab

/-- Setting the batches' rows: row `r` of the update lands at row `r`. -/
theorem lands_batches (idx : IVec S1 32) (h : (idx (ix1 0)).toInt = 0) (r' : Fin 8) (j' : Fin 1024) (r : Fin 16) (j : Fin 1024) :
    scatter_S16x1024_S1_S8x1024_01_n_0_0.resultIdx? (ix2 r' j') idx = some (ix2 r j) ↔ r'.val = r.val ∧ j' = j := by
  have s0 : scatter_S16x1024_S1_S8x1024_01_n_0_0.start (ix2 r' j') idx 0 = 0 := by
    rw [← h]
    exact congrArg (fun q => (idx q).toInt) ((eq_ix1 (n0 := 1) _).trans (congrArg ix1 (Subsingleton.elim (α := Fin 1) _ _)))
  have s1 : scatter_S16x1024_S1_S8x1024_01_n_0_0.start (ix2 r' j') idx 1 = 0 := rfl
  have w0 : scatter_S16x1024_S1_S8x1024_01_n_0_0.window (ix2 r' j') 0 = r'.val := rfl
  have w1 : scatter_S16x1024_S1_S8x1024_01_n_0_0.window (ix2 r' j') 1 = j'.val := rfl
  refine (Routing.resultIdx?_ix2 (R := 16) (C := 1024) _ _ _ _ _).trans ?_
  rw [s0, s1, w0, w1, Fin.ext_iff]
  omega

/-- Setting the context's row: the update lands at row 8. -/
theorem lands_context (idx : IVec S1 32) (h : (idx (ix1 0)).toInt = 8) (j' : Fin 1024) (r : Fin 16) (j : Fin 1024) :
    scatter_S16x1024_S1_S1024_0_0_0_0.resultIdx? (ix1 j') idx = some (ix2 r j) ↔ r.val = 8 ∧ j' = j := by
  have s0 : scatter_S16x1024_S1_S1024_0_0_0_0.start (ix1 j') idx 0 = 8 := by
    rw [← h]
    exact congrArg (fun q => (idx q).toInt) ((eq_ix1 (n0 := 1) _).trans (congrArg ix1 (Subsingleton.elim (α := Fin 1) _ _)))
  have s1 : scatter_S16x1024_S1_S1024_0_0_0_0.start (ix1 j') idx 1 = 0 := rfl
  have w0 : scatter_S16x1024_S1_S1024_0_0_0_0.window (ix1 j') 0 = 0 := rfl
  have w1 : scatter_S16x1024_S1_S1024_0_0_0_0.window (ix1 j') 1 = j'.val := rfl
  refine (Routing.resultIdx?_ix2 (R := 16) (C := 1024) _ _ _ _ _).trans ?_
  rw [s0, s1, w0, w1, Fin.ext_iff]
  omega

/-- The conditions the host sets are the stacked ones. -/
theorem set_rows (v : FVec Ideal S8x1024 .f32) (u : FVec Ideal S1024 .f32) (zero : FVec Ideal S16x1024 .f32) (hz : ∀ i, zero i = 0) (i0 i8 : IVec S1 32)
    (h0 : (i0 (ix1 0)).toInt = 0) (h8 : (i8 (ix1 0)).toInt = 8) :
    Host.scatter scatter_S16x1024_S1_S1024_0_0_0_0 (fun _ b => b) (Host.scatter scatter_S16x1024_S1_S8x1024_01_n_0_0 (fun _ b => b) zero i0 v) i8 u = stacked v u := by
  funext i
  obtain ⟨r, j, rfl⟩ : ∃ (r : Fin 16) (j : Fin 1024), i = ix2 r j := ⟨i 0, i 1, eq_ix2 (n0 := 16) (n1 := 1024) i⟩
  have lc : ∀ k : S1024.Idx, scatter_S16x1024_S1_S1024_0_0_0_0.resultIdx? k i8 = some (ix2 r j) → r.val = 8 ∧ k 0 = j := fun k hk =>
    (lands_context i8 h8 (k 0) r j).1 ((congrArg (fun t => scatter_S16x1024_S1_S1024_0_0_0_0.resultIdx? t i8) (eq_ix1 k).symm).trans hk)
  have lb : ∀ k : S8x1024.Idx, scatter_S16x1024_S1_S8x1024_01_n_0_0.resultIdx? k i0 = some (ix2 r j) → (k 0).val = r.val ∧ k 1 = j := fun k hk =>
    (lands_batches i0 h0 (k 0) (k 1) r j).1 ((congrArg (fun t => scatter_S16x1024_S1_S8x1024_01_n_0_0.resultIdx? t i0) (eq_ix2 (n0 := 8) (n1 := 1024) k).symm).trans hk)
  show _ = if h : r.val < 8 then v (ix2 ⟨r.val, h⟩ j) else if r.val = 8 then u (ix1 j) else 0
  by_cases e8 : r.val = 8
  · rw [dif_neg (by omega), if_pos e8]
    refine Routing.scatter_set_hit _ _ _ _ _ _ (fun k hk => ?_) (ix1 j) ((lands_context i8 h8 j r j).2 ⟨e8, rfl⟩)
    rw [← (lc k hk).2]
    exact congrArg u (eq_ix1 k)
  · rw [Routing.scatter_set_miss _ _ _ _ _ fun k hk => e8 (lc k hk).1]
    by_cases e : r.val < 8
    · rw [dif_pos e]
      refine Routing.scatter_set_hit _ _ _ _ _ _ (fun k hk => ?_) (ix2 ⟨r.val, e⟩ j) ((lands_batches i0 h0 ⟨r.val, e⟩ j r j).2 ⟨rfl, rfl⟩)
      obtain ⟨a0, a1⟩ := lb k hk
      rw [← a1, show (⟨r.val, e⟩ : Fin 8) = k 0 from Fin.ext a0.symm]
      exact congrArg v (eq_ix2 (n0 := 8) (n1 := 1024) k)
    · rw [dif_neg e, if_neg e8, Routing.scatter_set_miss _ _ _ _ _ fun k hk => e (by have := (lb k hk).1; have h8 : (k 0).val < 8 := (k 0).isLt; omega)]
      exact hz _

/-- A memory of the call alone. -/
abbrev AdaMemory : Type := (ℓ : Loc Cert.Kernel5Ideal.nD Cert.Kernel5Ideal.τ Cert.Kernel5Ideal.sig) → Buf (Elt Ideal) ℓ

/-- The call alone can be handed any five arrays. -/
theorem ada_memory (c : Dev nD) (x : FVec Ideal S16x1024 .f32) (w : FVec Ideal S1024x3072 .f32) (b : FVec Ideal S3072 .f32) (w' : FVec Ideal S1024x3072 .f32)
    (b' : FVec Ideal S3072 .f32) : ∃ a : AdaMemory, a ((c : Thread Cert.Kernel5Ideal.nD Cert.Kernel5Ideal.τ).loc Cert.Kernel5Ideal.main_arg0) = x
      ∧ a ((c : Thread Cert.Kernel5Ideal.nD Cert.Kernel5Ideal.τ).loc Cert.Kernel5Ideal.main_arg1) = w ∧ a ((c : Thread Cert.Kernel5Ideal.nD Cert.Kernel5Ideal.τ).loc Cert.Kernel5Ideal.main_arg2) = b
      ∧ a ((c : Thread Cert.Kernel5Ideal.nD Cert.Kernel5Ideal.τ).loc Cert.Kernel5Ideal.main_arg3) = w' ∧ a ((c : Thread Cert.Kernel5Ideal.nD Cert.Kernel5Ideal.τ).loc Cert.Kernel5Ideal.main_arg4) = b' := by
  classical
  obtain ⟨f⟩ : Nonempty (Valuation Cert.Kernel5Ideal.τ Cert.Kernel5Ideal.sig (Elt Ideal)) := inferInstance
  refine ⟨fun ℓ => (Function.update (Function.update (Function.update (Function.update (Function.update f
    (Proc.devRef .tc Cert.Kernel5Ideal.main_arg0) x) (Proc.devRef .tc Cert.Kernel5Ideal.main_arg1) w) (Proc.devRef .tc Cert.Kernel5Ideal.main_arg2) b)
    (Proc.devRef .tc Cert.Kernel5Ideal.main_arg3) w') (Proc.devRef .tc Cert.Kernel5Ideal.main_arg4) b') ℓ.2, ?_, ?_, ?_, ?_, ?_⟩
  · exact (Function.update_of_ne (by decide +revert) _ _).trans ((Function.update_of_ne (by decide +revert) _ _).trans ((Function.update_of_ne (by decide +revert) _ _).trans ((Function.update_of_ne (by decide +revert) _ _).trans (Function.update_self _ _ _))))
  · exact (Function.update_of_ne (by decide +revert) _ _).trans ((Function.update_of_ne (by decide +revert) _ _).trans ((Function.update_of_ne (by decide +revert) _ _).trans (Function.update_self _ _ _)))
  · exact (Function.update_of_ne (by decide +revert) _ _).trans ((Function.update_of_ne (by decide +revert) _ _).trans (Function.update_self _ _ _))
  · exact (Function.update_of_ne (by decide +revert) _ _).trans (Function.update_self _ _ _)
  · exact Function.update_self _ _ _

/-- The call finds in the layer what it finds alone. -/
structure AdaSame (V : (c : Dev nD) → (b : Ref sig .tc) → Buf (Elt Ideal) ((c : Thread nD τ).loc b)) (a : AdaMemory) (c : Dev nD) : Prop where
  cond : V c main_v4 = Cert.Kernel5Ideal.Gen.V a c Cert.Kernel5Ideal.main_arg0
  firstWeight : V c main_arg4 = Cert.Kernel5Ideal.Gen.V a c Cert.Kernel5Ideal.main_arg1
  firstBias : V c main_v5 = Cert.Kernel5Ideal.Gen.V a c Cert.Kernel5Ideal.main_v0
  weight : V c main_arg7 = Cert.Kernel5Ideal.Gen.V a c Cert.Kernel5Ideal.main_arg3
  bias : V c main_v6 = Cert.Kernel5Ideal.Gen.V a c Cert.Kernel5Ideal.main_v1

variable {V : (c : Dev nD) → (b : Ref sig .tc) → Buf (Elt Ideal) ((c : Thread nD τ).loc b)} {a : AdaMemory} {c : Dev nD}

theorem ada_block0 (h : AdaSame V a c) (t : Fin cfg0.N) : iblk0 V c 0 t = Cert.Kernel5Ideal.Gen.iblk a c 0 t := funext fun _ => congrFun h.cond _
theorem ada_block1 (h : AdaSame V a c) (t : Fin cfg0.N) : iblk0 V c 1 t = Cert.Kernel5Ideal.Gen.iblk a c 1 t := funext fun _ => congrFun h.firstWeight _
theorem ada_block2 (h : AdaSame V a c) (t : Fin cfg0.N) : iblk0 V c 2 t = Cert.Kernel5Ideal.Gen.iblk a c 2 t := funext fun _ => congrFun h.firstBias _
theorem ada_block3 (h : AdaSame V a c) (t : Fin cfg0.N) : iblk0 V c 3 t = Cert.Kernel5Ideal.Gen.iblk a c 3 t := funext fun _ => congrFun h.weight _
theorem ada_block4 (h : AdaSame V a c) (t : Fin cfg0.N) : iblk0 V c 4 t = Cert.Kernel5Ideal.Gen.iblk a c 4 t := funext fun _ => congrFun h.bias _

/-- A block of columns as the call works it out in the layer, where it first casts the conditions to the shape they have. -/
theorem ada_columns (x0 : Vec Ideal S16x1024 .f32) (x1 : Vec Ideal S1024x1024 .f32) (x2 : Vec Ideal S1x1024 .f32) (x3 : Vec Ideal S1024x1024 .f32) (x4 : Vec Ideal S1x1024 .f32) :
    out0_6 (F := Ideal) x0 x1 x2 x3 x4 = Cert.Kernel5Ideal.Gen.out0_6 (F := Ideal) x0 x1 x2 x3 x4 := by
  rw [Cert.Kernel5Ideal.Ada.out_second]
  funext y
  unfold out0_6
  rw [View.canon_cons_unit_lit _ _ _ (by decide)]
  refine (congrArg _ (eq_ix2 (n0 := 16) (n1 := 1024) y)).trans ?_
  generalize y 0 = r
  generalize y 1 = j
  pointwise [k0_pay1, k0_pay3]
  rfl

/-- The second layer's modulations the call leaves. -/
theorem ada_result (h : AdaSame V a c) : (dat0 V c).arrAt 6 cfg0.N = (Cert.Kernel5Ideal.Gen.dats a 0 c).arrAt 6 Cert.Kernel5Ideal.cfg0.N := by
  rw [Cert.Kernel5Ideal.Ada.final_second]
  refine (dat0 V c).arrAt_eq_of_covers 6 _ (by decide +kernel) fun t hf y => ?_
  obtain ⟨h0, h1⟩ := Cert.Kernel5Ideal.Ada.places6 t
  rw [after0_6, ada_block0 h, ada_block1 h, ada_block2 h, ada_block3 h, ada_block4 h, ada_columns]
  refine (cast_eq _ _).trans ?_
  refine Cert.Kernel5Ideal.Ada.second_result a c t _ _ ?_ ?_
  · refine (Pipeline.Window.rect_emb_val win0_6 t y 0).trans ?_
    show Cert.Kernel5Ideal.win0_6.index t 0 * 16 + (y 0).val = (y 0).val
    omega
  · refine (Pipeline.Window.rect_emb_val win0_6 t y 1).trans ?_
    show Cert.Kernel5Ideal.win0_6.index t 1 * 1024 + (y 1).val = t.val * 1024 + (y 1).val
    omega

variable (m : (ℓ : Loc nD τ sig) → Buf (Elt Ideal) ℓ) (ρ : Dev nD → PrngReg)

/-- The conditions the call finds. -/
theorem conditions (c : Dev nD) : V1 m ρ c main_v4 = stacked (m ((c : Thread nD τ).loc main_arg1)) (m ((c : Thread nD τ).loc main_arg3)) := by
  refine Eq.trans ?_ (set_rows (m ((c : Thread nD τ).loc main_arg1)) (m ((c : Thread nD τ).loc main_arg3))
    (broadcastInDim S16x1024 ![] bcast_S_S16x1024 (constant (F := Ideal) S_ .f32 0x00000000#32)) (fun i => ?_)
    (broadcastInDim S1 ![] bcast_S_S1 (constantI S_ 32 0#32)) (broadcastInDim S1 ![] bcast_S_S1 (constantI S_ 32 8#32)) rfl rfl)
  · unfold V1 W1 hostOps0
    after_results_simp
  · show Ideal.ofBits .f32 0x00000000#32 = 0
    simp [Ideal.ofBits, Ideal.ieee]

/-- The second layer's modulations after the call. -/
theorem modulations (c : Dev nD) : W2 m ρ c (Proc.devRef .tc main_v7_1)
    = modulation (m ((c : Thread nD τ).loc main_arg1)) (m ((c : Thread nD τ).loc main_arg3)) (m ((c : Thread nD τ).loc main_arg7)) (m ((c : Thread nD τ).loc main_arg8)) := by
  obtain ⟨a, h0, h1, h2, h3, h4⟩ := ada_memory c (V1 m ρ c main_v4) (m ((c : Thread nD τ).loc main_arg4)) (m ((c : Thread nD τ).loc main_arg5))
    (m ((c : Thread nD τ).loc main_arg7)) (m ((c : Thread nD τ).loc main_arg8))
  have h : AdaSame (V1 m ρ) a c :=
    { cond := h0.symm
      firstWeight := (W1_args m ρ c main_arg4 (by decide)).trans h1.symm
      firstBias := by
        rw [Cert.Kernel5Ideal.Ada.host_first, h2]
        unfold V1 W1 hostOps0
        after_results_simp
        rfl
      weight := (W1_args m ρ c main_arg7 (by decide)).trans h3.symm
      bias := by
        rw [Cert.Kernel5Ideal.Ada.host_second, h4]
        unfold V1 W1 hostOps0
        after_results_simp
        rfl }
  refine ((W2_arr m ρ c 6).trans (ada_result h)).trans ((Cert.Kernel5Ideal.Ada.final_second a c).trans ?_)
  rw [h0, h3, h4, conditions]
  rfl
end Cert.Kernel7Ideal.Layer
end
-- ==== Proof.JoinLat.lean ====
/-
  The second layer's first own call, within the whole layer: it leaves the queries, keys, values and gates the call leaves when it runs alone.
-/
module
public import proofs.«01_k».proof.Proof.LatFinal
public import proofs.«01_k».proof.Proof.Gen.Kernel7Ideal.Frame
@[expose] public section
set_option maxRecDepth 16384
noncomputable section
namespace Cert.Kernel7Ideal.Layer
open Cert.Kernel7Ideal Cert.Kernel7Ideal.Gen Idealize.ShloMosaic.TcCoe Idealize.SL.Sem
open Idealize.ShloMosaic
open Idealize.ShloMosaic.Pipeline (Dat)

/-- A memory of the call alone. -/
abbrev LatMemory : Type := (ℓ : Loc Cert.Kernel3Ideal.nD Cert.Kernel3Ideal.τ Cert.Kernel3Ideal.sig) → Buf (Elt Ideal) ℓ

/-- The call alone can be handed any six arrays. -/
theorem lat_memory (c : Dev nD) (x : FVec Ideal S8x8192x1024 .f32) (mod : FVec Ideal S16x3072 .f32) (g : FVec Ideal S1024 .f32) (w : FVec Ideal S1024x5120 .f32)
    (qg kg : FVec Ideal S128 .f32) : ∃ a : LatMemory, a ((c : Thread Cert.Kernel3Ideal.nD Cert.Kernel3Ideal.τ).loc Cert.Kernel3Ideal.main_arg0) = x
      ∧ a ((c : Thread Cert.Kernel3Ideal.nD Cert.Kernel3Ideal.τ).loc Cert.Kernel3Ideal.main_arg1) = mod ∧ a ((c : Thread Cert.Kernel3Ideal.nD Cert.Kernel3Ideal.τ).loc Cert.Kernel3Ideal.main_arg2) = g
      ∧ a ((c : Thread Cert.Kernel3Ideal.nD Cert.Kernel3Ideal.τ).loc Cert.Kernel3Ideal.main_arg3) = w ∧ a ((c : Thread Cert.Kernel3Ideal.nD Cert.Kernel3Ideal.τ).loc Cert.Kernel3Ideal.main_arg4) = qg
      ∧ a ((c : Thread Cert.Kernel3Ideal.nD Cert.Kernel3Ideal.τ).loc Cert.Kernel3Ideal.main_arg5) = kg := by
  classical
  obtain ⟨b⟩ : Nonempty (Valuation Cert.Kernel3Ideal.τ Cert.Kernel3Ideal.sig (Elt Ideal)) := inferInstance
  refine ⟨fun ℓ => (Function.update (Function.update (Function.update (Function.update (Function.update (Function.update b
    (Proc.devRef .tc Cert.Kernel3Ideal.main_arg0) x) (Proc.devRef .tc Cert.Kernel3Ideal.main_arg1) mod) (Proc.devRef .tc Cert.Kernel3Ideal.main_arg2) g)
    (Proc.devRef .tc Cert.Kernel3Ideal.main_arg3) w) (Proc.devRef .tc Cert.Kernel3Ideal.main_arg4) qg) (Proc.devRef .tc Cert.Kernel3Ideal.main_arg5) kg) ℓ.2, ?_, ?_, ?_, ?_, ?_, ?_⟩
  · exact (Function.update_of_ne (by decide +revert) _ _).trans ((Function.update_of_ne (by decide +revert) _ _).trans ((Function.update_of_ne (by decide +revert) _ _).trans ((Function.update_of_ne (by decide +revert) _ _).trans ((Function.update_of_ne (by decide +revert) _ _).trans (Function.update_self _ _ _)))))
  · exact (Function.update_of_ne (by decide +revert) _ _).trans ((Function.update_of_ne (by decide +revert) _ _).trans ((Function.update_of_ne (by decide +revert) _ _).trans ((Function.update_of_ne (by decide +revert) _ _).trans (Function.update_self _ _ _))))
  · exact (Function.update_of_ne (by decide +revert) _ _).trans ((Function.update_of_ne (by decide +revert) _ _).trans ((Function.update_of_ne (by decide +revert) _ _).trans (Function.update_self _ _ _)))
  · exact (Function.update_of_ne (by decide +revert) _ _).trans ((Function.update_of_ne (by decide +revert) _ _).trans (Function.update_self _ _ _))
  · exact (Function.update_of_ne (by decide +revert) _ _).trans (Function.update_self _ _ _)
  · exact Function.update_self _ _ _

/-- The call finds in the layer what it finds alone. -/
structure LatSame (V : (c : Dev nD) → (b : Ref sig .tc) → Buf (Elt Ideal) ((c : Thread nD τ).loc b)) (a : LatMemory) (c : Dev nD) : Prop where
  x : V c main_arg0 = Cert.Kernel3Ideal.Gen.V a c Cert.Kernel3Ideal.main_arg0
  mod : V c main_v8 = Cert.Kernel3Ideal.Gen.V a c Cert.Kernel3Ideal.main_v44
  norm : V c main_v54 = Cert.Kernel3Ideal.Gen.V a c Cert.Kernel3Ideal.main_v45
  weight : V c main_v13 = Cert.Kernel3Ideal.Gen.V a c Cert.Kernel3Ideal.main_v46
  queryGain : V c main_v11 = Cert.Kernel3Ideal.Gen.V a c Cert.Kernel3Ideal.main_v2
  keyGain : V c main_v12 = Cert.Kernel3Ideal.Gen.V a c Cert.Kernel3Ideal.main_v3
  cos : V c main_v46 = Cert.Kernel3Ideal.Gen.V a c Cert.Kernel3Ideal.main_v36
  sin : V c main_v53 = Cert.Kernel3Ideal.Gen.V a c Cert.Kernel3Ideal.main_v43

variable {V : (c : Dev nD) → (b : Ref sig .tc) → Buf (Elt Ideal) ((c : Thread nD τ).loc b)} {a : LatMemory} {c : Dev nD}

theorem lat_block0 (h : LatSame V a c) (t : Fin cfg1.N) : iblk1 V c 0 t = Cert.Kernel3Ideal.Gen.iblk a c 0 t := funext fun _ => congrFun h.x _
theorem lat_block1 (h : LatSame V a c) (t : Fin cfg1.N) : iblk1 V c 1 t = Cert.Kernel3Ideal.Gen.iblk a c 1 t := funext fun _ => congrFun h.mod _
theorem lat_block2 (h : LatSame V a c) (t : Fin cfg1.N) : iblk1 V c 2 t = Cert.Kernel3Ideal.Gen.iblk a c 2 t := funext fun _ => congrFun h.norm _
theorem lat_block3 (h : LatSame V a c) (t : Fin cfg1.N) : iblk1 V c 3 t = Cert.Kernel3Ideal.Gen.iblk a c 3 t := funext fun _ => congrFun h.weight _
theorem lat_block4 (h : LatSame V a c) (t : Fin cfg1.N) : iblk1 V c 4 t = Cert.Kernel3Ideal.Gen.iblk a c 4 t := funext fun _ => congrFun h.queryGain _
theorem lat_block5 (h : LatSame V a c) (t : Fin cfg1.N) : iblk1 V c 5 t = Cert.Kernel3Ideal.Gen.iblk a c 5 t := funext fun _ => congrFun h.keyGain _
theorem lat_block6 (h : LatSame V a c) (t : Fin cfg1.N) : iblk1 V c 6 t = Cert.Kernel3Ideal.Gen.iblk a c 6 t := funext fun _ => congrFun h.cos _
theorem lat_block7 (h : LatSame V a c) (t : Fin cfg1.N) : iblk1 V c 7 t = Cert.Kernel3Ideal.Gen.iblk a c 7 t := funext fun _ => congrFun h.sin _

/-- The queries the call leaves. -/
theorem lat_queries (h : LatSame V a c) : (dat1 V c).arrAt 8 cfg1.N = (Cert.Kernel3Ideal.Gen.dats a 0 c).arrAt 8 Cert.Kernel3Ideal.cfg0.N := by
  rw [Cert.Kernel3Ideal.Lat.final_queries]
  refine (dat1 V c).arrAt_eq_of_covers 8 _ (by decide +kernel) fun t hf y => ?_
  obtain ⟨h0, h1, h2⟩ := Cert.Kernel3Ideal.Lat.places8 t
  have y0 : (y 0).val < 1 := (y 0).isLt
  rw [after1_8, lat_block0 h, lat_block1 h, lat_block2 h, lat_block3 h, lat_block4 h, lat_block5 h, lat_block6 h, lat_block7 h]
  refine (cast_eq _ _).trans ?_
  refine Cert.Kernel3Ideal.Lat.queries_result a c t _ _ ?_ ?_ ?_
  · refine (Pipeline.Window.rect_emb_val win1_8 t y 0).trans ?_
    show Cert.Kernel3Ideal.win0_8.index t 0 * 1 + (y 0).val = t.val / 16
    omega
  · refine (Pipeline.Window.rect_emb_val win1_8 t y 1).trans ?_
    show Cert.Kernel3Ideal.win0_8.index t 1 * 512 + (y 1).val = t.val % 16 * 512 + (y 1).val
    omega
  · refine (Pipeline.Window.rect_emb_val win1_8 t y 2).trans ?_
    show Cert.Kernel3Ideal.win0_8.index t 2 * 2048 + (y 2).val = (y 2).val
    omega

/-- The keys the call leaves. -/
theorem lat_keys (h : LatSame V a c) : (dat1 V c).arrAt 9 cfg1.N = (Cert.Kernel3Ideal.Gen.dats a 0 c).arrAt 9 Cert.Kernel3Ideal.cfg0.N := by
  rw [Cert.Kernel3Ideal.Lat.final_keys]
  refine (dat1 V c).arrAt_eq_of_covers 9 _ (by decide +kernel) fun t hf y => ?_
  obtain ⟨h0, h1, h2⟩ := Cert.Kernel3Ideal.Lat.places9 t
  have y0 : (y 0).val < 1 := (y 0).isLt
  rw [after1_9, lat_block0 h, lat_block1 h, lat_block2 h, lat_block3 h, lat_block4 h, lat_block5 h, lat_block6 h, lat_block7 h]
  refine (cast_eq _ _).trans ?_
  refine Cert.Kernel3Ideal.Lat.keys_result a c t _ _ ?_ ?_ ?_
  · refine (Pipeline.Window.rect_emb_val win1_9 t y 0).trans ?_
    show Cert.Kernel3Ideal.win0_9.index t 0 * 1 + (y 0).val = t.val / 16
    omega
  · refine (Pipeline.Window.rect_emb_val win1_9 t y 1).trans ?_
    show Cert.Kernel3Ideal.win0_9.index t 1 * 512 + (y 1).val = t.val % 16 * 512 + (y 1).val
    omega
  · refine (Pipeline.Window.rect_emb_val win1_9 t y 2).trans ?_
    show Cert.Kernel3Ideal.win0_9.index t 2 * 512 + (y 2).val = (y 2).val
    omega

/-- The values the call leaves. -/
theorem lat_values (h : LatSame V a c) : (dat1 V c).arrAt 10 cfg1.N = (Cert.Kernel3Ideal.Gen.dats a 0 c).arrAt 10 Cert.Kernel3Ideal.cfg0.N := by
  rw [Cert.Kernel3Ideal.Lat.final_values]
  refine (dat1 V c).arrAt_eq_of_covers 10 _ (by decide +kernel) fun t hf y => ?_
  obtain ⟨h0, h1, h2⟩ := Cert.Kernel3Ideal.Lat.places10 t
  have y0 : (y 0).val < 1 := (y 0).isLt
  rw [after1_10, lat_block0 h, lat_block1 h, lat_block2 h, lat_block3 h, lat_block4 h, lat_block5 h, lat_block6 h, lat_block7 h]
  refine (cast_eq _ _).trans ?_
  refine Cert.Kernel3Ideal.Lat.values_result a c t _ _ ?_ ?_ ?_
  · refine (Pipeline.Window.rect_emb_val win1_10 t y 0).trans ?_
    show Cert.Kernel3Ideal.win0_10.index t 0 * 1 + (y 0).val = t.val / 16
    omega
  · refine (Pipeline.Window.rect_emb_val win1_10 t y 1).trans ?_
    show Cert.Kernel3Ideal.win0_10.index t 1 * 512 + (y 1).val = t.val % 16 * 512 + (y 1).val
    omega
  · refine (Pipeline.Window.rect_emb_val win1_10 t y 2).trans ?_
    show Cert.Kernel3Ideal.win0_10.index t 2 * 512 + (y 2).val = (y 2).val
    omega

/-- The gates the call leaves. -/
theorem lat_gates (h : LatSame V a c) : (dat1 V c).arrAt 11 cfg1.N = (Cert.Kernel3Ideal.Gen.dats a 0 c).arrAt 11 Cert.Kernel3Ideal.cfg0.N := by
  rw [Cert.Kernel3Ideal.Lat.final_gates]
  refine (dat1 V c).arrAt_eq_of_covers 11 _ (by decide +kernel) fun t hf y => ?_
  obtain ⟨h0, h1, h2⟩ := Cert.Kernel3Ideal.Lat.places11 t
  have y0 : (y 0).val < 1 := (y 0).isLt
  rw [after1_11, lat_block0 h, lat_block1 h, lat_block2 h, lat_block3 h, lat_block4 h, lat_block5 h, lat_block6 h, lat_block7 h]
  refine (cast_eq _ _).trans ?_
  refine Cert.Kernel3Ideal.Lat.gates_result a c t _ _ ?_ ?_ ?_
  · refine (Pipeline.Window.rect_emb_val win1_11 t y 0).trans ?_
    show Cert.Kernel3Ideal.win0_11.index t 0 * 1 + (y 0).val = t.val / 16
    omega
  · refine (Pipeline.Window.rect_emb_val win1_11 t y 1).trans ?_
    show Cert.Kernel3Ideal.win0_11.index t 1 * 512 + (y 1).val = t.val % 16 * 512 + (y 1).val
    omega
  · refine (Pipeline.Window.rect_emb_val win1_11 t y 2).trans ?_
    show Cert.Kernel3Ideal.win0_11.index t 2 * 2048 + (y 2).val = (y 2).val
    omega

variable (m : (ℓ : Loc nD τ sig) → Buf (Elt Ideal) ℓ) (ρ : Dev nD → PrngReg)

/-- What the host prepares for the call is what it prepares for the call alone. -/
theorem lat_same (h0 : m ((c : Thread nD τ).loc main_arg0) = a ((c : Thread Cert.Kernel3Ideal.nD Cert.Kernel3Ideal.τ).loc Cert.Kernel3Ideal.main_arg0))
    (h1 : W2 m ρ c (Proc.devRef .tc main_v7_1) = a ((c : Thread Cert.Kernel3Ideal.nD Cert.Kernel3Ideal.τ).loc Cert.Kernel3Ideal.main_arg1))
    (h2 : m ((c : Thread nD τ).loc main_arg6) = a ((c : Thread Cert.Kernel3Ideal.nD Cert.Kernel3Ideal.τ).loc Cert.Kernel3Ideal.main_arg2))
    (h3 : m ((c : Thread nD τ).loc main_arg9) = a ((c : Thread Cert.Kernel3Ideal.nD Cert.Kernel3Ideal.τ).loc Cert.Kernel3Ideal.main_arg3))
    (h4 : m ((c : Thread nD τ).loc main_arg10) = a ((c : Thread Cert.Kernel3Ideal.nD Cert.Kernel3Ideal.τ).loc Cert.Kernel3Ideal.main_arg4))
    (h5 : m ((c : Thread nD τ).loc main_arg11) = a ((c : Thread Cert.Kernel3Ideal.nD Cert.Kernel3Ideal.τ).loc Cert.Kernel3Ideal.main_arg5)) : LatSame (V3 m ρ) a c where
  x := (W3_args m ρ c main_arg0 (by decide)).trans h0
  mod := by
    rw [Cert.Kernel3Ideal.Lat.host_mod, ← h1]
    unfold V3 W3 hostOps1
    after_results_simp
    rfl
  norm := by
    rw [Cert.Kernel3Ideal.Lat.host_norm, ← h2, ← W2_args m ρ c main_arg6 (by decide)]
    unfold V3 W3 hostOps1
    after_results_simp
    rfl
  weight := by
    rw [Cert.Kernel3Ideal.Lat.host_weight, ← h3, ← W2_args m ρ c main_arg9 (by decide)]
    unfold V3 W3 hostOps1
    after_results_simp
  queryGain := by
    unfold V3 W3 hostOps1 Cert.Kernel3Ideal.Gen.V Cert.Kernel3Ideal.Gen.hostOps0
    after_results_simp
    rw [← h4, ← W2_args m ρ c main_arg10 (by decide)]
    rfl
  keyGain := by
    rw [Cert.Kernel3Ideal.Lat.host_gain, ← h5, ← W2_args m ρ c main_arg11 (by decide)]
    unfold V3 W3 hostOps1
    after_results_simp
    rfl
  cos := by
    unfold V3 W3 hostOps1 Cert.Kernel3Ideal.Gen.V Cert.Kernel3Ideal.Gen.hostOps0
    after_results_simp
    rfl
  sin := by
    unfold V3 W3 hostOps1 Cert.Kernel3Ideal.Gen.V Cert.Kernel3Ideal.Gen.hostOps0
    after_results_simp
    rfl
end Cert.Kernel7Ideal.Layer
end
-- ==== Proof.JoinCtx.lean ====
/-
  The second layer's second own call, within the whole layer: it leaves the context's keys and values as when it runs alone.
-/
module
public import proofs.«01_k».proof.Proof.Ctx
public import proofs.«01_k».proof.Proof.Gen.Kernel7Ideal.Frame
@[expose] public section
set_option maxRecDepth 16384
noncomputable section
namespace Cert.Kernel7Ideal.Layer
open Cert.Kernel7Ideal Cert.Kernel7Ideal.Gen Idealize.ShloMosaic.TcCoe Idealize.SL.Sem
open Idealize.ShloMosaic
open Idealize.ShloMosaic.Pipeline (Dat)

/-- A memory of the call alone. -/
abbrev CtxMemory : Type := (ℓ : Loc Cert.Kernel4Ideal.nD Cert.Kernel4Ideal.τ Cert.Kernel4Ideal.sig) → Buf (Elt Ideal) ℓ

/-- The call alone can be handed any five arrays. -/
theorem ctx_memory (c : Dev nD) (x : FVec Ideal S8x256x1024 .f32) (mod : FVec Ideal S16x3072 .f32) (g : FVec Ideal S1024 .f32) (w : FVec Ideal S1024x5120 .f32)
    (kg : FVec Ideal S128 .f32) : ∃ a : CtxMemory, a ((c : Thread Cert.Kernel4Ideal.nD Cert.Kernel4Ideal.τ).loc Cert.Kernel4Ideal.main_arg0) = x
      ∧ a ((c : Thread Cert.Kernel4Ideal.nD Cert.Kernel4Ideal.τ).loc Cert.Kernel4Ideal.main_arg1) = mod ∧ a ((c : Thread Cert.Kernel4Ideal.nD Cert.Kernel4Ideal.τ).loc Cert.Kernel4Ideal.main_arg2) = g
      ∧ a ((c : Thread Cert.Kernel4Ideal.nD Cert.Kernel4Ideal.τ).loc Cert.Kernel4Ideal.main_arg3) = w ∧ a ((c : Thread Cert.Kernel4Ideal.nD Cert.Kernel4Ideal.τ).loc Cert.Kernel4Ideal.main_arg4) = kg := by
  classical
  obtain ⟨b⟩ : Nonempty (Valuation Cert.Kernel4Ideal.τ Cert.Kernel4Ideal.sig (Elt Ideal)) := inferInstance
  refine ⟨fun ℓ => (Function.update (Function.update (Function.update (Function.update (Function.update b
    (Proc.devRef .tc Cert.Kernel4Ideal.main_arg0) x) (Proc.devRef .tc Cert.Kernel4Ideal.main_arg1) mod) (Proc.devRef .tc Cert.Kernel4Ideal.main_arg2) g)
    (Proc.devRef .tc Cert.Kernel4Ideal.main_arg3) w) (Proc.devRef .tc Cert.Kernel4Ideal.main_arg4) kg) ℓ.2, ?_, ?_, ?_, ?_, ?_⟩
  · exact (Function.update_of_ne (by decide +revert) _ _).trans ((Function.update_of_ne (by decide +revert) _ _).trans ((Function.update_of_ne (by decide +revert) _ _).trans ((Function.update_of_ne (by decide +revert) _ _).trans (Function.update_self _ _ _))))
  · exact (Function.update_of_ne (by decide +revert) _ _).trans ((Function.update_of_ne (by decide +revert) _ _).trans ((Function.update_of_ne (by decide +revert) _ _).trans (Function.update_self _ _ _)))
  · exact (Function.update_of_ne (by decide +revert) _ _).trans ((Function.update_of_ne (by decide +revert) _ _).trans (Function.update_self _ _ _))
  · exact (Function.update_of_ne (by decide +revert) _ _).trans (Function.update_self _ _ _)
  · exact Function.update_self _ _ _

/-- The call finds in the layer what it finds alone. -/
structure CtxSame (V : (c : Dev nD) → (b : Ref sig .tc) → Buf (Elt Ideal) ((c : Thread nD τ).loc b)) (a : CtxMemory) (c : Dev nD) : Prop where
  x : V c main_arg2 = Cert.Kernel4Ideal.Gen.V a c Cert.Kernel4Ideal.main_arg0
  mod : V c main_v8 = Cert.Kernel4Ideal.Gen.V a c Cert.Kernel4Ideal.main_v0
  norm : V c main_v56 = Cert.Kernel4Ideal.Gen.V a c Cert.Kernel4Ideal.main_v1
  weight : V c main_v13 = Cert.Kernel4Ideal.Gen.V a c Cert.Kernel4Ideal.main_v2
  keyGain : V c main_v12 = Cert.Kernel4Ideal.Gen.V a c Cert.Kernel4Ideal.main_v3

variable {V : (c : Dev nD) → (b : Ref sig .tc) → Buf (Elt Ideal) ((c : Thread nD τ).loc b)} {a : CtxMemory} {c : Dev nD}

theorem ctx_block0 (h : CtxSame V a c) (t : Fin cfg2.N) : iblk2 V c 0 t = Cert.Kernel4Ideal.Gen.iblk a c 0 t := funext fun _ => congrFun h.x _
theorem ctx_block1 (h : CtxSame V a c) (t : Fin cfg2.N) : iblk2 V c 1 t = Cert.Kernel4Ideal.Gen.iblk a c 1 t := funext fun _ => congrFun h.mod _
theorem ctx_block2 (h : CtxSame V a c) (t : Fin cfg2.N) : iblk2 V c 2 t = Cert.Kernel4Ideal.Gen.iblk a c 2 t := funext fun _ => congrFun h.norm _
theorem ctx_block3 (h : CtxSame V a c) (t : Fin cfg2.N) : iblk2 V c 3 t = Cert.Kernel4Ideal.Gen.iblk a c 3 t := funext fun _ => congrFun h.weight _
theorem ctx_block4 (h : CtxSame V a c) (t : Fin cfg2.N) : iblk2 V c 4 t = Cert.Kernel4Ideal.Gen.iblk a c 4 t := funext fun _ => congrFun h.keyGain _

/-- The context's keys the call leaves. -/
theorem ctx_keys (h : CtxSame V a c) : (dat2 V c).arrAt 5 cfg2.N = (Cert.Kernel4Ideal.Gen.dats a 0 c).arrAt 5 Cert.Kernel4Ideal.cfg0.N := by
  rw [Cert.Kernel4Ideal.Ctx.final_keys]
  refine (dat2 V c).arrAt_eq_of_covers 5 _ (by decide +kernel) fun t hf y => ?_
  obtain ⟨h0, h1, h2⟩ := Cert.Kernel4Ideal.Ctx.places5 t
  have y0 : (y 0).val < 1 := (y 0).isLt
  rw [after2_5, ctx_block0 h, ctx_block1 h, ctx_block2 h, ctx_block3 h, ctx_block4 h]
  refine (cast_eq _ _).trans ?_
  refine Cert.Kernel4Ideal.Ctx.keys_result a c t _ _ ?_ ?_ ?_
  · refine (Pipeline.Window.rect_emb_val win2_5 t y 0).trans ?_
    show Cert.Kernel4Ideal.win0_5.index t 0 * 1 + (y 0).val = _
    omega
  · refine (Pipeline.Window.rect_emb_val win2_5 t y 1).trans ?_
    show Cert.Kernel4Ideal.win0_5.index t 1 * 256 + (y 1).val = (y 1).val
    omega
  · refine (Pipeline.Window.rect_emb_val win2_5 t y 2).trans ?_
    show Cert.Kernel4Ideal.win0_5.index t 2 * 512 + (y 2).val = (y 2).val
    omega

/-- The context's values the call leaves. -/
theorem ctx_values (h : CtxSame V a c) : (dat2 V c).arrAt 6 cfg2.N = (Cert.Kernel4Ideal.Gen.dats a 0 c).arrAt 6 Cert.Kernel4Ideal.cfg0.N := by
  rw [Cert.Kernel4Ideal.Ctx.final_values]
  refine (dat2 V c).arrAt_eq_of_covers 6 _ (by decide +kernel) fun t hf y => ?_
  obtain ⟨h0, h1, h2⟩ := Cert.Kernel4Ideal.Ctx.places6 t
  have y0 : (y 0).val < 1 := (y 0).isLt
  rw [after2_6, ctx_block0 h, ctx_block1 h, ctx_block2 h, ctx_block3 h, ctx_block4 h]
  refine (cast_eq _ _).trans ?_
  refine Cert.Kernel4Ideal.Ctx.values_result a c t _ _ ?_ ?_ ?_
  · refine (Pipeline.Window.rect_emb_val win2_6 t y 0).trans ?_
    show Cert.Kernel4Ideal.win0_6.index t 0 * 1 + (y 0).val = _
    omega
  · refine (Pipeline.Window.rect_emb_val win2_6 t y 1).trans ?_
    show Cert.Kernel4Ideal.win0_6.index t 1 * 256 + (y 1).val = (y 1).val
    omega
  · refine (Pipeline.Window.rect_emb_val win2_6 t y 2).trans ?_
    show Cert.Kernel4Ideal.win0_6.index t 2 * 512 + (y 2).val = (y 2).val
    omega

variable (m : (ℓ : Loc nD τ sig) → Buf (Elt Ideal) ℓ) (ρ : Dev nD → PrngReg)

/-- What the host prepares for the call is what it prepares for the call alone. -/
theorem ctx_same (h0 : m ((c : Thread nD τ).loc main_arg2) = a ((c : Thread Cert.Kernel4Ideal.nD Cert.Kernel4Ideal.τ).loc Cert.Kernel4Ideal.main_arg0))
    (h1 : W2 m ρ c (Proc.devRef .tc main_v7_1) = a ((c : Thread Cert.Kernel4Ideal.nD Cert.Kernel4Ideal.τ).loc Cert.Kernel4Ideal.main_arg1))
    (h2 : m ((c : Thread nD τ).loc main_arg6) = a ((c : Thread Cert.Kernel4Ideal.nD Cert.Kernel4Ideal.τ).loc Cert.Kernel4Ideal.main_arg2))
    (h3 : m ((c : Thread nD τ).loc main_arg9) = a ((c : Thread Cert.Kernel4Ideal.nD Cert.Kernel4Ideal.τ).loc Cert.Kernel4Ideal.main_arg3))
    (h4 : m ((c : Thread nD τ).loc main_arg11) = a ((c : Thread Cert.Kernel4Ideal.nD Cert.Kernel4Ideal.τ).loc Cert.Kernel4Ideal.main_arg4)) : CtxSame (V5 m ρ) a c where
  x := (W5_args m ρ c main_arg2 (by decide)).trans h0
  mod := by
    refine ((W5_of m ρ c main_v8 (by decide)).trans (W4_of m ρ c main_v8 (by decide))).trans ?_
    rw [Cert.Kernel4Ideal.Ctx.host0, ← h1]
    unfold W3 hostOps1
    after_results_simp
    rfl
  norm := by
    rw [Cert.Kernel4Ideal.Ctx.host1, ← h2, ← W4_args m ρ c main_arg6 (by decide)]
    unfold V5 W5 hostOps2
    after_results_simp
    rfl
  weight := by
    refine ((W5_of m ρ c main_v13 (by decide)).trans (W4_of m ρ c main_v13 (by decide))).trans ?_
    rw [Cert.Kernel4Ideal.Ctx.host2, ← h3, ← W2_args m ρ c main_arg9 (by decide)]
    unfold W3 hostOps1
    after_results_simp
  keyGain := by
    refine ((W5_of m ρ c main_v12 (by decide)).trans (W4_of m ρ c main_v12 (by decide))).trans ?_
    rw [Cert.Kernel4Ideal.Ctx.host3, ← h4, ← W2_args m ρ c main_arg11 (by decide)]
    unfold W3 hostOps1
    after_results_simp
    rfl
end Cert.Kernel7Ideal.Layer
end
-- ==== Proof.JoinAttn.lean ====
/-
  The second layer's third call, within the whole layer: it leaves the attention of the arrays it finds.
-/
module
public import proofs.«01_k».proof.Proof.AttnFinal
public import proofs.«01_k».proof.Proof.Gen.Kernel7Ideal.Frame
@[expose] public section
set_option maxRecDepth 65536
noncomputable section
namespace Cert.Kernel7Ideal.Layer
open Cert.Kernel7Ideal Cert.Kernel7Ideal.Gen Idealize.ShloMosaic.TcCoe Idealize.SL.Sem
open Idealize.ShloMosaic
open Idealize.ShloMosaic.Pipeline (Dat)
open Cert.KernelIdeal.Attn (headPiece ratio accum stored_loaded query_loaded)

set_option maxHeartbeats 4000000 in
/-- The block the call writes is the block it writes alone. -/
theorem attention_block_eq (c : Dev nD) (i : grid3.Coords) (arg3 : Memref sig .tc .vmem S1x512x512 .bf16) (harg3 : arg3.IsWhole) (arg4 : Memref sig .tc .vmem S1x8448x128 .bf16) (harg4 : arg4.IsWhole) (arg5 : Memref sig .tc .vmem S1x8448x128 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S2048x256 .bf16) (harg8 : arg8.IsWhole) (arg9 : Memref sig .tc .vmem S2048x256 .bf16) (harg9 : arg9.IsWhole)
    (x0 : Vec Ideal S1x512x512 .bf16) (x1 : Vec Ideal S1x8448x128 .bf16) (x2 : Vec Ideal S1x8448x128 .bf16) (x3 : Vec Ideal S1x512x512 .bf16) :
    out3_A_4 (F := Ideal) c i arg3 harg3 arg4 harg4 arg5 harg5 arg6 harg6 arg7 harg7 arg8 harg8 arg9 harg9 x0 x1 x2 x3 =
      View.canon [headPiece (ratio (accum (Cert.KernelIdeal.Gen.k0_pay2 x0) x1 x2 33)) x3 3, headPiece (ratio (accum (Cert.KernelIdeal.Gen.k0_pay2 x0) x1 x2 33)) x3 2,
        headPiece (ratio (accum (Cert.KernelIdeal.Gen.k0_pay2 x0) x1 x2 33)) x3 1, headPiece (ratio (accum (Cert.KernelIdeal.Gen.k0_pay2 x0) x1 x2 33)) x3 0] := by
  unfold out3_A_4
  rw [View.read_writes_eq_canon _ _ _ (cover3_A_4 c i arg3 harg3 arg4 harg4 arg5 harg5 arg6 harg6 arg7 harg7 arg8 harg8 arg9 harg9 x0 x1 x2 x3)]
  unfold kernelRun3_A
  dsimp only
  sl_unfold_words
  have sl : ∀ (v : View sig .tc .vmem S2048x256 .bf16) (w : FVec Ideal S2048x256 .bf16) (L : List (View.Piece (Elt Ideal) S2048x256 .bf16)),
      v.readCov ((⟨Rect.unit ![0, 0] ![2048, 256] inb_S2048x256_S2048x256_0_0, w⟩ : View.Piece (Elt Ideal) S2048x256 .bf16) :: L)
        (Rect.unit ![0, 0] ![2048, 256] inb_S2048x256_S2048x256_0_0).toLoadRect = w := fun v w L =>
    View.readCov_full (s := S2048x256) (e := .bf16) (Val := Elt Ideal) v (off := ![0, 0]) (off' := ![0, 0]) inb_S2048x256_S2048x256_0_0 inb_S2048x256_S2048x256_0_0 w L
  have ql : ∀ x : Vec Ideal S1x512x512 .bf16, View.ld x (Rect.unit ![0, 0, 0] ![1, 512, 512] inb_S1x512x512_S1x512x512_0_0_0) = x := query_loaded
  simp only [View.readAt_eq_ld, harg3.read_unread, harg4.read_unread, harg5.read_unread, harg6.read_unread, sl, ql]
  rfl

variable (V : (c : Dev nD) → (b : Ref sig .tc) → Buf (Elt Ideal) ((c : Thread nD τ).loc b))

/-- What the call leaves: the attention of the queries, keys, values and gates it finds. -/
theorem attention_result (c : Dev nD) : (dat3 V c).arrAt 4 cfg3.N
    = Cert.KernelIdeal.Attn.result (V c main_v55_0) (V c main_v58) (V c main_v59) (V c main_v55_3) := by
  refine (dat3 V c).arrAt_eq_of_covers 4 _ (by decide +kernel) fun t hf y => ?_
  obtain ⟨h0, h1, h2⟩ := Cert.KernelIdeal.Attn.places4 t
  rw [after3_4]
  unfold outsAt3
  rw [attention_block_eq, Cert.KernelIdeal.Attn.canon_block _ _ _ _ _ (Cert.KernelIdeal.Attn.ratio_apply _ _ _)]
  have y0 : (y 0).val < 1 := (y 0).isLt
  refine Cert.KernelIdeal.Attn.block_result _ _ _ _ _ _ _ _ t (fun r e => congrArg (V c main_v55_0) (Cert.KernelIdeal.Attn.place0 t r e))
    (fun l e => congrArg (V c main_v58) (Cert.KernelIdeal.Attn.place1 t l e)) (fun l e => congrArg (V c main_v59) (Cert.KernelIdeal.Attn.place2 t l e))
    (fun r e => congrArg (V c main_v55_3) (Cert.KernelIdeal.Attn.place3 t r e)) y _ ?_ ?_ ?_
  · refine (Pipeline.Window.rect_emb_val win3_4 t y 0).trans ?_
    show Cert.KernelIdeal.win0_4.index t 0 * 1 + (y 0).val = _
    omega
  · refine (Pipeline.Window.rect_emb_val win3_4 t y 1).trans ?_
    show Cert.KernelIdeal.win0_4.index t 1 * 512 + (y 1).val = _
    omega
  · refine (Pipeline.Window.rect_emb_val win3_4 t y 2).trans ?_
    show Cert.KernelIdeal.win0_4.index t 2 * 512 + (y 2).val = _
    omega
end Cert.Kernel7Ideal.Layer
end
-- ==== Proof.JoinOut.lean ====
/-
  The second layer's last call, within the whole layer: it leaves the rows it leaves alone.
-/
module
public import proofs.«01_k».proof.Proof.OutProj
public import proofs.«01_k».proof.Proof.Gen.Kernel7Ideal.Frame
@[expose] public section
set_option maxRecDepth 16384
noncomputable section
namespace Cert.Kernel7Ideal.Layer
open Cert.Kernel7Ideal Cert.Kernel7Ideal.Gen Idealize.ShloMosaic.TcCoe Idealize.SL.Sem
open Idealize.ShloMosaic
open Idealize.ShloMosaic.Pipeline (Dat)

/-- A memory of the call alone. -/
abbrev OutMemory : Type := (ℓ : Loc Cert.Kernel2Ideal.nD Cert.Kernel2Ideal.τ Cert.Kernel2Ideal.sig) → Buf (Elt Ideal) ℓ

/-- The call alone can be handed any five arrays. -/
theorem out_memory (c : Dev nD) (y : FVec Ideal S8x8192x2048 .bf16) (x : FVec Ideal S8x8192x1024 .f32) (mod : FVec Ideal S16x3072 .f32) (w : FVec Ideal S2048x1024 .f32)
    (fg : FVec Ideal S1024 .f32) : ∃ a : OutMemory, a ((c : Thread Cert.Kernel2Ideal.nD Cert.Kernel2Ideal.τ).loc Cert.Kernel2Ideal.main_arg0) = y
      ∧ a ((c : Thread Cert.Kernel2Ideal.nD Cert.Kernel2Ideal.τ).loc Cert.Kernel2Ideal.main_arg1) = x ∧ a ((c : Thread Cert.Kernel2Ideal.nD Cert.Kernel2Ideal.τ).loc Cert.Kernel2Ideal.main_arg2) = mod
      ∧ a ((c : Thread Cert.Kernel2Ideal.nD Cert.Kernel2Ideal.τ).loc Cert.Kernel2Ideal.main_arg3) = w ∧ a ((c : Thread Cert.Kernel2Ideal.nD Cert.Kernel2Ideal.τ).loc Cert.Kernel2Ideal.main_arg4) = fg := by
  classical
  obtain ⟨b⟩ : Nonempty (Valuation Cert.Kernel2Ideal.τ Cert.Kernel2Ideal.sig (Elt Ideal)) := inferInstance
  refine ⟨fun ℓ => (Function.update (Function.update (Function.update (Function.update (Function.update b
    (Proc.devRef .tc Cert.Kernel2Ideal.main_arg0) y) (Proc.devRef .tc Cert.Kernel2Ideal.main_arg1) x) (Proc.devRef .tc Cert.Kernel2Ideal.main_arg2) mod)
    (Proc.devRef .tc Cert.Kernel2Ideal.main_arg3) w) (Proc.devRef .tc Cert.Kernel2Ideal.main_arg4) fg) ℓ.2, ?_, ?_, ?_, ?_, ?_⟩
  · exact (Function.update_of_ne (by decide +revert) _ _).trans ((Function.update_of_ne (by decide +revert) _ _).trans ((Function.update_of_ne (by decide +revert) _ _).trans ((Function.update_of_ne (by decide +revert) _ _).trans (Function.update_self _ _ _))))
  · exact (Function.update_of_ne (by decide +revert) _ _).trans ((Function.update_of_ne (by decide +revert) _ _).trans ((Function.update_of_ne (by decide +revert) _ _).trans (Function.update_self _ _ _)))
  · exact (Function.update_of_ne (by decide +revert) _ _).trans ((Function.update_of_ne (by decide +revert) _ _).trans (Function.update_self _ _ _))
  · exact (Function.update_of_ne (by decide +revert) _ _).trans (Function.update_self _ _ _)
  · exact Function.update_self _ _ _

/-- The call finds in the layer what it finds alone. -/
structure OutSame (V : (c : Dev nD) → (b : Ref sig .tc) → Buf (Elt Ideal) ((c : Thread nD τ).loc b)) (a : OutMemory) (c : Dev nD) : Prop where
  y : V c main_v60 = Cert.Kernel2Ideal.Gen.V a c Cert.Kernel2Ideal.main_arg0
  x : V c main_arg0 = Cert.Kernel2Ideal.Gen.V a c Cert.Kernel2Ideal.main_arg1
  mod : V c main_v8 = Cert.Kernel2Ideal.Gen.V a c Cert.Kernel2Ideal.main_v0
  weight : V c main_v61 = Cert.Kernel2Ideal.Gen.V a c Cert.Kernel2Ideal.main_v1
  gain : V c main_v62 = Cert.Kernel2Ideal.Gen.V a c Cert.Kernel2Ideal.main_v2

variable {V : (c : Dev nD) → (b : Ref sig .tc) → Buf (Elt Ideal) ((c : Thread nD τ).loc b)} {a : OutMemory} {c : Dev nD}

theorem out_block0 (h : OutSame V a c) (t : Fin cfg4.N) : iblk4 V c 0 t = Cert.Kernel2Ideal.Gen.iblk a c 0 t := funext fun _ => congrFun h.y _
theorem out_block1 (h : OutSame V a c) (t : Fin cfg4.N) : iblk4 V c 1 t = Cert.Kernel2Ideal.Gen.iblk a c 1 t := funext fun _ => congrFun h.x _
theorem out_block2 (h : OutSame V a c) (t : Fin cfg4.N) : iblk4 V c 2 t = Cert.Kernel2Ideal.Gen.iblk a c 2 t := funext fun _ => congrFun h.mod _
theorem out_block3 (h : OutSame V a c) (t : Fin cfg4.N) : iblk4 V c 3 t = Cert.Kernel2Ideal.Gen.iblk a c 3 t := funext fun _ => congrFun h.weight _
theorem out_block4 (h : OutSame V a c) (t : Fin cfg4.N) : iblk4 V c 4 t = Cert.Kernel2Ideal.Gen.iblk a c 4 t := funext fun _ => congrFun h.gain _

/-- The rows the call leaves. -/
theorem out_result (h : OutSame V a c) : (dat4 V c).arrAt 5 cfg4.N = (Cert.Kernel2Ideal.Gen.dats a 0 c).arrAt 5 Cert.Kernel2Ideal.cfg0.N := by
  rw [Cert.Kernel2Ideal.Out.final]
  refine (dat4 V c).arrAt_eq_of_covers 5 _ (by decide +kernel) fun t hf y => ?_
  obtain ⟨h0, h1, h2⟩ := Cert.Kernel2Ideal.Out.places5 t
  have y0 : (y 0).val < 1 := (y 0).isLt
  rw [after4_5, out_block0 h, out_block1 h, out_block2 h, out_block3 h, out_block4 h]
  refine (cast_eq _ _).trans ?_
  refine Cert.Kernel2Ideal.Out.block_result a c t _ _ ?_ ?_ ?_
  · refine (Pipeline.Window.rect_emb_val win4_5 t y 0).trans ?_
    show Cert.Kernel2Ideal.win0_5.index t 0 * 1 + (y 0).val = _
    omega
  · refine (Pipeline.Window.rect_emb_val win4_5 t y 1).trans ?_
    show Cert.Kernel2Ideal.win0_5.index t 1 * 512 + (y 1).val = t.val % 16 * 512 + (y 1).val
    omega
  · refine (Pipeline.Window.rect_emb_val win4_5 t y 2).trans ?_
    show Cert.Kernel2Ideal.win0_5.index t 2 * 1024 + (y 2).val = (y 2).val
    omega

variable (m : (ℓ : Loc nD τ sig) → Buf (Elt Ideal) ℓ) (ρ : Dev nD → PrngReg)

/-- What the layer prepares for the call is what is prepared for the call alone. -/
theorem out_same (h0 : V9 m ρ c main_v60 = a ((c : Thread Cert.Kernel2Ideal.nD Cert.Kernel2Ideal.τ).loc Cert.Kernel2Ideal.main_arg0))
    (h1 : m ((c : Thread nD τ).loc main_arg0) = a ((c : Thread Cert.Kernel2Ideal.nD Cert.Kernel2Ideal.τ).loc Cert.Kernel2Ideal.main_arg1))
    (h2 : W2 m ρ c (Proc.devRef .tc main_v7_1) = a ((c : Thread Cert.Kernel2Ideal.nD Cert.Kernel2Ideal.τ).loc Cert.Kernel2Ideal.main_arg2))
    (h3 : m ((c : Thread nD τ).loc main_arg12) = a ((c : Thread Cert.Kernel2Ideal.nD Cert.Kernel2Ideal.τ).loc Cert.Kernel2Ideal.main_arg3))
    (h4 : m ((c : Thread nD τ).loc main_arg13) = a ((c : Thread Cert.Kernel2Ideal.nD Cert.Kernel2Ideal.τ).loc Cert.Kernel2Ideal.main_arg4)) : OutSame (V9 m ρ) a c where
  y := h0
  x := (W9_args m ρ c main_arg0 (by decide)).trans h1
  mod := by
    refine ((W9_of m ρ c main_v8 (by decide)).trans ((W8_of m ρ c main_v8 (by decide)).trans ((W7_of m ρ c main_v8 (by decide)).trans ((W6_of m ρ c main_v8 (by decide)).trans ((W5_of m ρ c main_v8 (by decide)).trans (W4_of m ρ c main_v8 (by decide))))))).trans ?_
    rw [Cert.Kernel2Ideal.Out.host0, ← h2]
    unfold W3 hostOps1
    after_results_simp
    rfl
  weight := by
    rw [Cert.Kernel2Ideal.Out.host1, ← h3, ← W8_args m ρ c main_arg12 (by decide)]
    unfold V9 W9 hostOps4
    after_results_simp
  gain := by
    rw [Cert.Kernel2Ideal.Out.host2, ← h4, ← W8_args m ρ c main_arg13 (by decide)]
    unfold V9 W9 hostOps4
    after_results_simp
    rfl
end Cert.Kernel7Ideal.Layer
end
-- ==== Proof.JoinReal.lean ====
/-
  The queries and keys of the second layer are real wherever the gains are: a norm leaves real numbers of any row, infinite entries or not.
-/
module
public import proofs.«01_k».proof.Proof.Turn
public import proofs.«01_k».proof.Proof.Softmax
public import proofs.«01_k».proof.Proof.LatFinal
public import proofs.«01_k».proof.Proof.Ctx
@[expose] public section
set_option maxRecDepth 16384
noncomputable section
namespace Cert.Rows
open Idealize.ShloMosaic
open scoped BigOperators

/-- A number that is neither infinity. -/
def IsReal (x : EReal) : Prop := ∃ r : ℝ, x = (r : EReal)

theorem IsReal.add {x y : EReal} : IsReal x → IsReal y → IsReal (x + y)
  | ⟨a, ha⟩, ⟨b, hb⟩ => ⟨a + b, by rw [ha, hb, EReal.coe_add]⟩
theorem IsReal.sub {x y : EReal} : IsReal x → IsReal y → IsReal (x - y)
  | ⟨a, ha⟩, ⟨b, hb⟩ => ⟨a - b, by rw [ha, hb, EReal.coe_sub]⟩
theorem IsReal.mul {x y : EReal} : IsReal x → IsReal y → IsReal (x * y)
  | ⟨a, ha⟩, ⟨b, hb⟩ => ⟨a * b, by rw [ha, hb, EReal.coe_mul]⟩
theorem IsReal.eq {x : EReal} : IsReal x → x = (x.toReal : EReal)
  | ⟨a, ha⟩ => by rw [ha]; rfl

theorem eps_pos : ∃ e : ℝ, 0 < e ∧ eps = (e : EReal) := by
  refine ⟨_, ?_, by simp [eps, Ideal.ofBits, Ideal.ieee, -EReal.coe_mul]; rfl⟩
  norm_num

theorem headWidth_pos : ∃ l : ℝ, 0 < l ∧ headWidth = (l : EReal) := by
  refine ⟨_, ?_, by simp [headWidth, Ideal.ofBits, Ideal.ieee, -EReal.coe_mul]; rfl⟩
  norm_num

theorem square_nonneg (x : EReal) : 0 ≤ x * x := by
  induction x with
  | bot => simp
  | top => simp
  | coe r => exact_mod_cast mul_self_nonneg r

/-- A head over its root mean square is real: an infinite entry makes the root infinite, and then every quotient is zero. -/
theorem normed_real (x : Fin 128 → EReal) (j : Fin 128) : IsReal (x j * scale headWidth x) := by
  obtain ⟨e, he, ee⟩ := eps_pos
  obtain ⟨l, hl, el⟩ := headWidth_pos
  unfold scale
  rw [ee, el, Ideal.div_coe hl.ne']
  by_cases h : ∀ i, IsReal (x i)
  · choose r hr using h
    have hs : ∑ i, x i * x i = ((∑ i, r i * r i : ℝ) : EReal) := by
      rw [Softmax.coe_sum]
      refine Finset.sum_congr rfl fun i _ => ?_
      rw [hr, EReal.coe_mul]
    have hp : 0 < (∑ i, r i * r i) * (1 / l) + e :=
      add_pos_of_nonneg_of_pos (mul_nonneg (Finset.sum_nonneg fun i _ => mul_self_nonneg _) (by positivity)) he
    rw [hs, ← EReal.coe_mul, ← EReal.coe_add, Ideal.rsqrt_coe, if_neg (not_lt.mpr hp.le), if_neg hp.ne', hr]
    exact IsReal.mul ⟨_, rfl⟩ ⟨_, rfl⟩
  · obtain ⟨i, hi⟩ := not_forall.mp h
    have ht : x i * x i = ⊤ := by
      generalize x i = y at hi
      induction y with
      | bot => simp
      | top => simp
      | coe r => exact absurd ⟨r, rfl⟩ hi
    have hs : ∑ i, x i * x i = ⊤ := by
      refine top_le_iff.mp ?_
      rw [← ht]
      exact Finset.single_le_sum (f := fun i => x i * x i) (fun i _ => square_nonneg _) (Finset.mem_univ i)
    rw [hs, EReal.top_mul_coe_of_pos (by positivity), EReal.top_add_coe]
    refine ⟨0, ?_⟩
    show x j * 0 = _
    rw [mul_zero]
    rfl

/-- So is a normed head with real gains. -/
theorem headNormed_real (y g : Fin 128 → EReal) (hg : ∀ i, IsReal (g i)) (j : Fin 128) : IsReal (headNormed y g j) :=
  (normed_real y j).mul (hg j)

theorem angle_real (pos f : ℕ) : IsReal (angle pos f) := by
  obtain ⟨a, ha⟩ : IsReal (Ideal.ofBits FTy.f32 1176256512#32) := ⟨_, by simp [Ideal.ofBits, Ideal.ieee, -EReal.coe_mul]; rfl⟩
  obtain ⟨b, hb⟩ : IsReal (Ideal.ofBits FTy.f32 1073741824#32) := ⟨_, by simp [Ideal.ofBits, Ideal.ieee, -EReal.coe_mul]; rfl⟩
  obtain ⟨d, hd, ed⟩ : ∃ l : ℝ, 0 < l ∧ Ideal.ofBits FTy.f32 1115684864#32 = (l : EReal) := by
    refine ⟨_, ?_, by simp [Ideal.ofBits, Ideal.ieee, -EReal.coe_mul]; rfl⟩
    norm_num
  unfold angle
  rw [ha, hb, ed, Ideal.div_coe hd.ne']
  exact IsReal.mul ⟨_, rfl⟩ ⟨_, rfl⟩

/-- A turned head of real numbers is real. -/
theorem rope_real (y : Fin 128 → EReal) (hy : ∀ i, IsReal (y i)) (t : ℕ) (j : Fin 128) : IsReal (rope y t j) := by
  obtain ⟨a, ha⟩ : IsReal (laneAngle t j.val) := angle_real _ _
  have hc : IsReal (Ideal.cos (laneAngle t j.val)) := ⟨Real.cos a, by rw [ha, Ideal.cos_coe]⟩
  have hs : IsReal (Ideal.sin (laneAngle t j.val)) := ⟨Real.sin a, by rw [ha, Ideal.sin_coe]⟩
  unfold rope
  split
  · exact ((hy _).mul hc).sub ((hy _).mul hs)
  · exact ((hy _).mul hs).add ((hy _).mul hc)

end Cert.Rows

namespace Cert.Kernel7Ideal.Layer
open Idealize.ShloMosaic
open Cert.Rows (IsReal)

/-- The queries of the latents are real where their gains are. -/
theorem queries_real (x : FVec Ideal Cert.Kernel3Ideal.S8x8192x1024 .f32) (mod : FVec Ideal Cert.Kernel3Ideal.S16x3072 .f32) (g : FVec Ideal Cert.Kernel3Ideal.S1024 .f32)
    (w : FVec Ideal Cert.Kernel3Ideal.S1024x5120 .f32) (qg : FVec Ideal Cert.Kernel3Ideal.S128 .f32) (h : ∀ i, IsReal (qg i)) (i : Cert.Kernel3Ideal.S8x8192x2048.Idx) :
    IsReal (Cert.Kernel3Ideal.Lat.resultQueries x mod g w qg i) := by
  obtain ⟨q, -, hq⟩ := Rows.queryGain_real
  unfold Cert.Kernel3Ideal.Lat.resultQueries Rows.ropedHeads
  exact (Rows.rope_real _ (Rows.headNormed_real _ _ fun _ => h _) _ _).mul ⟨q, hq⟩

/-- The keys of the latents are real where their gains are. -/
theorem keys_real (x : FVec Ideal Cert.Kernel3Ideal.S8x8192x1024 .f32) (mod : FVec Ideal Cert.Kernel3Ideal.S16x3072 .f32) (g : FVec Ideal Cert.Kernel3Ideal.S1024 .f32)
    (w : FVec Ideal Cert.Kernel3Ideal.S1024x5120 .f32) (kg : FVec Ideal Cert.Kernel3Ideal.S128 .f32) (h : ∀ i, IsReal (kg i)) (i : Cert.Kernel3Ideal.S8x8192x512.Idx) :
    IsReal (Cert.Kernel3Ideal.Lat.resultKeys x mod g w kg i) := by
  unfold Cert.Kernel3Ideal.Lat.resultKeys Rows.ropedHeads
  exact Rows.rope_real _ (Rows.headNormed_real _ _ fun _ => h _) _ _

/-- The keys of the context are real where their gains are. -/
theorem ctx_keys_real (x : FVec Ideal Cert.Kernel4Ideal.S8x256x1024 .f32) (mod : FVec Ideal Cert.Kernel4Ideal.S16x3072 .f32) (g : FVec Ideal Cert.Kernel4Ideal.S1024 .f32)
    (w : FVec Ideal Cert.Kernel4Ideal.S1024x5120 .f32) (kg : FVec Ideal Cert.Kernel4Ideal.S128 .f32) (h : ∀ i, IsReal (kg i)) (i : Cert.Kernel4Ideal.S8x256x512.Idx) :
    IsReal (Cert.Kernel4Ideal.Ctx.resultKeys x mod g w kg i) := by
  have hi : (i 2).val < 512 := (i 2).isLt
  have e : i 2 = (⟨(i 2).val / 128 * 128 + (⟨(i 2).val % 128, Nat.mod_lt _ (by decide)⟩ : Fin 128).val, by show (i 2).val / 128 * 128 + (i 2).val % 128 < 512; omega⟩ : Fin 512) :=
    Fin.ext (by show (i 2).val = (i 2).val / 128 * 128 + (i 2).val % 128; omega)
  unfold Cert.Kernel4Ideal.Ctx.resultKeys
  rw [e, Rows.normedHeads_at _ _ _ (by omega) (by omega)]
  exact Rows.headNormed_real _ _ (fun _ => h _) _

end Cert.Kernel7Ideal.Layer
end
-- ==== Proof.JoinFinal.lean ====
/-
  The second layer as one program: what its run leaves, and that the reference of the whole layer leaves the same.
-/
module
public import proofs.«01_k».proof.Proof.JoinAda
public import proofs.«01_k».proof.Proof.JoinLat
public import proofs.«01_k».proof.Proof.JoinCtx
public import proofs.«01_k».proof.Proof.JoinAttn
public import proofs.«01_k».proof.Proof.JoinOut
public import proofs.«01_k».proof.Proof.JoinReal
public import proofs.«01_k».proof.Proof.JoinRef
public import proofs.«01_k».proof.Proof.Layers
public import proofs.«01_k».proof.Proof.RefAttn
@[expose] public section
set_option maxRecDepth 16384
noncomputable section
namespace Cert.Kernel7Ideal.Layer
open Cert.Kernel7Ideal Cert.Kernel7Ideal.Gen Idealize.ShloMosaic.TcCoe Idealize.SL Idealize.SL.BI Idealize.SL.Sem
open Idealize.ShloMosaic
open Idealize.ShloMosaic.Pipeline (Dat)

section Result

variable (x : FVec Ideal S8x8192x1024 .f32) (ctx : FVec Ideal S8x256x1024 .f32) (mod : FVec Ideal S16x3072 .f32) (g : FVec Ideal S1024 .f32)
  (w : FVec Ideal S1024x5120 .f32) (qg kg : FVec Ideal S128 .f32) (wo : FVec Ideal S2048x1024 .f32) (fg : FVec Ideal S1024 .f32)

/-- The keys of the context and, after them, of the latents. -/
def allKeys : FVec Ideal S8x8448x512 .bf16 :=
  concatenate S8x8448x512 1 [⟨S8x256x512, Cert.Kernel4Ideal.Ctx.resultKeys ctx mod g w kg⟩, ⟨S8x8192x512, Cert.Kernel3Ideal.Lat.resultKeys x mod g w kg⟩]
    concatenates_S8x256x512_S8x8192x512_S8x8448x512_d1

/-- The values of the context and, after them, of the latents. -/
def allValues : FVec Ideal S8x8448x512 .bf16 :=
  concatenate S8x8448x512 1 [⟨S8x256x512, Cert.Kernel4Ideal.Ctx.resultValues ctx mod g w⟩, ⟨S8x8192x512, Cert.Kernel3Ideal.Lat.resultValues x mod g w⟩]
    concatenates_S8x256x512_S8x8192x512_S8x8448x512_d1

/-- What the attention leaves within the layer. -/
def attended : FVec Ideal S8x8192x2048 .bf16 :=
  Cert.KernelIdeal.Attn.result (Cert.Kernel3Ideal.Lat.resultQueries x mod g w qg) (allKeys x ctx mod g w kg) (allValues x ctx mod g w)
    (Cert.Kernel3Ideal.Lat.resultGates x mod g w)

/-- What the layer leaves. -/
def result : FVec Ideal S8x8192x1024 .f32 := Cert.Kernel2Ideal.Out.result (attended x ctx mod g w qg kg) x mod wo fg

theorem allKeys_real (h : ∀ i, Rows.IsReal (kg i)) (i : S8x8448x512.Idx) : Rows.IsReal (allKeys x ctx mod g w kg i) := by
  have hk := keys_real x mod g w kg h
  have hc := ctx_keys_real ctx mod g w kg h
  unfold allKeys
  generalize Cert.Kernel3Ideal.Lat.resultKeys x mod g w kg = a at hk
  generalize Cert.Kernel4Ideal.Ctx.resultKeys ctx mod g w kg = b at hc
  pointwise []
  split
  · exact hc _
  · exact hk _

/-- The reference leaves it where the gains are real. -/
theorem reference_result (v : FVec Ideal S8x1024 .f32) (u : FVec Ideal S1024 .f32) (aw : FVec Ideal S1024x3072 .f32) (ab : FVec Ideal S3072 .f32)
    (hq : ∀ i, Rows.IsReal (qg i)) (hk : ∀ i, Rows.IsReal (kg i)) :
    Cert.Reference7Ideal.Read.val_main_v247 (F := Ideal) x v ctx u g aw ab w qg kg wo fg = result x ctx (modulation v u aw ab) g w qg kg wo fg := by
  have hm : Cert.Reference7Ideal.Read.val_main_v7 (F := Ideal) v u aw ab = modulation v u aw ab := by
    rw [Cert.Reference7Ideal.Layer.modulation_eq, Cert.Layers.array5_8, Cert.Reference7Ideal.Layer.conditions_eq]
    rfl
  have ha : Cert.Reference7Ideal.Read.val_main_v224 (F := Ideal) x v ctx u g aw ab w qg kg = attended x ctx (modulation v u aw ab) g w qg kg := by
    rw [Cert.Reference7Ideal.Layer.attended_eq]
    unfold Cert.Reference7Ideal.Read.val_main_v194 Cert.Reference7Ideal.Read.val_main_v195
    rw [Cert.Reference7Ideal.Layer.queries_eq, Cert.Reference7Ideal.Layer.keys_eq, Cert.Reference7Ideal.Layer.values_eq, Cert.Reference7Ideal.Layer.gates_eq,
      Cert.Reference7Ideal.Layer.ctx_keys_eq, Cert.Reference7Ideal.Layer.ctx_values_eq, hm, Cert.Layers.array3_134, Cert.Layers.array3_136, Cert.Layers.array3_137,
      Cert.Layers.array3_139, Cert.Layers.array4_43, Cert.Layers.array4_45]
    exact Cert.ReferenceIdeal.Attn.reference_eq _ _ _ _ (fun i => (queries_real x _ g w qg hq i).eq) (fun i => (allKeys_real x ctx _ g w kg hk i).eq)
  rw [Cert.Reference7Ideal.Layer.layer_eq, ha, hm]
  exact Cert.Layers.array2_22 _ _ _ _ _

end Result

variable (m : (ℓ : Loc nD τ sig) → Buf (Elt Ideal) ℓ) (ρ : Dev nD → PrngReg)

set_option maxHeartbeats 1000000 in
/-- What the first call leaves. -/
theorem first_call (c : Dev nD) :
    W4 m ρ c (Proc.devRef .tc main_v55_0) = Cert.Kernel3Ideal.Lat.resultQueries (m ((c : Thread nD τ).loc main_arg0)) (W2 m ρ c (Proc.devRef .tc main_v7_1)) (m ((c : Thread nD τ).loc main_arg6)) (m ((c : Thread nD τ).loc main_arg9)) (m ((c : Thread nD τ).loc main_arg10))
    ∧ W4 m ρ c (Proc.devRef .tc main_v55_1) = Cert.Kernel3Ideal.Lat.resultKeys (m ((c : Thread nD τ).loc main_arg0)) (W2 m ρ c (Proc.devRef .tc main_v7_1)) (m ((c : Thread nD τ).loc main_arg6)) (m ((c : Thread nD τ).loc main_arg9)) (m ((c : Thread nD τ).loc main_arg11))
    ∧ W4 m ρ c (Proc.devRef .tc main_v55_2) = Cert.Kernel3Ideal.Lat.resultValues (m ((c : Thread nD τ).loc main_arg0)) (W2 m ρ c (Proc.devRef .tc main_v7_1)) (m ((c : Thread nD τ).loc main_arg6)) (m ((c : Thread nD τ).loc main_arg9))
    ∧ W4 m ρ c (Proc.devRef .tc main_v55_3) = Cert.Kernel3Ideal.Lat.resultGates (m ((c : Thread nD τ).loc main_arg0)) (W2 m ρ c (Proc.devRef .tc main_v7_1)) (m ((c : Thread nD τ).loc main_arg6)) (m ((c : Thread nD τ).loc main_arg9)) := by
  obtain ⟨a, h0, h1, h2, h3, h4, h5⟩ := lat_memory c (m ((c : Thread nD τ).loc main_arg0)) (W2 m ρ c (Proc.devRef .tc main_v7_1)) (m ((c : Thread nD τ).loc main_arg6))
    (m ((c : Thread nD τ).loc main_arg9)) (m ((c : Thread nD τ).loc main_arg10)) (m ((c : Thread nD τ).loc main_arg11))
  have h := lat_same m ρ h0.symm h1.symm h2.symm h3.symm h4.symm h5.symm
  refine ⟨?_, ?_, ?_, ?_⟩
  · refine ((W4_arr m ρ c 8).trans (lat_queries h)).trans ((Cert.Kernel3Ideal.Lat.final_queries a c).trans ?_)
    rw [h0, h1, h2, h3, h4]
  · refine ((W4_arr m ρ c 9).trans (lat_keys h)).trans ((Cert.Kernel3Ideal.Lat.final_keys a c).trans ?_)
    rw [h0, h1, h2, h3, h5]
  · refine ((W4_arr m ρ c 10).trans (lat_values h)).trans ((Cert.Kernel3Ideal.Lat.final_values a c).trans ?_)
    rw [h0, h1, h2, h3]
  · refine ((W4_arr m ρ c 11).trans (lat_gates h)).trans ((Cert.Kernel3Ideal.Lat.final_gates a c).trans ?_)
    rw [h0, h1, h2, h3]

/-- What the second call leaves. -/
theorem second_call (c : Dev nD) :
    W6 m ρ c (Proc.devRef .tc main_v57_0) = Cert.Kernel4Ideal.Ctx.resultKeys (m ((c : Thread nD τ).loc main_arg2)) (W2 m ρ c (Proc.devRef .tc main_v7_1)) (m ((c : Thread nD τ).loc main_arg6)) (m ((c : Thread nD τ).loc main_arg9)) (m ((c : Thread nD τ).loc main_arg11))
    ∧ W6 m ρ c (Proc.devRef .tc main_v57_1) = Cert.Kernel4Ideal.Ctx.resultValues (m ((c : Thread nD τ).loc main_arg2)) (W2 m ρ c (Proc.devRef .tc main_v7_1)) (m ((c : Thread nD τ).loc main_arg6)) (m ((c : Thread nD τ).loc main_arg9)) := by
  obtain ⟨a, h0, h1, h2, h3, h4⟩ := ctx_memory c (m ((c : Thread nD τ).loc main_arg2)) (W2 m ρ c (Proc.devRef .tc main_v7_1)) (m ((c : Thread nD τ).loc main_arg6))
    (m ((c : Thread nD τ).loc main_arg9)) (m ((c : Thread nD τ).loc main_arg11))
  have h := ctx_same m ρ h0.symm h1.symm h2.symm h3.symm h4.symm
  refine ⟨?_, ?_⟩
  · refine ((W6_arr m ρ c 5).trans (ctx_keys h)).trans ((Cert.Kernel4Ideal.Ctx.final_keys a c).trans ?_)
    rw [h0, h1, h2, h3, h4]
  · refine ((W6_arr m ρ c 6).trans (ctx_values h)).trans ((Cert.Kernel4Ideal.Ctx.final_values a c).trans ?_)
    rw [h0, h1, h2, h3]

/-- What the attention finds as keys: the context's and then the latents'. -/
theorem keys_joined (c : Dev nD) : V7 m ρ c main_v58
    = concatenate S8x8448x512 1 [⟨S8x256x512, W6 m ρ c (Proc.devRef .tc main_v57_0)⟩, ⟨S8x8192x512, W6 m ρ c (Proc.devRef .tc main_v55_1)⟩]
      concatenates_S8x256x512_S8x8192x512_S8x8448x512_d1 := by
  unfold V7 W7 hostOps3
  after_results_simp

theorem values_joined (c : Dev nD) : V7 m ρ c main_v59
    = concatenate S8x8448x512 1 [⟨S8x256x512, W6 m ρ c (Proc.devRef .tc main_v57_1)⟩, ⟨S8x8192x512, W6 m ρ c (Proc.devRef .tc main_v55_2)⟩]
      concatenates_S8x256x512_S8x8192x512_S8x8448x512_d1 := by
  unfold V7 W7 hostOps3
  after_results_simp
  rw [StableHlo.binary_result_ne, StableHlo.binary_result_ne]
  all_goals decide

/-- What the third call leaves. -/
theorem third_call (c : Dev nD) : W8 m ρ c (Proc.devRef .tc main_v60)
    = attended (m ((c : Thread nD τ).loc main_arg0)) (m ((c : Thread nD τ).loc main_arg2)) (W2 m ρ c (Proc.devRef .tc main_v7_1)) (m ((c : Thread nD τ).loc main_arg6)) (m ((c : Thread nD τ).loc main_arg9)) (m ((c : Thread nD τ).loc main_arg10)) (m ((c : Thread nD τ).loc main_arg11)) := by
  obtain ⟨hq, hk, hv, hz⟩ := first_call m ρ c
  obtain ⟨hck, hcv⟩ := second_call m ρ c
  have eq : V7 m ρ c main_v55_0 = _ := (W7_of m ρ c main_v55_0 (by decide)).trans ((W6_of m ρ c main_v55_0 (by decide)).trans ((W5_of m ρ c main_v55_0 (by decide)).trans hq))
  have ez : V7 m ρ c main_v55_3 = _ := (W7_of m ρ c main_v55_3 (by decide)).trans ((W6_of m ρ c main_v55_3 (by decide)).trans ((W5_of m ρ c main_v55_3 (by decide)).trans hz))
  have ek : W6 m ρ c (Proc.devRef .tc main_v55_1) = _ := (W6_of m ρ c main_v55_1 (by decide)).trans ((W5_of m ρ c main_v55_1 (by decide)).trans hk)
  have ev : W6 m ρ c (Proc.devRef .tc main_v55_2) = _ := (W6_of m ρ c main_v55_2 (by decide)).trans ((W5_of m ρ c main_v55_2 (by decide)).trans hv)
  refine (W8_arr m ρ c 4).trans ((attention_result (V7 m ρ) c).trans ?_)
  rw [eq, ez, keys_joined, values_joined, ek, ev, hck, hcv]
  rfl

/-- What the layer leaves. -/
theorem final (c : Dev nD) : W10 m ρ c (Proc.devRef .tc main_v63)
    = result (m ((c : Thread nD τ).loc main_arg0)) (m ((c : Thread nD τ).loc main_arg2)) (modulation (m ((c : Thread nD τ).loc main_arg1)) (m ((c : Thread nD τ).loc main_arg3)) (m ((c : Thread nD τ).loc main_arg7)) (m ((c : Thread nD τ).loc main_arg8))) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg13)) := by
  have hy : V9 m ρ c main_v60 = _ := (W9_of m ρ c main_v60 (by decide)).trans (third_call m ρ c)
  obtain ⟨a, h0, h1, h2, h3, h4⟩ := out_memory c (V9 m ρ c main_v60) (m ((c : Thread nD τ).loc main_arg0)) (W2 m ρ c (Proc.devRef .tc main_v7_1))
    (m ((c : Thread nD τ).loc main_arg12)) (m ((c : Thread nD τ).loc main_arg13))
  have h := out_same m ρ h0.symm h1.symm h2.symm h3.symm h4.symm
  refine ((W10_arr m ρ c 5).trans (out_result h)).trans ((Cert.Kernel2Ideal.Out.final a c).trans ?_)
  rw [h0, h1, h2, h3, h4, hy, modulations]
  rfl

end Cert.Kernel7Ideal.Layer

namespace Cert.Kernel7Ideal.Run
open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run of the whole layer: it leaves what the last call writes, and its arguments as they were. -/
theorem run : θ_run defs (onTc (τ := τ) (main (F := Ideal))) ⟨m, fun _ => 0, ρ⟩ (fun r => ∀ c : Dev nD,
      r.2.mem ((c.tc : Thread nD τ).loc main_v63) = W10 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ => fun c =>
      ⟨h c _ (mem_uc main_v63 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c)⟩)

end Cert.Kernel7Ideal.Run
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel2
public import proofs.«01_k».proof.Proof.Gen.Kernel2.Frame
public import proofs.«01_k».proof.Proof.Gen.Kernel2Ideal.Frame
public import proofs.«01_k».proof.Proof.Gen.Kernel3
public import proofs.«01_k».proof.Proof.Gen.Kernel3.Frame
public import proofs.«01_k».proof.Proof.Gen.Kernel3Ideal.Frame
public import proofs.«01_k».proof.Proof.Gen.Kernel4
public import proofs.«01_k».proof.Proof.Gen.Kernel4.Frame
public import proofs.«01_k».proof.Proof.Gen.Kernel4Ideal.Frame
public import proofs.«01_k».proof.Proof.Gen.Kernel5
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.OnlineBits
public import proofs.«01_k».proof.Proof.OnlineFinal
public import proofs.«01_k».proof.Proof.Gen.Kernel7
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Reference7Ideal.Read
public import proofs.«01_k».proof.Proof.RefAttn
public import proofs.«01_k».proof.Proof.Layers
public import proofs.«01_k».proof.Proof.JoinFinal
public import Idealize.ShloMosaic.Adequacy
public import Idealize.ShloMosaic.Init

@[expose] public section

noncomputable section

namespace Cert.Proof

open Idealize.ShloMosaic Idealize.SL.Sem

/-- The side conditions of the precondition's operations. -/
instance preFacts : Cert.Pre_finite_qk.Facts where
  bitsLt_bf16_f32 := by decide
  bcast_S_S8x8192x2048 := by decide
  bcast_S_S8x8448x512 := by decide

/-- A number whose absolute value is below infinity is real. -/
theorem real_of_abs_lt (x : EReal) (h : Ideal.cmp .olt (max x (-x)) (Ideal.ofBits .f32 0x7F800000#32) = 1#1) : x = (x.toReal : EReal) := by
  have htop : Ideal.ofBits .f32 0x7F800000#32 = ⊤ := by simp [Ideal.ofBits, Ideal.ieee]
  rw [htop] at h
  induction x with
  | bot => simp [Ideal.cmp] at h
  | top => simp [Ideal.cmp] at h
  | coe r => rfl

/-- Under the precondition every query and every key is real. -/
theorem finite_of_pre (q : FVec Ideal Cert.Pre_finite_qk.S8x8192x2048 .bf16) (k v : FVec Ideal Cert.Pre_finite_qk.S8x8448x512 .bf16)
    (z : FVec Ideal Cert.Pre_finite_qk.S8x8192x2048 .bf16)
    (h : (Cert.Pre_finite_qk.fn (F := Ideal) q k v z).1 = (fun _ => 1#1) ∧ (Cert.Pre_finite_qk.fn (F := Ideal) q k v z).2 = (fun _ => 1#1)) :
    Cert.ReferenceIdeal.Attn.Finite q ∧ Cert.ReferenceIdeal.Attn.Finite k :=
  ⟨fun i => real_of_abs_lt (q i) (congrFun h.1 i), fun i => real_of_abs_lt (k i) (congrFun h.2 i)⟩

/-- The reference runs and leaves its arguments and counters as they were. -/
theorem reference_frame : Cert.quiescent_ReferenceIdeal := fun m g _ =>
  (θ_run (Cert.ReferenceIdeal.defs (F := Ideal)) _ _).mono
    (fun r h => ⟨fun c => (h c).2, sem_eq_zero_of_no_sems (by decide) r.2⟩) (Cert.ReferenceIdeal.Value.run (F := Ideal) m g)

/-- The value claim. -/
theorem value : Cert.algebraic_KernelIdeal_ReferenceIdeal_pre_finite_qk := by
  intro m g m' g' hpre hargs
  refine ⟨fun c => (Cert.KernelIdeal.Gen.dats m 0 c).arrAt 4 Cert.KernelIdeal.cfg0.N, Cert.KernelIdeal.Value.run_blocks m g, ?_⟩
  refine (θ_run (Cert.ReferenceIdeal.defs (F := Ideal)) _ _).mono (fun r h c => ⟨((h c).1.trans (Cert.ReferenceIdeal.Read.val_main_v28_eq _ _ _ _)).trans ?_, (h c).2⟩)
    (Cert.ReferenceIdeal.Value.run (F := Ideal) m' g')
  obtain ⟨h0, h1, h2, h3⟩ := hargs c
  obtain ⟨hq, hk⟩ := finite_of_pre _ _ _ _ (hpre c)
  refine Eq.trans ?_ (Cert.KernelIdeal.Attn.final m c).symm
  rw [h0, h1, h2, h3]
  exact Cert.ReferenceIdeal.Attn.reference_eq _ _ _ _ hq hk

/-- The general attention call's value claim, against the same reference. -/
theorem value6 : Cert.algebraic_Kernel6Ideal_ReferenceIdeal_pre_finite_qk := by
  intro m g m' g' hpre hargs
  refine ⟨fun c => (Cert.Kernel6Ideal.Online.dats m 0 c).arrAt 4 Cert.Kernel6Ideal.cfg0.N, Cert.Kernel6Ideal.Online.run_blocks m g, ?_⟩
  refine (θ_run (Cert.ReferenceIdeal.defs (F := Ideal)) _ _).mono (fun r h c => ⟨((h c).1.trans (Cert.ReferenceIdeal.Read.val_main_v28_eq _ _ _ _)).trans ?_, (h c).2⟩)
    (Cert.ReferenceIdeal.Value.run (F := Ideal) m' g')
  obtain ⟨h0, h1, h2, h3⟩ := hargs c
  obtain ⟨hq, hk⟩ := finite_of_pre _ _ _ _ (hpre c)
  refine Eq.trans ?_ (Cert.Kernel6Ideal.Online.final m c hq hk).symm
  rw [h0, h1, h2, h3]
  exact Cert.ReferenceIdeal.Attn.reference_eq _ _ _ _ hq hk

/-- The side conditions of the layer's precondition's operations. -/
instance gainFacts : Cert.Pre_finite_gains.Facts where
  bcast_S_S128 := by decide

/-- Under the layer's precondition every gain of the queries and of the keys is real. -/
theorem finite_of_gains (x : FVec Ideal Cert.Pre_finite_gains.S8x8192x1024 .f32) (v : FVec Ideal Cert.Pre_finite_gains.S8x1024 .f32) (ctx : FVec Ideal Cert.Pre_finite_gains.S8x256x1024 .f32)
    (u : FVec Ideal Cert.Pre_finite_gains.S1024 .f32) (lw : FVec Ideal Cert.Pre_finite_gains.S1024x3072 .f32) (lb : FVec Ideal Cert.Pre_finite_gains.S3072 .f32)
    (g : FVec Ideal Cert.Pre_finite_gains.S1024 .f32) (aw : FVec Ideal Cert.Pre_finite_gains.S1024x3072 .f32) (ab : FVec Ideal Cert.Pre_finite_gains.S3072 .f32) (w : FVec Ideal Cert.Pre_finite_gains.S1024x5120 .f32)
    (qg kg : FVec Ideal Cert.Pre_finite_gains.S128 .f32) (wo : FVec Ideal Cert.Pre_finite_gains.S2048x1024 .f32) (fg : FVec Ideal Cert.Pre_finite_gains.S1024 .f32)
    (h : (Cert.Pre_finite_gains.fn (F := Ideal) x v ctx u lw lb g aw ab w qg kg wo fg).1 = (fun _ => 1#1) ∧ (Cert.Pre_finite_gains.fn (F := Ideal) x v ctx u lw lb g aw ab w qg kg wo fg).2 = (fun _ => 1#1)) :
    (∀ i, Cert.Rows.IsReal (qg i)) ∧ (∀ i, Cert.Rows.IsReal (kg i)) :=
  ⟨fun i => ⟨_, real_of_abs_lt (qg i) (congrFun h.1 i)⟩, fun i => ⟨_, real_of_abs_lt (kg i) (congrFun h.2 i)⟩⟩

/-- The whole layer's reference runs and leaves its arguments and counters as they were. -/
theorem frame7 : Cert.quiescent_Reference7Ideal := fun m g _ =>
  (θ_run (Cert.Reference7Ideal.defs (F := Ideal)) _ _).mono
    (fun r h => ⟨fun c => (h c).2, sem_eq_zero_of_no_sems (by decide) r.2⟩) (Cert.Reference7Ideal.Value.run (F := Ideal) m g)

/-- The whole layer's value claim. -/
theorem value7 : Cert.algebraic_Kernel7Ideal_Reference7Ideal_pre_finite_gains := by
  intro m g m' g' hpre hargs
  refine ⟨fun c => Cert.Kernel7Ideal.Gen.W10 m g c (Proc.devRef .tc Cert.Kernel7Ideal.main_v63), Cert.Kernel7Ideal.Run.run m g, ?_⟩
  refine (θ_run (Cert.Reference7Ideal.defs (F := Ideal)) _ _).mono (fun r h c => ⟨?_, (h c).2⟩) (Cert.Reference7Ideal.Value.run (F := Ideal) m' g')
  obtain ⟨h0, h1, h2, h3, h4, h5, h6, h7, h8, h9, h10, h11, h12, h13⟩ := hargs c
  obtain ⟨hq, hk⟩ := finite_of_gains _ _ _ _ _ _ _ _ _ _ _ _ _ _ (hpre c)
  refine ((h c).1.trans (Cert.Reference7Ideal.Read.val_main_v247_eq _)).trans ?_
  refine Eq.trans ?_ (Cert.Kernel7Ideal.Layer.final m g c).symm
  show Cert.Reference7Ideal.Read.val_main_v247 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg6)) (m' ((c.tc : Thread Cert.Reference7Ideal.nD Cert.Reference7Ideal.τ).loc Cert.Reference7Ideal.main_arg7)) (m' ((c.tc : Thread Cert.Reference7Ideal.nD Cert.Reference7Ideal.τ).loc Cert.Reference7Ideal.main_arg8)) (m' ((c.tc : Thread Cert.Reference7Ideal.nD Cert.Reference7Ideal.τ).loc Cert.Reference7Ideal.main_arg9)) (m' ((c.tc : Thread Cert.Reference7Ideal.nD Cert.Reference7Ideal.τ).loc Cert.Reference7Ideal.main_arg10)) (m' ((c.tc : Thread Cert.Reference7Ideal.nD Cert.Reference7Ideal.τ).loc Cert.Reference7Ideal.main_arg11)) (m' ((c.tc : Thread Cert.Reference7Ideal.nD Cert.Reference7Ideal.τ).loc Cert.Reference7Ideal.main_arg12)) (m' ((c.tc : Thread Cert.Reference7Ideal.nD Cert.Reference7Ideal.τ).loc Cert.Reference7Ideal.main_arg13)) = _
  rw [h0, h1, h2, h3, h6, h7, h8, h9, h10, h11, h12, h13]
  exact Cert.Kernel7Ideal.Layer.reference_result _ _ _ _ _ _ _ _ _ _ _ _ hq hk

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts,
  Cert.Kernel7.Gen.facts, Cert.Kernel7Ideal.Gen.facts, Cert.Reference7Ideal.Gen.facts, preFacts, gainFacts,
  fun m g _ => Cert.Kernel.Gen.frame m g, fun m g _ => Cert.KernelIdeal.Gen.frame m g, fun m g _ => Cert.KernelIdeal.Gen.frame m g,
  reference_frame, fun m g _ => reference_frame m g trivial,
  fun m g _ => Cert.Kernel2.Gen.frame m g, fun m g _ => Cert.Kernel2Ideal.Gen.frame m g, Cert.Layers.frame2,
  fun m g _ => Cert.Kernel3.Gen.frame m g, fun m g _ => Cert.Kernel3Ideal.Gen.frame m g, Cert.Layers.frame3,
  fun m g _ => Cert.Kernel4.Gen.frame m g, fun m g _ => Cert.Kernel4Ideal.Gen.frame m g, Cert.Layers.frame4,
  fun m g _ => Cert.Kernel5.Gen.frame m g, fun m g _ => Cert.Kernel5Ideal.Gen.frame m g, Cert.Layers.frame5,
  fun m g _ => Cert.Kernel6.Online.framed m g, fun m g _ => Cert.Kernel6Ideal.Online.framed m g, fun m g _ => Cert.Kernel6Ideal.Online.framed m g,
  fun m g _ => Cert.Kernel7.Gen.frame m g, fun m g _ => Cert.Kernel7Ideal.Gen.frame m g, fun m g _ => Cert.Kernel7Ideal.Gen.frame m g,
  frame7, fun m g _ => frame7 m g trivial,
  trivial, value, trivial, Cert.Layers.value2, trivial, Cert.Layers.value3, trivial, Cert.Layers.value4, trivial, Cert.Layers.value5, trivial, value6,
  trivial, value7⟩

end Cert.Proof

end
